-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50x320 : Shape := ⟨2, ![50, 320]⟩
abbrev S40x256x8 : Shape := ⟨3, ![40, 256, 8]⟩
abbrev S1048576x40 : Shape := ⟨2, ![1048576, 40]⟩
abbrev S50x1048576 : Shape := ⟨2, ![50, 1048576]⟩
abbrev S4x12x64x256 : Shape := ⟨4, ![4, 12, 64, 256]⟩
abbrev S4096x40 : Shape := ⟨2, ![4096, 40]⟩
abbrev S50x4096 : Shape := ⟨2, ![50, 4096]⟩
abbrev S1x12x64x256 : Shape := ⟨4, ![1, 12, 64, 256]⟩
abbrev S24x16x128 : Shape := ⟨3, ![24, 16, 128]⟩
abbrev S16x128 : Shape := ⟨2, ![16, 128]⟩
abbrev S1x16x128 : Shape := ⟨3, ![1, 16, 128]⟩
abbrev S64x128 : Shape := ⟨2, ![64, 128]⟩
abbrev S256x128 : Shape := ⟨2, ![256, 128]⟩
abbrev S64x256 : Shape := ⟨2, ![64, 256]⟩
abbrev S256x40 : Shape := ⟨2, ![256, 40]⟩
abbrev S256x88 : Shape := ⟨2, ![256, 88]⟩
abbrev S50x256 : Shape := ⟨2, ![50, 256]⟩
abbrev S14x256 : Shape := ⟨2, ![14, 256]⟩
abbrev S256x256 : Shape := ⟨2, ![256, 256]⟩
abbrev S1x1x64x256 : Shape := ⟨4, ![1, 1, 64, 256]⟩
abbrev S4x12x50x256 : Shape := ⟨4, ![4, 12, 50, 256]⟩
abbrev S4x12x50x2x128 : Shape := ⟨5, ![4, 12, 50, 2, 128]⟩
abbrev S4x12x50x2x120 : Shape := ⟨5, ![4, 12, 50, 2, 120]⟩
abbrev S4x12x50x2x3x40 : Shape := ⟨6, ![4, 12, 50, 2, 3, 40]⟩
abbrev S50x40x4x12x2x3 : Shape := ⟨6, ![50, 40, 4, 12, 2, 3]⟩
abbrev S50x40x288 : Shape := ⟨3, ![50, 40, 288]⟩
abbrev S50x40x256 : Shape := ⟨3, ![50, 40, 256]⟩
abbrev S40x50x256 : Shape := ⟨3, ![40, 50, 256]⟩
abbrev S50x40x8 : Shape := ⟨3, ![50, 40, 8]⟩
abbrev S40x50x8 : Shape := ⟨3, ![40, 50, 8]⟩
abbrev S1x50x256 : Shape := ⟨3, ![1, 50, 256]⟩
abbrev S1x256x8 : Shape := ⟨3, ![1, 256, 8]⟩
abbrev S1x50x8 : Shape := ⟨3, ![1, 50, 8]⟩
abbrev S256x8 : Shape := ⟨2, ![256, 8]⟩
abbrev S50x8 : Shape := ⟨2, ![50, 8]⟩
abbrev S50 : Shape := ⟨1, ![50]⟩
abbrev S50x1 : Shape := ⟨2, ![50, 1]⟩
abbrev S50x9 : Shape := ⟨2, ![50, 9]⟩
abbrev S256x9 : Shape := ⟨2, ![256, 9]⟩
abbrev S256x1 : Shape := ⟨2, ![256, 1]⟩

abbrev nBuf : Space → Nat
  | .hbm => 19
  | .vmem => 17
  | .smem => 0
  | _ => 0

abbrev bufTy : (tb : Table) → Fin (tcTables nBuf tb) → BufTy
  | .hbm, ⟨0, _⟩ => ⟨S50x320, .bf16⟩
  | .hbm, ⟨1, _⟩ => ⟨S40x256x8, .f32⟩
  | .hbm, ⟨2, _⟩ => ⟨S1048576x40, .i8⟩
  | .hbm, ⟨3, _⟩ => ⟨S50x1048576, .bf16⟩
  | .hbm, ⟨4, _⟩ => ⟨S4x12x64x256, .f32⟩
  | .hbm, ⟨5, _⟩ => ⟨S4x12x50x256, .f32⟩
  | .hbm, ⟨6, _⟩ => ⟨S4x12x50x2x128, .f32⟩
  | .hbm, ⟨7, _⟩ => ⟨S4x12x50x2x120, .f32⟩
  | .hbm, ⟨8, _⟩ => ⟨S4x12x50x2x3x40, .f32⟩
  | .hbm, ⟨9, _⟩ => ⟨S50x40x4x12x2x3, .f32⟩
  | .hbm, ⟨10, _⟩ => ⟨S50x40x288, .f32⟩
  | .hbm, ⟨11, _⟩ => ⟨S50x40x256, .f32⟩
  | .hbm, ⟨12, _⟩ => ⟨S40x50x256, .f32⟩
  | .hbm, ⟨13, _⟩ => ⟨S50x40x8, .bf16⟩
  | .hbm, ⟨14, _⟩ => ⟨S40x50x8, .bf16⟩
  | .hbm, ⟨15, _⟩ => ⟨S40x50x8, .bf16⟩
  | .hbm, ⟨16, _⟩ => ⟨S40x256x8, .f32⟩
  | .hbm, ⟨17, _⟩ => ⟨S50x40x8, .bf16⟩
  | .hbm, ⟨18, _⟩ => ⟨S50x320, .bf16⟩
  | .local _ .vmem, ⟨0, _⟩ => ⟨S4096x40, .i8⟩
  | .local _ .vmem, ⟨1, _⟩ => ⟨S4096x40, .i8⟩
  | .local _ .vmem, ⟨2, _⟩ => ⟨S50x4096, .bf16⟩
  | .local _ .vmem, ⟨3, _⟩ => ⟨S50x4096, .bf16⟩
  | .local _ .vmem, ⟨4, _⟩ => ⟨S1x12x64x256, .f32⟩
  | .local _ .vmem, ⟨5, _⟩ => ⟨S1x12x64x256, .f32⟩
  | .local _ .vmem, ⟨6, _⟩ => ⟨S24x16x128, .bf16⟩
  | .local _ .vmem, ⟨7, _⟩ => ⟨S1x50x256, .f32⟩
  | .local _ .vmem, ⟨8, _⟩ => ⟨S1x50x256, .f32⟩
  | .local _ .vmem, ⟨9, _⟩ => ⟨S1x256x8, .f32⟩
  | .local _ .vmem, ⟨10, _⟩ => ⟨S1x256x8, .f32⟩
  | .local _ .vmem, ⟨11, _⟩ => ⟨S1x50x8, .bf16⟩
  | .local _ .vmem, ⟨12, _⟩ => ⟨S1x50x8, .bf16⟩
  | .local _ .vmem, ⟨13, _⟩ => ⟨S1x50x8, .bf16⟩
  | .local _ .vmem, ⟨14, _⟩ => ⟨S1x50x8, .bf16⟩
  | .local _ .vmem, ⟨15, _⟩ => ⟨S1x256x8, .f32⟩
  | .local _ .vmem, ⟨16, _⟩ => ⟨S1x256x8, .f32⟩
  | _, _ => ⟨S50x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![4, 256], ![false, false]⟩

@[reducible] def k0_t1_loop : Scf.Loop 32 :=
  let c0_i32_7_r0 : BitVec 32 := 0#32
  let c4_i32_r0 : BitVec 32 := 4#32
  let v24_r0 : BitVec 32 := Scalar.addi c0_i32_7_r0 c4_i32_r0
  let c1_i32_8_r0 : BitVec 32 := 1#32
  ⟨c0_i32_7_r0, v24_r0, c1_i32_8_r0⟩
def k0_mult1 (k0_t1 : Fin k0_t1_loop.trips) : BitVec 32 :=
  let c0_i32_7_r0 : BitVec 32 := 0#32
  let c1_i32_8_r0 : BitVec 32 := 1#32
  let arg6_r0 : BitVec 32 := Scf.iv c0_i32_7_r0 c1_i32_8_r0 k0_t1
  let c4_i32_96_r0 : BitVec 32 := 4#32
  let v113_r0 : BitVec 32 := Scalar.muli arg6_r0 c4_i32_96_r0
  let c0_i32_97_r0 : BitVec 32 := 0#32
  let v114_r0 : BitVec 32 := Scalar.addi v113_r0 c0_i32_97_r0
  let c256_i32_r0 : BitVec 32 := 256#32
  let v115_r0 : BitVec 32 := Scalar.muli v114_r0 c256_i32_r0
  v115_r0
def k0_off1 (k0_t1 : Fin k0_t1_loop.trips) (c0_i32_97_r0 : BitVec 32) : Fin 2 → Nat :=
  let c0_i32_7_r0 : BitVec 32 := 0#32
  let c1_i32_8_r0 : BitVec 32 := 1#32
  let arg6_r0 : BitVec 32 := Scf.iv c0_i32_7_r0 c1_i32_8_r0 k0_t1
  let c4_i32_96_r0 : BitVec 32 := 4#32
  let v113_r0 : BitVec 32 := Scalar.muli arg6_r0 c4_i32_96_r0
  let v114_r0 : BitVec 32 := Scalar.addi v113_r0 c0_i32_97_r0
  let c256_i32_r0 : BitVec 32 := 256#32
  let v115_r0 : BitVec 32 := Scalar.muli v114_r0 c256_i32_r0
  let v116_r0 : BitVec 32 := v115_r0
  let v117_r0 : Index := Scalar.indexCast v116_r0
  let c0_98_r0 : Index := 0#32
  ![v117_r0.toNat, 0]
def k0_off2 (k0_t1 : Fin k0_t1_loop.trips) (c0_i32_97_r0 : BitVec 32) : Fin 2 → Nat :=
  let c0_103_r0 : Index := 0#32
  let c0_i32_7_r0 : BitVec 32 := 0#32
  let c1_i32_8_r0 : BitVec 32 := 1#32
  let arg6_r0 : BitVec 32 := Scf.iv c0_i32_7_r0 c1_i32_8_r0 k0_t1
  let c4_i32_96_r0 : BitVec 32 := 4#32
  let v113_r0 : BitVec 32 := Scalar.muli arg6_r0 c4_i32_96_r0
  let v114_r0 : BitVec 32 := Scalar.addi v113_r0 c0_i32_97_r0
  let c256_i32_r0 : BitVec 32 := 256#32
  let v115_r0 : BitVec 32 := Scalar.muli v114_r0 c256_i32_r0
  let v116_r0 : BitVec 32 := v115_r0
  let v132_r0 : Index := Scalar.indexCast v116_r0
  ![0, v132_r0.toNat]
def k0_mult2 (k0_t1 : Fin k0_t1_loop.trips) : BitVec 32 :=
  let c0_i32_7_r0 : BitVec 32 := 0#32
  let c1_i32_8_r0 : BitVec 32 := 1#32
  let arg6_r0 : BitVec 32 := Scf.iv c0_i32_7_r0 c1_i32_8_r0 k0_t1
  let c4_i32_165_r0 : BitVec 32 := 4#32
  let v268_r0 : BitVec 32 := Scalar.muli arg6_r0 c4_i32_165_r0
  let c1_i32_166_r0 : BitVec 32 := 1#32
  let v269_r0 : BitVec 32 := Scalar.addi v268_r0 c1_i32_166_r0
  let c256_i32_167_r0 : BitVec 32 := 256#32
  let v270_r0 : BitVec 32 := Scalar.muli v269_r0 c256_i32_167_r0
  v270_r0
def k0_mult3 (k0_t1 : Fin k0_t1_loop.trips) : BitVec 32 :=
  let c0_i32_7_r0 : BitVec 32 := 0#32
  let c1_i32_8_r0 : BitVec 32 := 1#32
  let arg6_r0 : BitVec 32 := Scf.iv c0_i32_7_r0 c1_i32_8_r0 k0_t1
  let c4_i32_248_r0 : BitVec 32 := 4#32
  let v423_r0 : BitVec 32 := Scalar.muli arg6_r0 c4_i32_248_r0
  let c2_i32_249_r0 : BitVec 32 := 2#32
  let v424_r0 : BitVec 32 := Scalar.addi v423_r0 c2_i32_249_r0
  let c256_i32_250_r0 : BitVec 32 := 256#32
  let v425_r0 : BitVec 32 := Scalar.muli v424_r0 c256_i32_250_r0
  v425_r0
def k0_mult4 (k0_t1 : Fin k0_t1_loop.trips) : BitVec 32 :=
  let c0_i32_7_r0 : BitVec 32 := 0#32
  let c1_i32_8_r0 : BitVec 32 := 1#32
  let arg6_r0 : BitVec 32 := Scf.iv c0_i32_7_r0 c1_i32_8_r0 k0_t1
  let c4_i32_331_r0 : BitVec 32 := 4#32
  let v578_r0 : BitVec 32 := Scalar.muli arg6_r0 c4_i32_331_r0
  let c3_i32_r0 : BitVec 32 := 3#32
  let v579_r0 : BitVec 32 := Scalar.addi v578_r0 c3_i32_r0
  let c256_i32_332_r0 : BitVec 32 := 256#32
  let v580_r0 : BitVec 32 := Scalar.muli v579_r0 c256_i32_332_r0
  v580_r0
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x40 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S50x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x12x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![40], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x50x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x50x8 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x50x8 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S50x320 : Shape := ⟨2, ![50, 320]⟩
abbrev S40x256x8 : Shape := ⟨3, ![40, 256, 8]⟩
abbrev S1048576x40 : Shape := ⟨2, ![1048576, 40]⟩
abbrev S50x1048576 : Shape := ⟨2, ![50, 1048576]⟩
abbrev S50 : Shape := ⟨1, ![50]⟩
abbrev S50x1x1 : Shape := ⟨3, ![50, 1, 1]⟩
abbrev S40 : Shape := ⟨1, ![40]⟩
abbrev S1x1x40 : Shape := ⟨3, ![1, 1, 40]⟩
abbrev S50x1048576x1 : Shape := ⟨3, ![50, 1048576, 1]⟩
abbrev S50x1048576x40 : Shape := ⟨3, ![50, 1048576, 40]⟩
abbrev S_ : Shape := ⟨0, ![]⟩
abbrev S50x40x256 : Shape := ⟨3, ![50, 40, 256]⟩
abbrev S1x1048576x40 : Shape := ⟨3, ![1, 1048576, 40]⟩
abbrev S50x1048576x40x1 : Shape := ⟨4, ![50, 1048576, 40, 1]⟩
abbrev S50x1048576x40x3 : Shape := ⟨4, ![50, 1048576, 40, 3]⟩
abbrev S50x40x8 : Shape := ⟨3, ![50, 40, 8]⟩
abbrev S50x40 : Shape := ⟨2, ![50, 40]⟩
abbrev S40x256 : Shape := ⟨2, ![40, 256]⟩
abbrev S40x8x50 : Shape := ⟨3, ![40, 8, 50]⟩
abbrev S50x40x1 : Shape := ⟨3, ![50, 40, 1]⟩
abbrev S40x256x1 : Shape := ⟨3, ![40, 256, 1]⟩

abbrev nBuf : Space → Nat
  | .hbm => 69
  | .vmem => 0
  | .smem => 0
  | _ => 0

abbrev bufTy : (tb : Table) → Fin (tcTables nBuf tb) → BufTy
  | .hbm, ⟨0, _⟩ => ⟨S50x320, .bf16⟩
  | .hbm, ⟨1, _⟩ => ⟨S40x256x8, .f32⟩
  | .hbm, ⟨2, _⟩ => ⟨S1048576x40, .i8⟩
  | .hbm, ⟨3, _⟩ => ⟨S50x1048576, .bf16⟩
  | .hbm, ⟨4, _⟩ => ⟨S50, .i32⟩
  | .hbm, ⟨5, _⟩ => ⟨S50x1x1, .i32⟩
  | .hbm, ⟨6, _⟩ => ⟨S40, .i32⟩
  | .hbm, ⟨7, _⟩ => ⟨S1x1x40, .i32⟩
  | .hbm, ⟨8, _⟩ => ⟨S1048576x40, .i32⟩
  | .hbm, ⟨9, _⟩ => ⟨S50x1048576, .f32⟩
  | .hbm, ⟨10, _⟩ => ⟨S50x1048576x1, .f32⟩
  | .hbm, ⟨11, _⟩ => ⟨S50x1048576x40, .f32⟩
  | .hbm, ⟨12, _⟩ => ⟨S_, .f32⟩
  | .hbm, ⟨13, _⟩ => ⟨S50x40x256, .f32⟩
  | .hbm, ⟨14, _⟩ => ⟨S1x1048576x40, .i32⟩
  | .hbm, ⟨15, _⟩ => ⟨S_, .i32⟩
  | .hbm, ⟨16, _⟩ => ⟨S50x1x1, .i32⟩
  | .hbm, ⟨17, _⟩ => ⟨S50x1x1, .i1⟩
  | .hbm, ⟨18, _⟩ => ⟨S_, .i32⟩
  | .hbm, ⟨19, _⟩ => ⟨S50x1x1, .i32⟩
  | .hbm, ⟨20, _⟩ => ⟨S50x1x1, .i32⟩
  | .hbm, ⟨21, _⟩ => ⟨S50x1x1, .i32⟩
  | .hbm, ⟨22, _⟩ => ⟨S_, .i32⟩
  | .hbm, ⟨23, _⟩ => ⟨S1x1x40, .i32⟩
  | .hbm, ⟨24, _⟩ => ⟨S1x1x40, .i1⟩
  | .hbm, ⟨25, _⟩ => ⟨S_, .i32⟩
  | .hbm, ⟨26, _⟩ => ⟨S1x1x40, .i32⟩
  | .hbm, ⟨27, _⟩ => ⟨S1x1x40, .i32⟩
  | .hbm, ⟨28, _⟩ => ⟨S1x1x40, .i32⟩
  | .hbm, ⟨29, _⟩ => ⟨S_, .i32⟩
  | .hbm, ⟨30, _⟩ => ⟨S1x1048576x40, .i32⟩
  | .hbm, ⟨31, _⟩ => ⟨S1x1048576x40, .i1⟩
  | .hbm, ⟨32, _⟩ => ⟨S_, .i32⟩
  | .hbm, ⟨33, _⟩ => ⟨S1x1048576x40, .i32⟩
  | .hbm, ⟨34, _⟩ => ⟨S1x1048576x40, .i32⟩
  | .hbm, ⟨35, _⟩ => ⟨S1x1048576x40, .i32⟩
  | .hbm, ⟨36, _⟩ => ⟨S50x1048576x40, .i32⟩
  | .hbm, ⟨37, _⟩ => ⟨S50x1048576x40, .i32⟩
  | .hbm, ⟨38, _⟩ => ⟨S50x1048576x40, .i32⟩
  | .hbm, ⟨39, _⟩ => ⟨S50x1048576x40x1, .i32⟩
  | .hbm, ⟨40, _⟩ => ⟨S50x1048576x40x1, .i32⟩
  | .hbm, ⟨41, _⟩ => ⟨S50x1048576x40x1, .i32⟩
  | .hbm, ⟨42, _⟩ => ⟨S50x1048576x40x3, .i32⟩
  | .hbm, ⟨43, _⟩ => ⟨S50x40x256, .f32⟩
  | .hbm, ⟨44, _⟩ => ⟨S50x320, .f32⟩
  | .hbm, ⟨45, _⟩ => ⟨S50x40x8, .f32⟩
  | .hbm, ⟨46, _⟩ => ⟨S_, .f32⟩
  | .hbm, ⟨47, _⟩ => ⟨S50x40, .f32⟩
  | .hbm, ⟨48, _⟩ => ⟨S_, .f32⟩
  | .hbm, ⟨49, _⟩ => ⟨S40x256, .f32⟩
  | .hbm, ⟨50, _⟩ => ⟨S40x8x50, .f32⟩
  | .hbm, ⟨51, _⟩ => ⟨S50x40x8, .f32⟩
  | .hbm, ⟨52, _⟩ => ⟨S50x40x1, .f32⟩
  | .hbm, ⟨53, _⟩ => ⟨S50x40x8, .f32⟩
  | .hbm, ⟨54, _⟩ => ⟨S50x40x8, .f32⟩
  | .hbm, ⟨55, _⟩ => ⟨S50x40x8, .f32⟩
  | .hbm, ⟨56, _⟩ => ⟨S_, .f32⟩
  | .hbm, ⟨57, _⟩ => ⟨S50x40x8, .f32⟩
  | .hbm, ⟨58, _⟩ => ⟨S50x40x8, .f32⟩
  | .hbm, ⟨59, _⟩ => ⟨S50x320, .f32⟩
  | .hbm, ⟨60, _⟩ => ⟨S50x320, .bf16⟩
  | .hbm, ⟨61, _⟩ => ⟨S40x256x8, .f32⟩
  | .hbm, ⟨62, _⟩ => ⟨S40x256x1, .f32⟩
  | .hbm, ⟨63, _⟩ => ⟨S40x256x8, .f32⟩
  | .hbm, ⟨64, _⟩ => ⟨S40x256x8, .f32⟩
  | .hbm, ⟨65, _⟩ => ⟨S40x256x8, .f32⟩
  | .hbm, ⟨66, _⟩ => ⟨S_, .f32⟩
  | .hbm, ⟨67, _⟩ => ⟨S40x256x8, .f32⟩
  | .hbm, ⟨68, _⟩ => ⟨S40x256x8, .f32⟩
  | _, _ => ⟨S50x320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Proof.Kernel.Hist.lean ====
/-
  THE HISTOGRAM KERNEL'S MATRIX-UNIT STATE (`cc0_hist`), as a function of the values loaded: one chunk of 256 vectors
  pushes twelve tiles of matches and accumulates the chunk's weights against each, into the tile's own rows.
-/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Mxu.PassChain
public import Idealize.ShloMosaic.Lib.Pipeline.FrameBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One pattern row block (16 rows, one centroid number per lane) stacked sixteen times: 256 equal rows. -/
def stacked (p : Vec F S1x16x128 .bf16) : FVec F S256x128 .bf16 := k0_pay30 p

/-- The tile pushed for two pattern blocks: one where a vector's code equals the pattern's number, else zero, the two
    blocks' matches side by side. -/
def tile (code : FVec F S256x128 .bf16) (p₀ p₁ : Vec F S1x16x128 .bf16) : FVec F S256x256 .bf16 :=
  k0_pay99 code (select (cmpf .oeq code (stacked p₀)) (k0_pay97 (F := F)) (k0_pay98 (F := F))) p₁

theorem fitsT (t : Fin 12) : Mxu.Fits (16 * (t.val / 2)) 64 := by
  revert t; decide

/-- Tile `t`'s step: its tile pushed into its register, the weights accumulated at its address. -/
def tileStep (code : FVec F S256x128 .bf16) (w : FVec F S64x256 .bf16) (pat : Fin 24 → Vec F S1x16x128 .bf16) (s : Mxu F) (t : Fin 12) : Mxu F :=
  Mxu.pushAcc ⟨t.val % 2, Nat.mod_lt _ (by decide)⟩ ⟨t.val / 2 % 2, Nat.mod_lt _ (by decide)⟩ false (16 * (t.val / 2)) (fitsT t) s
    (tile code (pat ⟨2 * t.val, by omega⟩) (pat ⟨2 * t.val + 1, by omega⟩)) w

/-- One chunk: the twelve tiles' steps in order. -/
def chunkStep (pat : Fin 24 → Vec F S1x16x128 .bf16) (s : Mxu F) (cw : FVec F S256x128 .bf16 × FVec F S64x256 .bf16) : Mxu F :=
  [0, 1, 2, 3, 4, 5, 6, 7, 8, 9, 10, 11].foldl (tileStep cw.1 cw.2 pat) s

/-- A push and the accumulate loading it, on equal operands, is the tile's step. -/
theorem tileStep_eq {code : FVec F S256x128 .bf16} {w : FVec F S64x256 .bf16} {pat : Fin 24 → Vec F S1x16x128 .bf16} {s : Mxu F} {t : Fin 12}
    {s' : Mxu F} {v : FVec F S256x256 .bf16} {w' : FVec F S64x256 .bf16} (hs : s = s')
    (hv : tile code (pat ⟨2 * t.val, by omega⟩) (pat ⟨2 * t.val + 1, by omega⟩) = v) (hw : w = w') :
    tileStep code w pat s t = (s'.pushed ⟨t.val % 2, Nat.mod_lt _ (by decide)⟩ ⟨t.val / 2 % 2, Nat.mod_lt _ (by decide)⟩ false v).accLhs
      ⟨t.val % 2, Nat.mod_lt _ (by decide)⟩ ⟨t.val / 2 % 2, Nat.mod_lt _ (by decide)⟩ (16 * (t.val / 2)) w' (fitsT t) := by
  subst hs hv hw; rfl

/-- Every staging register of the unit is empty. -/
def Empty (s : Mxu F) : Prop := ∀ q r, s.reg q r = none

theorem Empty.pushOk {s : Mxu F} (h : Empty s) (q r : Fin 2) (tr : Bool) : s.PushOk q r tr :=
  Mxu.pushOk_of_none _ _ _ _ (h q r)

/-- A push at once accumulated from leaves the registers empty. -/
theorem Empty.acc {s : Mxu F} (h : Empty s) (q r : Fin 2) (tr : Bool) (v : FVec F (Mxu.STile 256) .bf16) (A : ℕ) (w : FVec F (Mxu.STile 64) .bf16)
    (hf : Mxu.Fits A 64) : Empty ((s.pushed q r tr v).accLhs q r A w hf) := by
  intro q' r'
  by_cases e : q' = q ∧ r' = r
  · obtain ⟨rfl, rfl⟩ := e; exact Mxu.reg_accLhs _ _ _ _ _ _
  · exact (Mxu.reg_accLhs_ne (hne := e) ..).trans ((Mxu.reg_pushed_ne (hne := e) ..).trans (h q' r'))

theorem Empty.foldl {α : Type} (g : Mxu F → α → Mxu F) (hg : ∀ s a, Empty s → Empty (g s a)) : ∀ (l : List α) (s : Mxu F), Empty s → Empty (l.foldl g s)
  | [], _, h => h
  | a :: l, s, h => Empty.foldl g hg l _ (hg s a h)

theorem Empty.chunk {s : Mxu F} (h : Empty s) (pat : Fin 24 → Vec F S1x16x128 .bf16) (cw) : Empty (chunkStep pat s cw) :=
  Empty.foldl _ (fun _ _ h => Empty.acc h _ _ _ _ _ _ _) _ _ h

/-- The lane numbers of a block of packed codes. -/
def laneOf : IVec S64x128 32 := iota .tc S64x128 32 [1] iota_S64x128_d1_w32

theorem inbPat (j : Fin 24) : ∀ a, (![j.val, 0, 0] : Fin 3 → ℕ) a + S1x16x128.size a ≤ S24x16x128.size a := by
  revert j; decide

/-- Pattern block `j` as the kernel loads it. -/
def patOf (x5 : Vec F S24x16x128 .bf16) (j : Fin 24) : Vec F S1x16x128 .bf16 :=
  View.ld (Val := Elt F) (e' := .bf16) x5 (Rect.unit (s := S24x16x128) ![j.val, 0, 0] S1x16x128.size (inbPat j))

/-- Chunk `u` of trip `k`: the codes spread over the lanes, and the weights padded to 64 rows. -/
def chunkOf (x2 : Vec F S4096x40 .i8) (x3 : Vec F S50x4096 .bf16) (k : Fin k0_t1_loop.trips) (u : Fin 4) :
    FVec F S256x128 .bf16 × FVec F S64x256 .bf16 :=
  (k0_pay27 laneOf (View.ld (Val := Elt F) (e' := .i8) x2 (Rect.unit (s := S4096x40) (k0_off1 k (BitVec.ofNat 32 u.val)) S256x40.size (k0_off1_inb k u))),
   k0_pay28 (View.ld (Val := Elt F) (e' := .bf16) x3 (Rect.unit (s := S50x4096) (k0_off2 k (BitVec.ofNat 32 u.val)) S50x256.size (k0_off2_inb k u))))

/-- One trip of the loop: four chunks. -/
def tripStep (x2 : Vec F S4096x40 .i8) (x3 : Vec F S50x4096 .bf16) (x5 : Vec F S24x16x128 .bf16) (s : Mxu F) (k : Fin k0_t1_loop.trips) : Mxu F :=
  [0, 1, 2, 3].foldl (fun s u => chunkStep (patOf x5) s (chunkOf x2 x3 k u)) s

/-- The unit's state before trip `k`, from `s`. -/
def stateTo (x2 : Vec F S4096x40 .i8) (x3 : Vec F S50x4096 .bf16) (x5 : Vec F S24x16x128 .bf16) (s : Mxu F) : ℕ → Mxu F
  | 0 => s
  | k + 1 => if h : k < k0_t1_loop.trips then tripStep x2 x3 x5 (stateTo x2 x3 x5 s k) ⟨k, h⟩ else stateTo x2 x3 x5 s k

theorem Empty.trip {x2 : Vec F S4096x40 .i8} {x3 : Vec F S50x4096 .bf16} {x5 : Vec F S24x16x128 .bf16} {s : Mxu F} (h : Empty s) (k) :
    Empty (tripStep x2 x3 x5 s k) :=
  Empty.foldl _ (fun _ _ h => h.chunk _ _) _ _ h

theorem Empty.stateTo {x2 : Vec F S4096x40 .i8} {x3 : Vec F S50x4096 .bf16} {x5 : Vec F S24x16x128 .bf16} {s : Mxu F} (h : Empty s) :
    ∀ k, Empty (stateTo x2 x3 x5 s k)
  | 0 => h
  | k + 1 => by
    unfold Kernel.stateTo
    split
    · exact Empty.trip (Empty.stateTo h k) _
    · exact Empty.stateTo h k

section Trip

variable (c : Dev nD) (i : grid0.Coords) (arg2 : Memref sig .tc .vmem S4096x40 .i8) (harg2 : arg2.IsWhole)
  (arg3 : Memref sig .tc .vmem S50x4096 .bf16) (harg3 : arg3.IsWhole) (arg4 : Memref sig .tc .vmem S1x12x64x256 .f32) (harg4 : arg4.IsWhole)
  (arg5 : Memref sig .tc .vmem S24x16x128 .bf16) (harg5 : arg5.IsWhole)
  (f2 : Buf (Elt F) (arg2.view.loc (c : Thread nD τ))) (f3 : Buf (Elt F) (arg3.view.loc (c : Thread nD τ)))
  (f5 : Buf (Elt F) (arg5.view.loc (c : Thread nD τ)))

local notation "𝕄" => MT nD τ sig Unit (Elt F) ℕ (UR sig nD τ) ℕ

/-- What a trip reads, held: the codes, the weights and the patterns. -/
abbrev heldT : sProp 𝕄 :=
  iprop((arg2.view.loc (c : Thread nD τ) ↦[arg2.view.set]{fullShare} f2) ∗ (arg3.view.loc (c : Thread nD τ) ↦[arg3.view.set]{fullShare} f3)
    ∗ (arg5.view.loc (c : Thread nD τ) ↦[arg5.view.set]{fullShare} f5))

set_option maxHeartbeats 1000000 in
theorem trip_wp (k : Fin k0_t1_loop.trips) (s : Mxu F) (hs : Empty s) :
    (heldT c arg2 arg3 arg5 f2 f3 f5 : sProp 𝕄)
      ⊢ wp frame (wpE (defs₀ (F := F)) Variants.none (c : Thread nD τ) none) Set.univ
          (k0_t1_body (F := F) i arg2 harg2 arg3 harg3 arg4 harg4 arg5 harg5 laneOf k (0#32, s))
          (fun a => iprop(⌜a = (0#32, tripStep (arg2.view.read (Elt F) f2) (arg3.view.read (Elt F) f3) (arg5.view.read (Elt F) f5) s k)⌝ ∗ heldT c arg2 arg3 arg5 f2 f3 f5)) := by
  unfold k0_t1_body
  simp only [k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton,
    k0_part22_eq_skeleton, k0_part23_eq_skeleton]
  unfold heldT
  iintro ⟨H2, H3, H5⟩
  sl_exec (disch := exact Empty.pushOk (by repeat' first | exact hs | apply Empty.acc) _ _ _)
  sl_step
  isplitr
  · ipureintro
    refine congrArg (Prod.mk 0#32) (Eq.symm ?_)
    simp only [tripStep, chunkStep, List.foldl]
    iterate 48 (refine tileStep_eq ?_ ?_ ?_; rotate_left; exact rfl; exact rfl)
    rfl
  isplitl [H2]; · iexact H2
  isplitl [H3]; · iexact H3
  iexact H5

set_option warn.classDefReducibility false in
/-- The loop's invariant: the unit's state before trip `k` is `stateTo` from the state at entry, whose registers are
    empty; what the trips read is held unchanged. -/
@[sl_loop] def loopInv (init : BitVec 32 × Mxu F) :
    LoopInvTy_k0_t1 (F := F) Unit ℕ (UR sig nD τ) ℕ Variants.none c none Set.univ i arg2 harg2 arg3 harg3 arg4 harg4 arg5 harg5 laneOf init where
  inv k acc := iprop(⌜Empty init.2⌝ ∗ ⌜acc = (0#32, stateTo (arg2.view.read (Elt F) f2) (arg3.view.read (Elt F) f3) (arg5.view.read (Elt F) f5) init.2 k)⌝ ∗ heldT c arg2 arg3 arg5 f2 f3 f5)
  step k acc := by
    iintro ⟨%h0, %h, H⟩
    obtain rfl := h
    iapply (wp_wand_r Idealize.ShloMosaic.frame (wpE (defs₀ (F := F)) Variants.none (c : Thread nD τ) none) Set.univ)
    isplitl [H]
    · iapply (trip_wp c i arg2 harg2 arg3 harg3 arg4 harg4 arg5 harg5 f2 f3 f5 k _ (Empty.stateTo h0 k))
      iexact H
    · iintro %a ⟨%ha, H⟩
      isplitr; · ipureintro; exact h0
      isplitr
      · ipureintro; refine ha.trans ?_
        rw [stateTo, dif_pos k.isLt]
      · iexact H

end Trip

end Cert.Proof.Kernel
-- ==== Proof.Kernel.HistMxu.lean ====
/-
  WHAT THE MATRIX UNIT HOLDS after a grid step of the histogram kernel: each tile's rows are the sum of the sixteen
  chunks' passes; popping the twelve tiles drains the unit.
-/
module

public import proofs.«01_k».proof.Proof.Kernel.Hist

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The unit tile `t` accumulates in. -/
abbrev unitT (t : Fin 12) : Fin 2 := ⟨t.val % 2, Nat.mod_lt _ (by decide)⟩

/-- Popping tile `t`'s rows. -/
def popTile (s : Mxu F) (t : Fin 12) : Mxu F := s.pop (unitT t) (16 * (t.val / 2)) 64 (fitsT t)

/-- Tile `t`'s rows as the state holds them. -/
def readTile (s : Mxu F) (t : Fin 12) : FVec F S64x256 .f32 := s.read (unitT t) (16 * (t.val / 2)) (fitsT t)

/-- Tile `t`'s rows are all live, or none is. -/
def LiveTile (s : Mxu F) (t : Fin 12) (b : Bool) : Prop := ∀ r : Fin 64, s.live (unitT t) (Mxu.row (fitsT t) r) = b

/-- Only the twelve tiles' rows are live. -/
def Within (s : Mxu F) : Prop := ∀ q R, s.live q R = true → R.val < 384

theorem Within.step {s : Mxu F} (h : Within s) (code : FVec F S256x128 .bf16) (w : FVec F S64x256 .bf16) (pat : Fin 24 → Vec F S1x16x128 .bf16)
    (t : Fin 12) : Within (tileStep code w pat s t) := by
  intro q' R hR
  unfold tileStep Mxu.pushAcc at hR
  rw [Mxu.live_accLhs, Mxu.live_pushed] at hR
  have ht := t.isLt
  split at hR
  · next hc => omega
  · exact h _ _ hR

theorem Within.foldl {α : Type} (g : Mxu F → α → Mxu F) (hg : ∀ s a, Within s → Within (g s a)) : ∀ (l : List α) (s : Mxu F), Within s → Within (l.foldl g s)
  | [], _, h => h
  | a :: l, s, h => Within.foldl g hg l _ (hg s a h)

theorem Within.chunk {s : Mxu F} (h : Within s) (pat : Fin 24 → Vec F S1x16x128 .bf16) (cw) : Within (chunkStep pat s cw) :=
  Within.foldl _ (fun _ t h => Within.step h _ _ _ t) _ _ h

theorem Within.stateTo {x2 : Vec F S4096x40 .i8} {x3 : Vec F S50x4096 .bf16} {x5 : Vec F S24x16x128 .bf16} {s : Mxu F} (h : Within s) :
    ∀ k, Within (stateTo x2 x3 x5 s k)
  | 0 => h
  | k + 1 => by
    unfold Kernel.stateTo
    split
    · exact Within.foldl _ (fun _ _ h => h.chunk _ _) _ _ (Within.stateTo h k)
    · exact Within.stateTo h k

/-- What popping a list of tiles leaves live: rows live before, of no tile popped. -/
theorem live_pops : ∀ (l : List (Fin 12)) (s : Mxu F) (q : Fin 2) (R : Fin 1024), (l.foldl popTile s).live q R = true →
    s.live q R = true ∧ ∀ t ∈ l, ¬ (q = unitT t ∧ 4 * (16 * (t.val / 2)) ≤ R.val ∧ R.val < 4 * (16 * (t.val / 2)) + 64)
  | [], _, _, _, h => ⟨h, by simp⟩
  | t :: l, s, q, R, h => by
    obtain ⟨h1, h2⟩ := live_pops l (popTile s t) q R h
    unfold popTile at h1
    rw [Mxu.live_pop] at h1
    split at h1
    · cases h1
    · next hc =>
      refine ⟨h1, fun u hu => ?_⟩
      rcases List.mem_cons.mp hu with rfl | hu
      · exact hc
      · exact h2 u hu

theorem Empty.pops : ∀ (l : List (Fin 12)) {s : Mxu F}, Empty s → Empty (l.foldl popTile s)
  | [], _, h => h
  | t :: l, s, h => Empty.pops l (s := popTile s t) (fun q r => h q r)

/-- After the twelve tiles are popped nothing is live; with the registers empty the unit is drained. -/
theorem drained_pops {s : Mxu F} (he : Empty s) (hw : Within s) : ([0, 1, 2, 3, 4, 5, 6, 7, 8, 9, 10, 11].foldl popTile s).Drained := by
  refine ⟨fun q r => by rw [Empty.pops _ he q r]; rfl, fun q R => ?_⟩
  by_contra hne
  obtain ⟨h1, h2⟩ := live_pops _ _ q R (Bool.eq_true_of_not_eq_false hne)
  have hR := hw q R h1
  have hq := q.isLt
  have hall : ∀ t : Fin 12, t ∈ ([0, 1, 2, 3, 4, 5, 6, 7, 8, 9, 10, 11] : List (Fin 12)) := by decide
  refine h2 ⟨2 * (R.val / 64) + q.val, by omega⟩ (hall _) ⟨Fin.ext ?_, ?_, ?_⟩ <;> dsimp only <;> omega

/-- Popping other tiles leaves a tile's rows. -/
theorem readTile_pops (t : Fin 12) : ∀ (l : List (Fin 12)) (s : Mxu F), t ∉ l → readTile (l.foldl popTile s) t = readTile s t
  | [], _, _ => rfl
  | u :: l, s, h => by
    rw [List.foldl_cons, readTile_pops t l _ (fun hm => h (List.mem_cons_of_mem _ hm))]
    have hne : u ≠ t := fun e => h (e ▸ List.mem_cons_self ..)
    have hv : u.val ≠ t.val := fun e => hne (Fin.ext e)
    unfold readTile popTile
    refine Mxu.read_pop_ne (hne := ?_) ..
    by_cases e : t.val % 2 = u.val % 2
    · right; omega
    · left; intro e'; exact e (congrArg Fin.val e')

section Acc

variable (code : FVec F S256x128 .bf16) (w : FVec F S64x256 .bf16) (pat : Fin 24 → Vec F S1x16x128 .bf16)

/-- Other tiles' steps leave a tile's rows and which of them are live. -/
theorem tileSteps_other (t : Fin 12) : ∀ (l : List (Fin 12)) (s : Mxu F), t ∉ l →
    readTile (l.foldl (tileStep code w pat) s) t = readTile s t ∧ ∀ b, LiveTile s t b → LiveTile (l.foldl (tileStep code w pat) s) t b
  | [], _, _ => ⟨rfl, fun _ h => h⟩
  | u :: l, s, h => by
    obtain ⟨h1, h2⟩ := tileSteps_other t l (tileStep code w pat s u) (fun hm => h (List.mem_cons_of_mem _ hm))
    have hne : u ≠ t := fun e => h (e ▸ List.mem_cons_self ..)
    have hv : u.val ≠ t.val := fun e => hne (Fin.ext e)
    have hd : unitT t ≠ unitT u ∨ 4 * (16 * (t.val / 2)) + 64 ≤ 4 * (16 * (u.val / 2)) ∨ 4 * (16 * (u.val / 2)) + 64 ≤ 4 * (16 * (t.val / 2)) := by
      by_cases e : t.val % 2 = u.val % 2
      · right; omega
      · left; intro e'; exact e (congrArg Fin.val e')
    rw [List.foldl_cons]
    refine ⟨h1.trans ?_, fun b hb => h2 b fun r => ?_⟩
    · unfold readTile tileStep Mxu.pushAcc
      rw [Mxu.read_accLhs_ne (hne := hd), Mxu.read_pushed]
    · have hr := r.isLt
      unfold tileStep Mxu.pushAcc
      rw [Mxu.live_accLhs, Mxu.live_pushed, if_neg]
      · exact hb r
      · rintro ⟨e1, e2, e3⟩
        simp only [Mxu.row] at e2 e3
        rcases hd with hd | hd | hd
        · exact hd e1
        · omega
        · omega

/-- The pass of one chunk against tile `t`. -/
def passT (cw : FVec F S256x128 .bf16 × FVec F S64x256 .bf16) (t : Fin 12) : FVec F S64x256 .f32 :=
  Mxu.passOf false (tile cw.1 (pat ⟨2 * t.val, by omega⟩) (pat ⟨2 * t.val + 1, by omega⟩), cw.2)

/-- One chunk adds its pass to a tile's rows if they are live, else leaves the pass there; they are live after it. -/
theorem chunk_read (cw : FVec F S256x128 .bf16 × FVec F S64x256 .bf16) (s : Mxu F) (hs : Empty s) (t : Fin 12) :
    (LiveTile s t false → readTile (chunkStep pat s cw) t = passT pat cw t)
      ∧ (LiveTile s t true → readTile (chunkStep pat s cw) t = addf (readTile s t) (passT pat cw t))
      ∧ LiveTile (chunkStep pat s cw) t true := by
  have hall : ∀ t : Fin 12, t ∈ ([0, 1, 2, 3, 4, 5, 6, 7, 8, 9, 10, 11] : List (Fin 12)) := by decide
  have hnd : ([0, 1, 2, 3, 4, 5, 6, 7, 8, 9, 10, 11] : List (Fin 12)).Nodup := by decide
  unfold chunkStep
  revert hnd
  obtain ⟨pre, post, e⟩ := List.append_of_mem (hall t)
  rw [e]
  intro hnd
  rw [List.nodup_append] at hnd
  obtain ⟨-, hpost, hdis⟩ := hnd
  have hpre : t ∉ pre := fun hm => hdis t hm t (List.mem_cons_self ..) rfl
  have hpost' : t ∉ post := (List.nodup_cons.mp hpost).1
  rw [List.foldl_append, List.foldl_cons]
  set s₁ := pre.foldl (tileStep cw.1 cw.2 pat) s with hs₁
  have he : Empty s₁ := Empty.foldl _ (fun _ _ h => Empty.acc h _ _ _ _ _ _ _) _ _ hs
  obtain ⟨r1, l1⟩ := tileSteps_other cw.1 cw.2 pat t pre s hpre
  obtain ⟨r2, l2⟩ := tileSteps_other cw.1 cw.2 pat t post (tileStep cw.1 cw.2 pat s₁ t) hpost'
  rw [r2]
  refine ⟨fun h => ?_, fun h => ?_, l2 _ fun r => ?_⟩
  · exact Mxu.read_pushAcc_of_not_live _ _ _ _ _ _ _ _ (he _ _) (l1 _ h)
  · rw [← r1]
    exact Mxu.read_pushAcc_of_live _ _ _ _ _ _ _ _ (he _ _) (l1 _ h)
  · exact Mxu.live_pushAcc_row _ _ _ _ _ _ _ _ _

/-- A run of chunks from rows not live leaves the chunks' passes added in order. -/
theorem chunks_read (t : Fin 12) (cw : FVec F S256x128 .bf16 × FVec F S64x256 .bf16) (l : List (FVec F S256x128 .bf16 × FVec F S64x256 .bf16))
    (s : Mxu F) (hs : Empty s) (hl : LiveTile s t false) :
    readTile ((cw :: l).foldl (chunkStep pat) s) t = l.foldl (fun a cw => addf a (passT pat cw t)) (passT pat cw t) := by
  have key : ∀ (l : List (FVec F S256x128 .bf16 × FVec F S64x256 .bf16)) (s : Mxu F), Empty s → LiveTile s t true →
      readTile (l.foldl (chunkStep pat) s) t = l.foldl (fun a cw => addf a (passT pat cw t)) (readTile s t) := by
    intro l
    induction l with
    | nil => exact fun _ _ _ => rfl
    | cons cw l ih =>
      intro s hs hl
      rw [List.foldl_cons, List.foldl_cons, ih _ (hs.chunk _ _) (chunk_read pat cw s hs t).2.2, (chunk_read pat cw s hs t).2.1 hl]
  rw [List.foldl_cons, key _ _ (hs.chunk _ _) (chunk_read pat cw s hs t).2.2, (chunk_read pat cw s hs t).1 hl]

end Acc

theorem trips_eq : k0_t1_loop.trips = 4 := by decide

/-- Chunk `n` of a grid step's sixteen. -/
def chunkAt (x2 : Vec F S4096x40 .i8) (x3 : Vec F S50x4096 .bf16) (n : Fin 16) : FVec F S256x128 .bf16 × FVec F S64x256 .bf16 :=
  chunkOf x2 x3 ⟨n.val / 4, by rw [trips_eq]; omega⟩ ⟨n.val % 4, Nat.mod_lt _ (by decide)⟩

/-- The chunks of a grid step after the first, in order. -/
def laterChunks (x2 : Vec F S4096x40 .i8) (x3 : Vec F S50x4096 .bf16) : List (FVec F S256x128 .bf16 × FVec F S64x256 .bf16) :=
  [chunkAt x2 x3 1, chunkAt x2 x3 2, chunkAt x2 x3 3, chunkAt x2 x3 4, chunkAt x2 x3 5, chunkAt x2 x3 6, chunkAt x2 x3 7, chunkAt x2 x3 8,
    chunkAt x2 x3 9, chunkAt x2 x3 10, chunkAt x2 x3 11, chunkAt x2 x3 12, chunkAt x2 x3 13, chunkAt x2 x3 14, chunkAt x2 x3 15]

theorem tripStep_eq (x2 : Vec F S4096x40 .i8) (x3 : Vec F S50x4096 .bf16) (x5 : Vec F S24x16x128 .bf16) (s : Mxu F) (k : ℕ) (hk : k < 4) :
    tripStep x2 x3 x5 s ⟨k, by rw [trips_eq]; exact hk⟩
      = [chunkAt x2 x3 ⟨4 * k, by omega⟩, chunkAt x2 x3 ⟨4 * k + 1, by omega⟩, chunkAt x2 x3 ⟨4 * k + 2, by omega⟩,
          chunkAt x2 x3 ⟨4 * k + 3, by omega⟩].foldl (chunkStep (patOf x5)) s := by
  have h : ∀ (n : Fin 16) (u : Fin 4), n.val = 4 * k + u.val → chunkOf x2 x3 ⟨k, by rw [trips_eq]; exact hk⟩ u = chunkAt x2 x3 n := by
    intro n u e
    unfold chunkAt
    congr 1
    · exact Fin.ext (by dsimp only; omega)
    · exact Fin.ext (by dsimp only; omega)
  unfold tripStep
  simp only [List.foldl_cons, List.foldl_nil]
  rw [h ⟨4 * k, by omega⟩ 0 rfl, h ⟨4 * k + 1, by omega⟩ 1 rfl, h ⟨4 * k + 2, by omega⟩ 2 rfl, h ⟨4 * k + 3, by omega⟩ 3 rfl]

theorem stateTo_succ (x2 : Vec F S4096x40 .i8) (x3 : Vec F S50x4096 .bf16) (x5 : Vec F S24x16x128 .bf16) (s : Mxu F) (k : ℕ) (hk : k < 4) :
    stateTo x2 x3 x5 s (k + 1) = tripStep x2 x3 x5 (stateTo x2 x3 x5 s k) ⟨k, by rw [trips_eq]; exact hk⟩ := by
  rw [stateTo, dif_pos]

theorem stateTo_eq (x2 : Vec F S4096x40 .i8) (x3 : Vec F S50x4096 .bf16) (x5 : Vec F S24x16x128 .bf16) (s : Mxu F) :
    stateTo x2 x3 x5 s k0_t1_loop.trips = (chunkAt x2 x3 0 :: laterChunks x2 x3).foldl (chunkStep (patOf x5)) s := by
  rw [trips_eq, stateTo_succ _ _ _ _ 3 (by decide), stateTo_succ _ _ _ _ 2 (by decide), stateTo_succ _ _ _ _ 1 (by decide),
    stateTo_succ _ _ _ _ 0 (by decide), tripStep_eq _ _ _ _ _ (by decide), tripStep_eq _ _ _ _ _ (by decide), tripStep_eq _ _ _ _ _ (by decide),
    tripStep_eq _ _ _ _ _ (by decide), ← List.foldl_append, ← List.foldl_append, ← List.foldl_append]
  rfl

/-- What a grid step adds to a tile: the sixteen chunks' passes, added in order. -/
def stepAcc (x2 : Vec F S4096x40 .i8) (x3 : Vec F S50x4096 .bf16) (x5 : Vec F S24x16x128 .bf16) (t : Fin 12) : FVec F S64x256 .f32 :=
  (laterChunks x2 x3).foldl (fun a cw => addf a (passT (patOf x5) cw t)) (passT (patOf x5) (chunkAt x2 x3 0) t)

/-- The unit's state after the loop holds each tile's sum. -/
theorem readTile_stateTo (x2 : Vec F S4096x40 .i8) (x3 : Vec F S50x4096 .bf16) (x5 : Vec F S24x16x128 .bf16) (s : Mxu F) (hs : Empty s)
    (hl : ∀ q R, s.live q R = false) (t : Fin 12) : readTile (stateTo x2 x3 x5 s k0_t1_loop.trips) t = stepAcc x2 x3 x5 t := by
  rw [stateTo_eq, chunks_read _ t _ _ s hs (fun r => hl _ _)]
  rfl

end Cert.Proof.Kernel
-- ==== Proof.Kernel.HistOut.lean ====
/-
  WHAT A GRID STEP of the histogram kernel leaves in its output block and in its scratch, from the stores it makes.
-/
module

public import proofs.«01_k».proof.Proof.Kernel.HistMxu
public import Idealize.ShloMosaic.Lib.ValueLayout

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The grid point is the first of its histogram block. -/
abbrev first (i : grid0.Coords) : Prop :=
  Scalar.cmpi .ne (Scalar.extui (Scalar.cmpi .eq (BitVec.ofNat 32 (i 1).val) 0#32) : BitVec 32) 0#32 = 1#1

/-- The grid point is the first of all. -/
abbrev firstAll (i : grid0.Coords) : Prop :=
  Scalar.cmpi .ne (Scalar.extui (Scalar.andi (Scalar.cmpi .eq (BitVec.ofNat 32 (i 1).val) 0#32) (Scalar.cmpi .eq (BitVec.ofNat 32 (i 0).val) 0#32)) : BitVec 32) 0#32 = 1#1

theorem inbOut (t : Fin 12) : ∀ a : Fin S1x12x64x256.rank, (![0, t.val, 0, 0] : Fin 4 → Nat) a + S1x1x64x256.size a ≤ S1x12x64x256.size a := by
  have := t.isLt
  intro a; fin_cases a
  · show 0 + 1 ≤ 1; omega
  · show t.val + 1 ≤ 12; omega
  · show 0 + 64 ≤ 64; omega
  · show 0 + 256 ≤ 256; omega

/-- Tile `t`'s part of the output block. -/
abbrev outRect (t : Fin 12) : Rect S1x12x64x256 := Rect.unit (s := S1x12x64x256) ![0, t.val, 0, 0] S1x1x64x256.size (inbOut t)

/-- A grid step adds each tile's sum to the output block. -/
def outStep (X : Vec F S1x12x64x256 .f32) (A : Fin 12 → FVec F S64x256 .f32) : Vec F S1x12x64x256 .f32 :=
  fun y => FloatOps.addf (X y) (A (y 1) (ix2 (y 2) (y 3)))

/-- What the step stores for tile `t`. -/
def outPiece (X : Vec F S1x12x64x256 .f32) (A : Fin 12 → FVec F S64x256 .f32) (t : Fin 12) : View.Piece (Elt F) S1x12x64x256 .f32 :=
  ⟨outRect t, k0_pay102 (View.ld (Val := Elt F) (e' := .f32) X (outRect t)) (A t)⟩

/-- The twelve stores, last first. -/
def outPieces (X : Vec F S1x12x64x256 .f32) (A : Fin 12 → FVec F S64x256 .f32) : List (View.Piece (Elt F) S1x12x64x256 .f32) :=
  [outPiece X A 11, outPiece X A 10, outPiece X A 9, outPiece X A 8, outPiece X A 7, outPiece X A 6, outPiece X A 5, outPiece X A 4,
    outPiece X A 3, outPiece X A 2, outPiece X A 1, outPiece X A 0]

theorem outPiece_apply (X : Vec F S1x12x64x256 .f32) (A : Fin 12 → FVec F S64x256 .f32) (t : Fin 12) (x : (outRect t).shape.Idx) :
    (outPiece X A t).2 x = outStep X A ((outRect t).emb x) := by
  have h0 : (x 0).val = 0 := by have := (x 0).isLt; change _ < 1 at this; omega
  have h1 : (x 1).val = 0 := by have := (x 1).isLt; change _ < 1 at this; omega
  have e1 : ((outRect t).emb x) 1 = t := Fin.ext (by show t.val + 1 * (x 1).val = t.val; omega)
  have e2 : ((outRect t).emb x) 2 = x 2 := Fin.ext (by show 0 + 1 * (x 2).val = (x 2).val; omega)
  have e3 : ((outRect t).emb x) 3 = x 3 := Fin.ext (by show 0 + 1 * (x 3).val = (x 3).val; omega)
  have hr : (Shape.rowMajor S64x256 (ix2 (x 2) (x 3))).val = (Shape.rowMajor S1x1x64x256 x).val := by
    rw [Shape.rowMajor_val_two, Shape.rowMajor_val_four]
    show (x 2).val * 256 + (x 3).val = (((x 0).val * 1 + (x 1).val) * 64 + (x 2).val) * 256 + (x 3).val
    omega
  show shapeCast S1x1x64x256 (addf (shapeCast S64x256 (View.ld (Val := Elt F) (e' := .f32) X (outRect t)) shapeCasts_S1x1x64x256_S64x256) (A t)) shapeCasts_S64x256_S1x1x64x256 x = _
  refine (shapeCast_apply (t := S1x1x64x256) _ _ x (ix2 (x 2) (x 3)) hr).trans ?_
  unfold outStep
  rw [e1, e2, e3]
  exact congrArg (fun z => FloatOps.addf z (A t (ix2 (x 2) (x 3))))
    (shapeCast_apply (t := S64x256) (View.ld (Val := Elt F) (e' := .f32) X (outRect t)) shapeCasts_S1x1x64x256_S64x256 (ix2 (x 2) (x 3)) x hr.symm)

theorem mem_outRect (y : S1x12x64x256.Idx) (t : Fin 12) : y ∈ (outRect t).set ↔ y 1 = t := by
  constructor
  · intro h
    obtain ⟨x, rfl⟩ := (outRect t).exists_idx_of_mem h
    have h1 : (x 1).val = 0 := by have := (x 1).isLt; change _ < 1 at this; omega
    exact Fin.ext (by show t.val + 1 * (x 1).val = t.val; omega)
  · rintro rfl
    have h0 : (y 0).val = 0 := by have := (y 0).isLt; change _ < 1 at this; omega
    have e : (outRect (y 1)).emb (ix4 (0 : Fin 1) (0 : Fin 1) (y 2) (y 3)) = y := by
      funext a; fin_cases a
      · exact Fin.ext (by show 0 + 1 * 0 = (y 0).val; omega)
      · exact Fin.ext (by show (y 1).val + 1 * 0 = (y 1).val; omega)
      · exact Fin.ext (by show 0 + 1 * (y 2).val = (y 2).val; omega)
      · exact Fin.ext (by show 0 + 1 * (y 3).val = (y 3).val; omega)
    exact e ▸ (outRect (y 1)).idx_mem _

theorem outPieces_eq (X : Vec F S1x12x64x256 .f32) (A : Fin 12 → FVec F S64x256 .f32) :
    outPieces X A = [11, 10, 9, 8, 7, 6, 5, 4, 3, 2, 1, 0].map (outPiece X A) := rfl

/-- The twelve stores together are the step, over whatever the buffer held. -/
theorem read_outPieces {κ : Kind} {sp : Space} (v : View sig κ sp S1x12x64x256 .f32) (f : v.ty.Contents (Elt F)) (X : Vec F S1x12x64x256 .f32)
    (A : Fin 12 → FVec F S64x256 .f32) : v.read (Elt F) (v.writes (Elt F) f (outPieces X A)) = outStep X A := by
  have hall : ∀ t : Fin 12, t ∈ ([11, 10, 9, 8, 7, 6, 5, 4, 3, 2, 1, 0] : List (Fin 12)) := by decide
  funext y
  refine View.read_writes_apply_of_pieces v f (outStep X A) _ (fun p hp x => ?_) y ⟨outPiece X A (y 1), ?_, (mem_outRect y (y 1)).mpr rfl⟩
  · rw [outPieces_eq] at hp
    obtain ⟨t, -, rfl⟩ := List.mem_map.mp hp
    exact outPiece_apply X A t x
  · rw [outPieces_eq]
    exact List.mem_map_of_mem (hall _)

/-- The store of zeros over the whole block. -/
abbrev zeroPiece : View.Piece (Elt F) S1x12x64x256 .f32 :=
  ⟨Rect.unit ![0, 0, 0, 0] S1x12x64x256.size inb_S1x12x64x256_S1x12x64x256_0_0_0_0, k0_pay101⟩

/-- The stores of a first step: zeros, then each tile's sum added to what the block then holds. -/
def seqPieces {κ : Kind} {sp : Space} (v : View sig κ sp S1x12x64x256 .f32) (A : Fin 12 → FVec F S64x256 .f32) :
    List (Fin 12) → List (View.Piece (Elt F) S1x12x64x256 .f32)
  | [] => [zeroPiece]
  | t :: l => ⟨outRect t, k0_pay102 (v.readCov (seqPieces v A l) (outRect t).toLoadRect) (A t)⟩ :: seqPieces v A l

theorem seqPieces_eq {κ : Kind} {sp : Space} (v : View sig κ sp S1x12x64x256 .f32) (A : Fin 12 → FVec F S64x256 .f32) :
    ∀ l : List (Fin 12), l.Nodup → seqPieces v A l = l.map (outPiece k0_pay101 A) ++ [zeroPiece]
  | [], _ => rfl
  | t :: l, h => by
    have hid : ∀ x : S1x12x64x256.Idx, (zeroPiece (F := F)).1.idx x = x := fun x => funext fun a => Fin.ext (by
      fin_cases a
      · show 0 + 1 * (x 0).val = (x 0).val; omega
      · show 0 + 1 * (x 1).val = (x 1).val; omega
      · show 0 + 1 * (x 2).val = (x 2).val; omega
      · show 0 + 1 * (x 3).val = (x 3).val; omega)
    have hz : ∀ f : v.ty.Contents (Elt F), v.read (Elt F) (v.writes (Elt F) f [zeroPiece]) = (k0_pay101 : Vec F S1x12x64x256 .f32) := fun f => by
      funext y
      refine View.read_writes_apply_of_pieces v f k0_pay101 [zeroPiece] (fun p hp x => ?_) y ⟨zeroPiece, List.mem_singleton.mpr rfl, ?_⟩
      · obtain rfl := List.mem_singleton.mp hp
        rfl
      · exact (hid y) ▸ (zeroPiece (F := F)).1.idx_mem y
    rw [seqPieces, seqPieces_eq v A l (List.nodup_cons.mp h).2]
    refine congrArg₂ List.cons (congrArg (fun w => (⟨outRect t, k0_pay102 w (A t)⟩ : View.Piece (Elt F) S1x12x64x256 .f32)) ?_) rfl
    funext x
    show v.readAt (Elt F) (outRect t).toLoadRect (v.writes (Elt F) v.junk _) x = k0_pay101 ((outRect t).emb x)
    rw [View.readAt_apply, View.writes_append]
    refine (View.read_writes_apply_of_forall_not_mem v _ _ _ fun p hp hm => ?_).trans (congrFun (hz _) _)
    obtain ⟨u, hu, rfl⟩ := List.mem_map.mp hp
    have h1 := (mem_outRect _ u).mp hm
    have h2 := (mem_outRect _ t).mp ((outRect t).idx_mem x)
    exact (List.nodup_cons.mp h).1 ((h2.symm.trans h1) ▸ hu)

theorem read_seqPieces {κ : Kind} {sp : Space} (v : View sig κ sp S1x12x64x256 .f32) (f : v.ty.Contents (Elt F))
    (A : Fin 12 → FVec F S64x256 .f32) :
    v.read (Elt F) (v.writes (Elt F) f (seqPieces v A [11, 10, 9, 8, 7, 6, 5, 4, 3, 2, 1, 0])) = outStep k0_pay101 A := by
  rw [seqPieces_eq v A _ (by decide), ← outPieces_eq, View.writes_append, read_outPieces]

/-- The state after the tiles before `n` are popped. -/
def popsTo (s : Mxu F) : ℕ → Mxu F
  | 0 => s
  | n + 1 => if h : n < 12 then popTile (popsTo s n) ⟨n, h⟩ else popsTo s n

theorem readTile_popsTo (s : Mxu F) (t : Fin 12) : ∀ n, n ≤ t.val → readTile (popsTo s n) t = readTile s t
  | 0, _ => rfl
  | n + 1, h => by
    have ht := t.isLt
    rw [popsTo, dif_pos (by omega)]
    exact (readTile_pops t [⟨n, by omega⟩] _ (by simp only [List.mem_singleton]; intro e; rw [e] at h; simp at h)).trans (readTile_popsTo s t n (by omega))

/-- What each tile's pop returns, popping in order. -/
def popped (s : Mxu F) (t : Fin 12) : FVec F S64x256 .f32 := readTile (popsTo s t.val) t

/-- One more tile popped. -/
theorem pop_next {S s s' : Mxu F} {n : ℕ} (h : n < 12) (hp : s = popsTo S n) (e : s' = popTile s ⟨n, h⟩) : s' = popsTo S (n + 1) := by
  rw [popsTo, dif_pos h, ← hp]
  exact e

/-- What the pop of the next tile returns. -/
theorem read_next {S s : Mxu F} {w : FVec F S64x256 .f32} (t : Fin 12) (hp : s = popsTo S t.val) (e : w = readTile s t) : w = popped S t := by
  unfold popped
  rw [← hp]
  exact e

/-- A store of a later step, from its parts. -/
theorem piece_eq {X : Vec F S1x12x64x256 .f32} {A : Fin 12 → FVec F S64x256 .f32} {x : Vec F S1x1x64x256 .f32} {w : FVec F S64x256 .f32}
    {p : View.Piece (Elt F) S1x12x64x256 .f32} (t : Fin 12) (hx : x = View.ld (Val := Elt F) (e' := .f32) X (outRect t)) (hw : w = A t)
    (e : p = ⟨outRect t, k0_pay102 x w⟩) : p = outPiece X A t := by
  rw [e, hx, hw]
  rfl

/-- A store of a first step, from its parts. -/
theorem seq_cons {κ : Kind} {sp : Space} {v : View sig κ sp S1x12x64x256 .f32} {A : Fin 12 → FVec F S64x256 .f32} {l : List (Fin 12)}
    {L L' : List (View.Piece (Elt F) S1x12x64x256 .f32)} {w : FVec F S64x256 .f32} (t : Fin 12) (h : L = seqPieces v A l) (hw : w = A t)
    (e : L' = ⟨outRect t, k0_pay102 (v.readCov L (outRect t).toLoadRect) w⟩ :: L) : L' = seqPieces v A (t :: l) := by
  rw [e, h, hw]
  rfl

theorem inbPatRect (j : Fin 24) : ∀ a : Fin S24x16x128.rank, (![j.val, 0, 0] : Fin 3 → Nat) a + S1x16x128.size a ≤ S24x16x128.size a := inbPat j

/-- Half tile `j`'s part of the scratch. -/
abbrev patRect (j : Fin 24) : Rect S24x16x128 := Rect.unit (s := S24x16x128) ![j.val, 0, 0] S1x16x128.size (inbPat j)

/-- The pattern of half tile `j`: lane `l < 120` holds the centroid `v + 3·j + l / 40`, the others `-1`. -/
def patPay (v : BitVec 32) (j : Fin 24) : FVec F S1x16x128 .bf16 :=
  shapeCast S1x16x128 (sitofp .bf16 (select k0_pay96 (addi (broadcast S16x128 (Scalar.addi v (BitVec.ofNat 32 (3 * j.val)))) k0_pay95)
    (broadcast S16x128 4294967295#32)) : FVec F S16x128 .bf16) shapeCasts_S16x128_S1x16x128

/-- The first centroid of a histogram block. -/
abbrev baseOf (i : grid0.Coords) : BitVec 32 := Scalar.muli (BitVec.ofNat 32 (i 0).val) 72#32

/-- The scratch a first step writes. -/
def pats (i : grid0.Coords) : Vec F S24x16x128 .bf16 := fun y => patPay (baseOf i) (y 0) (ix3 (0 : Fin 1) (y 1) (y 2))

/-- The stores of the patterns, last first. -/
def patPieces (v : BitVec 32) : List (View.Piece (Elt F) S24x16x128 .bf16) :=
  [23, 22, 21, 20, 19, 18, 17, 16, 15, 14, 13, 12, 11, 10, 9, 8, 7, 6, 5, 4, 3, 2, 1, 0].map fun j => ⟨patRect j, patPay v j⟩

theorem read_patPieces {κ : Kind} {sp : Space} (w : View sig κ sp S24x16x128 .bf16) (f : w.ty.Contents (Elt F)) (i : grid0.Coords) :
    w.read (Elt F) (w.writes (Elt F) f (patPieces (baseOf i))) = (pats i : Vec F S24x16x128 .bf16) := by
  have hall : ∀ t : Fin 24, t ∈ ([23, 22, 21, 20, 19, 18, 17, 16, 15, 14, 13, 12, 11, 10, 9, 8, 7, 6, 5, 4, 3, 2, 1, 0] : List (Fin 24)) := by decide
  funext y
  refine View.read_writes_apply_of_pieces w f (pats i) _ (fun p hp x => ?_) y ⟨_, List.mem_map_of_mem (hall (y 0)), ?_⟩
  · obtain ⟨j, -, rfl⟩ := List.mem_map.mp hp
    have h0 : (x 0).val = 0 := by have := (x 0).isLt; change _ < 1 at this; omega
    have e0 : ((patRect j).emb x) 0 = j := Fin.ext (by show j.val + 1 * (x 0).val = j.val; omega)
    have ex : ix3 (0 : Fin 1) (((patRect j).emb x) 1) (((patRect j).emb x) 2) = x := by
      funext a; fin_cases a
      · exact Fin.ext (by show 0 = (x 0).val; omega)
      · exact Fin.ext (by show 0 + 1 * (x 1).val = (x 1).val; omega)
      · exact Fin.ext (by show 0 + 1 * (x 2).val = (x 2).val; omega)
    show patPay (baseOf i) j x = patPay (baseOf i) (((patRect j).emb x) 0) _
    rw [e0]
    exact congrArg (patPay (baseOf i) j) ex.symm
  · have e : (patRect (y 0)).emb (ix3 (0 : Fin 1) (y 1) (y 2)) = y := by
      funext a; fin_cases a
      · exact Fin.ext (by show (y 0).val + 1 * 0 = (y 0).val; omega)
      · exact Fin.ext (by show 0 + 1 * (y 1).val = (y 1).val; omega)
      · exact Fin.ext (by show 0 + 1 * (y 2).val = (y 2).val; omega)
    exact e ▸ (patRect (y 0)).idx_mem _

end Cert.Proof.Kernel
-- ==== Proof.Kernel.HistAfter.lean ====
/-
  THE MATRIX UNIT'S STATE around a grid step of the histogram kernel, and what the step leaves held.
-/
module

public import proofs.«01_k».proof.Proof.Kernel.HistOut

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Body

variable (c : Dev nD) (i : grid0.Coords) (arg2 : Memref sig .tc .vmem S4096x40 .i8) (harg2 : arg2.IsWhole)
  (arg3 : Memref sig .tc .vmem S50x4096 .bf16) (harg3 : arg3.IsWhole) (arg4 : Memref sig .tc .vmem S1x12x64x256 .f32) (harg4 : arg4.IsWhole)
  (arg5 : Memref sig .tc .vmem S24x16x128 .bf16) (harg5 : arg5.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

local notation "𝕄" => MT nD τ sig Unit (Elt F) ℕ (UR sig nD τ) ℕ

theorem within_init : Within (Mxu.init : Mxu F) := fun _ _ h => Bool.noConfusion h

/-- The unit after a loop from a state with nothing in it. -/
theorem drained_after (x2 : Vec F S4096x40 .i8) (x3 : Vec F S50x4096 .bf16) (x5 : Vec F S24x16x128 .bf16) {s : Mxu F} (he : Empty s) (hw : Within s) (k : ℕ) :
    ([0, 1, 2, 3, 4, 5, 6, 7, 8, 9, 10, 11].foldl popTile (stateTo x2 x3 x5 s k)).Drained :=
  drained_pops (he.stateTo k) (hw.stateTo k)

/-- The unit with the twelve tiles popped at the entry. -/
abbrev init0 : Mxu F := [0, 1, 2, 3, 4, 5, 6, 7, 8, 9, 10, 11].foldl popTile Mxu.init

theorem empty_init : Empty (Mxu.init : Mxu F) := fun _ _ => rfl

theorem live_init0 (q : Fin 2) (R : Fin 1024) : (init0 (F := F)).live q R = false := by
  by_contra h
  exact Bool.noConfusion (live_pops _ _ q R (Bool.eq_true_of_not_eq_false h)).1

theorem popped_stateTo (x2 : Vec F S4096x40 .i8) (x3 : Vec F S50x4096 .bf16) (x5 : Vec F S24x16x128 .bf16) {s : Mxu F} (he : Empty s)
    (hl : ∀ q R, s.live q R = false) : popped (stateTo x2 x3 x5 s k0_t1_loop.trips) = stepAcc x2 x3 x5 :=
  funext fun t => (readTile_popsTo _ t _ le_rfl).trans (readTile_stateTo x2 x3 x5 s he hl t)

/-- The points-tos after the body, the scratch reading `x5` and the output block reading `X`. -/
def after (X : Vec F S1x12x64x256 .f32) (x5 : Vec F S24x16x128 .bf16) : sProp 𝕄 :=
  iprop((arg2.view.loc (c : Thread nD τ) ↦[arg2.view.set]{fullShare} f2) ∗ (arg3.view.loc (c : Thread nD τ) ↦[arg3.view.set]{fullShare} f3)
    ∗ (∃ f5, ⌜arg5.view.read (Elt F) f5 = x5⌝ ∗ (arg5.view.loc (c : Thread nD τ) ↦[arg5.view.set]{fullShare} f5))
    ∗ (∃ f4, ⌜arg4.view.read (Elt F) f4 = X⌝ ∗ (arg4.view.loc (c : Thread nD τ) ↦[arg4.view.set]{fullShare} f4)))

theorem within_init0 : Within (init0 : Mxu F) := fun q R h => by rw [live_init0] at h; cases h

end Body

end Cert.Proof.Kernel
-- ==== Proof.Kernel.HistLater.lean ====
/-
  A LATER GRID STEP of the histogram kernel.
-/
module

public import proofs.«01_k».proof.Proof.Kernel.HistAfter

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Body

variable (c : Dev nD) (i : grid0.Coords) (arg2 : Memref sig .tc .vmem S4096x40 .i8) (harg2 : arg2.IsWhole)
  (arg3 : Memref sig .tc .vmem S50x4096 .bf16) (harg3 : arg3.IsWhole) (arg4 : Memref sig .tc .vmem S1x12x64x256 .f32) (harg4 : arg4.IsWhole)
  (arg5 : Memref sig .tc .vmem S24x16x128 .bf16) (harg5 : arg5.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

local notation "𝕄" => MT nD τ sig Unit (Elt F) ℕ (UR sig nD τ) ℕ

set_option maxHeartbeats 1000000 in
/-- A later grid step adds its sums to what the block held; the scratch is read only. -/
theorem body_later (hc : ¬ first i) (hca : ¬ firstAll i) :
    iprop(heldT c arg2 arg3 arg5 f2 f3 f5 ∗ (arg4.view.loc (c : Thread nD τ) ↦[arg4.view.set]{fullShare} f4))
      ⊢ wp frame (wpE (defs₀ (F := F)) Variants.none (c : Thread nD τ) none) Set.univ
          (cc0_hist i arg2 harg2 arg3 harg3 arg4 harg4 arg5 harg5)
          (fun _ => after c arg2 arg3 arg4 arg5 f2 f3
            (outStep (arg4.view.read (Elt F) f4) (stepAcc (arg2.view.read (Elt F) f2) (arg3.view.read (Elt F) f3) (arg5.view.read (Elt F) f5))) (arg5.view.read (Elt F) f5)) := by
  simp only [cc0_hist_eq_skeleton]; unfold cc0_hist_skel
  simp only [k0_part24_eq_skeleton, k0_part25_eq_skeleton, k0_part26_eq_skeleton, k0_part27_eq_skeleton, k0_part1_eq_skeleton, k0_part2_eq_skeleton, k0_part3_eq_skeleton, k0_part4_eq_skeleton, k0_part5_eq_skeleton, k0_part6_eq_skeleton]
  unfold heldT
  have he : Empty ((0#32 : BitVec 32), (Mxu.init : Mxu F)).2 := empty_init
  iintro ⟨⟨H2, H3, H5⟩, H4⟩
  sl_exec (disch := first | sl_exact hc | sl_exact hca | exact drained_pops (Empty.stateTo empty_init _) (Within.stateTo within_init _))
  sl_step
  have p1 : body_later.sl.k0_mxu113 c arg2 arg3 arg5 f2 f3 f5 = popsTo (body_later.sl.r c arg2 arg3 arg5 f2 f3 f5) 1 := pop_next (by decide) (s := body_later.sl.r c arg2 arg3 arg5 f2 f3 f5) rfl rfl
  have p2 : body_later.sl.k0_mxu114 c arg2 arg3 arg5 f2 f3 f5 = popsTo (body_later.sl.r c arg2 arg3 arg5 f2 f3 f5) 2 := pop_next (by decide) p1 rfl
  have p3 : body_later.sl.k0_mxu115 c arg2 arg3 arg5 f2 f3 f5 = popsTo (body_later.sl.r c arg2 arg3 arg5 f2 f3 f5) 3 := pop_next (by decide) p2 rfl
  have p4 : body_later.sl.k0_mxu116 c arg2 arg3 arg5 f2 f3 f5 = popsTo (body_later.sl.r c arg2 arg3 arg5 f2 f3 f5) 4 := pop_next (by decide) p3 rfl
  have p5 : body_later.sl.k0_mxu117 c arg2 arg3 arg5 f2 f3 f5 = popsTo (body_later.sl.r c arg2 arg3 arg5 f2 f3 f5) 5 := pop_next (by decide) p4 rfl
  have p6 : body_later.sl.k0_mxu118 c arg2 arg3 arg5 f2 f3 f5 = popsTo (body_later.sl.r c arg2 arg3 arg5 f2 f3 f5) 6 := pop_next (by decide) p5 rfl
  have p7 : body_later.sl.k0_mxu119 c arg2 arg3 arg5 f2 f3 f5 = popsTo (body_later.sl.r c arg2 arg3 arg5 f2 f3 f5) 7 := pop_next (by decide) p6 rfl
  have p8 : body_later.sl.k0_mxu120 c arg2 arg3 arg5 f2 f3 f5 = popsTo (body_later.sl.r c arg2 arg3 arg5 f2 f3 f5) 8 := pop_next (by decide) p7 rfl
  have p9 : body_later.sl.k0_mxu121 c arg2 arg3 arg5 f2 f3 f5 = popsTo (body_later.sl.r c arg2 arg3 arg5 f2 f3 f5) 9 := pop_next (by decide) p8 rfl
  have p10 : body_later.sl.k0_mxu122 c arg2 arg3 arg5 f2 f3 f5 = popsTo (body_later.sl.r c arg2 arg3 arg5 f2 f3 f5) 10 := pop_next (by decide) p9 rfl
  have p11 : body_later.sl.k0_mxu123 c arg2 arg3 arg5 f2 f3 f5 = popsTo (body_later.sl.r c arg2 arg3 arg5 f2 f3 f5) 11 := pop_next (by decide) p10 rfl
  have w0 : body_later.sl.v31_r0 c arg2 arg3 arg5 f2 f3 f5 = popped (body_later.sl.r c arg2 arg3 arg5 f2 f3 f5) 0 := read_next 0 (s := body_later.sl.r c arg2 arg3 arg5 f2 f3 f5) rfl rfl
  have w1 : body_later.sl.v38_r0 c arg2 arg3 arg5 f2 f3 f5 = popped (body_later.sl.r c arg2 arg3 arg5 f2 f3 f5) 1 := read_next 1 p1 rfl
  have w2 : body_later.sl.v45_r0 c arg2 arg3 arg5 f2 f3 f5 = popped (body_later.sl.r c arg2 arg3 arg5 f2 f3 f5) 2 := read_next 2 p2 rfl
  have w3 : body_later.sl.v52_r0 c arg2 arg3 arg5 f2 f3 f5 = popped (body_later.sl.r c arg2 arg3 arg5 f2 f3 f5) 3 := read_next 3 p3 rfl
  have w4 : body_later.sl.v59_r0 c arg2 arg3 arg5 f2 f3 f5 = popped (body_later.sl.r c arg2 arg3 arg5 f2 f3 f5) 4 := read_next 4 p4 rfl
  have w5 : body_later.sl.v66_r0 c arg2 arg3 arg5 f2 f3 f5 = popped (body_later.sl.r c arg2 arg3 arg5 f2 f3 f5) 5 := read_next 5 p5 rfl
  have w6 : body_later.sl.v73_r0 c arg2 arg3 arg5 f2 f3 f5 = popped (body_later.sl.r c arg2 arg3 arg5 f2 f3 f5) 6 := read_next 6 p6 rfl
  have w7 : body_later.sl.v80_r0 c arg2 arg3 arg5 f2 f3 f5 = popped (body_later.sl.r c arg2 arg3 arg5 f2 f3 f5) 7 := read_next 7 p7 rfl
  have w8 : body_later.sl.v87_r0 c arg2 arg3 arg5 f2 f3 f5 = popped (body_later.sl.r c arg2 arg3 arg5 f2 f3 f5) 8 := read_next 8 p8 rfl
  have w9 : body_later.sl.v94_r0 c arg2 arg3 arg5 f2 f3 f5 = popped (body_later.sl.r c arg2 arg3 arg5 f2 f3 f5) 9 := read_next 9 p9 rfl
  have w10 : body_later.sl.v101_r0 c arg2 arg3 arg5 f2 f3 f5 = popped (body_later.sl.r c arg2 arg3 arg5 f2 f3 f5) 10 := read_next 10 p10 rfl
  have w11 : (body_later.sl.k0_mxu123 c arg2 arg3 arg5 f2 f3 f5).read 1 80 fits_80_64 = popped (body_later.sl.r c arg2 arg3 arg5 f2 f3 f5) 11 := read_next 11 p11 rfl
  have hr : body_later.sl.r c arg2 arg3 arg5 f2 f3 f5 = (stateTo (arg2.view.read (Elt F) f2) (arg3.view.read (Elt F) f3) (arg5.view.read (Elt F) f5) Mxu.init k0_t1_loop.trips) := rfl
  have hA : popped (body_later.sl.r c arg2 arg3 arg5 f2 f3 f5) = stepAcc (arg2.view.read (Elt F) f2) (arg3.view.read (Elt F) f3) (arg5.view.read (Elt F) f5) := (congrArg popped hr).trans (popped_stateTo _ _ _ empty_init (fun _ _ => rfl))
  unfold after
  isplitl [H2]
  · iexact H2
  isplitl [H3]
  · iexact H3
  isplitl [H5]
  · iexists _
    isplitr
    · ipureintro
      exact rfl
    · iexact H5
  · iexists _
    isplitr
    · ipureintro
      exact (congrArg (fun L => arg4.view.read (Elt F) (arg4.view.writes (Elt F) f4 L)) (show _ = outPieces (arg4.view.read (Elt F) f4) (popped (body_later.sl.r c arg2 arg3 arg5 f2 f3 f5)) from
    congrArg₂ List.cons (piece_eq (x := (View.readAt (Elt F) arg4.view (outRect 11).toLoadRect f4)) 11 rfl w11 rfl)
    (congrArg₂ List.cons (piece_eq (x := (View.readAt (Elt F) arg4.view (outRect 10).toLoadRect f4)) 10 rfl w10 rfl)
    (congrArg₂ List.cons (piece_eq (x := (View.readAt (Elt F) arg4.view (outRect 9).toLoadRect f4)) 9 rfl w9 rfl)
    (congrArg₂ List.cons (piece_eq (x := (View.readAt (Elt F) arg4.view (outRect 8).toLoadRect f4)) 8 rfl w8 rfl)
    (congrArg₂ List.cons (piece_eq (x := (View.readAt (Elt F) arg4.view (outRect 7).toLoadRect f4)) 7 rfl w7 rfl)
    (congrArg₂ List.cons (piece_eq (x := (View.readAt (Elt F) arg4.view (outRect 6).toLoadRect f4)) 6 rfl w6 rfl)
    (congrArg₂ List.cons (piece_eq (x := (View.readAt (Elt F) arg4.view (outRect 5).toLoadRect f4)) 5 rfl w5 rfl)
    (congrArg₂ List.cons (piece_eq (x := (View.readAt (Elt F) arg4.view (outRect 4).toLoadRect f4)) 4 rfl w4 rfl)
    (congrArg₂ List.cons (piece_eq (x := (View.readAt (Elt F) arg4.view (outRect 3).toLoadRect f4)) 3 rfl w3 rfl)
    (congrArg₂ List.cons (piece_eq (x := (View.readAt (Elt F) arg4.view (outRect 2).toLoadRect f4)) 2 rfl w2 rfl)
    (congrArg₂ List.cons (piece_eq (x := (View.readAt (Elt F) arg4.view (outRect 1).toLoadRect f4)) 1 rfl w1 rfl)
    (congrArg₂ List.cons (piece_eq (x := (View.readAt (Elt F) arg4.view (outRect 0).toLoadRect f4)) 0 rfl w0 rfl) rfl))))))))))))).trans
        ((read_outPieces arg4.view f4 _ _).trans (congrArg (outStep _) hA))
    · iexact H4

end Body

end Cert.Proof.Kernel
-- ==== Proof.Kernel.HistFirst.lean ====
/-
  A FIRST GRID STEP of the histogram kernel, in a later histogram block.
-/
module

public import proofs.«01_k».proof.Proof.Kernel.HistAfter

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Body

variable (c : Dev nD) (i : grid0.Coords) (arg2 : Memref sig .tc .vmem S4096x40 .i8) (harg2 : arg2.IsWhole)
  (arg3 : Memref sig .tc .vmem S50x4096 .bf16) (harg3 : arg3.IsWhole) (arg4 : Memref sig .tc .vmem S1x12x64x256 .f32) (harg4 : arg4.IsWhole)
  (arg5 : Memref sig .tc .vmem S24x16x128 .bf16) (harg5 : arg5.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

local notation "𝕄" => MT nD τ sig Unit (Elt F) ℕ (UR sig nD τ) ℕ

set_option maxHeartbeats 1000000 in
/-- A first grid step of a histogram block writes the patterns and starts the block's sums. -/
theorem body_first (hc : first i) (hca : ¬ firstAll i) :
    iprop(heldT c arg2 arg3 arg5 f2 f3 f5 ∗ (arg4.view.loc (c : Thread nD τ) ↦[arg4.view.set]{fullShare} f4))
      ⊢ wp frame (wpE (defs₀ (F := F)) Variants.none (c : Thread nD τ) none) Set.univ
          (cc0_hist i arg2 harg2 arg3 harg3 arg4 harg4 arg5 harg5)
          (fun _ => after c arg2 arg3 arg4 arg5 f2 f3
            (outStep k0_pay101 (stepAcc (arg2.view.read (Elt F) f2) (arg3.view.read (Elt F) f3) (pats i))) (pats i)) := by
  simp only [cc0_hist_eq_skeleton]; unfold cc0_hist_skel
  simp only [k0_part24_eq_skeleton, k0_part25_eq_skeleton, k0_part26_eq_skeleton, k0_part27_eq_skeleton, k0_part1_eq_skeleton, k0_part2_eq_skeleton, k0_part3_eq_skeleton, k0_part4_eq_skeleton, k0_part5_eq_skeleton, k0_part6_eq_skeleton]
  unfold heldT
  have he : Empty ((0#32 : BitVec 32), (Mxu.init : Mxu F)).2 := empty_init
  iintro ⟨⟨H2, H3, H5⟩, H4⟩
  sl_exec (disch := first | sl_exact hc | sl_exact hca | exact he | exact drained_pops (Empty.stateTo empty_init _) (Within.stateTo within_init _))
  sl_step
  have p1 : body_first.sl.k0_mxu113 c i arg2 arg3 arg5 f2 f3 = popsTo (body_first.sl.r c i arg2 arg3 arg5 f2 f3) 1 := pop_next (by decide) (s := body_first.sl.r c i arg2 arg3 arg5 f2 f3) rfl rfl
  have p2 : body_first.sl.k0_mxu114 c i arg2 arg3 arg5 f2 f3 = popsTo (body_first.sl.r c i arg2 arg3 arg5 f2 f3) 2 := pop_next (by decide) p1 rfl
  have p3 : body_first.sl.k0_mxu115 c i arg2 arg3 arg5 f2 f3 = popsTo (body_first.sl.r c i arg2 arg3 arg5 f2 f3) 3 := pop_next (by decide) p2 rfl
  have p4 : body_first.sl.k0_mxu116 c i arg2 arg3 arg5 f2 f3 = popsTo (body_first.sl.r c i arg2 arg3 arg5 f2 f3) 4 := pop_next (by decide) p3 rfl
  have p5 : body_first.sl.k0_mxu117 c i arg2 arg3 arg5 f2 f3 = popsTo (body_first.sl.r c i arg2 arg3 arg5 f2 f3) 5 := pop_next (by decide) p4 rfl
  have p6 : body_first.sl.k0_mxu118 c i arg2 arg3 arg5 f2 f3 = popsTo (body_first.sl.r c i arg2 arg3 arg5 f2 f3) 6 := pop_next (by decide) p5 rfl
  have p7 : body_first.sl.k0_mxu119 c i arg2 arg3 arg5 f2 f3 = popsTo (body_first.sl.r c i arg2 arg3 arg5 f2 f3) 7 := pop_next (by decide) p6 rfl
  have p8 : body_first.sl.k0_mxu120 c i arg2 arg3 arg5 f2 f3 = popsTo (body_first.sl.r c i arg2 arg3 arg5 f2 f3) 8 := pop_next (by decide) p7 rfl
  have p9 : body_first.sl.k0_mxu121 c i arg2 arg3 arg5 f2 f3 = popsTo (body_first.sl.r c i arg2 arg3 arg5 f2 f3) 9 := pop_next (by decide) p8 rfl
  have p10 : body_first.sl.k0_mxu122 c i arg2 arg3 arg5 f2 f3 = popsTo (body_first.sl.r c i arg2 arg3 arg5 f2 f3) 10 := pop_next (by decide) p9 rfl
  have p11 : body_first.sl.k0_mxu123 c i arg2 arg3 arg5 f2 f3 = popsTo (body_first.sl.r c i arg2 arg3 arg5 f2 f3) 11 := pop_next (by decide) p10 rfl
  have w0 : body_first.sl.v31_r0 c i arg2 arg3 arg5 f2 f3 = popped (body_first.sl.r c i arg2 arg3 arg5 f2 f3) 0 := read_next 0 (s := body_first.sl.r c i arg2 arg3 arg5 f2 f3) rfl rfl
  have w1 : body_first.sl.v38_r0 c i arg2 arg3 arg5 f2 f3 = popped (body_first.sl.r c i arg2 arg3 arg5 f2 f3) 1 := read_next 1 p1 rfl
  have w2 : body_first.sl.v45_r0 c i arg2 arg3 arg5 f2 f3 = popped (body_first.sl.r c i arg2 arg3 arg5 f2 f3) 2 := read_next 2 p2 rfl
  have w3 : body_first.sl.v52_r0 c i arg2 arg3 arg5 f2 f3 = popped (body_first.sl.r c i arg2 arg3 arg5 f2 f3) 3 := read_next 3 p3 rfl
  have w4 : body_first.sl.v59_r0 c i arg2 arg3 arg5 f2 f3 = popped (body_first.sl.r c i arg2 arg3 arg5 f2 f3) 4 := read_next 4 p4 rfl
  have w5 : body_first.sl.v66_r0 c i arg2 arg3 arg5 f2 f3 = popped (body_first.sl.r c i arg2 arg3 arg5 f2 f3) 5 := read_next 5 p5 rfl
  have w6 : body_first.sl.v73_r0 c i arg2 arg3 arg5 f2 f3 = popped (body_first.sl.r c i arg2 arg3 arg5 f2 f3) 6 := read_next 6 p6 rfl
  have w7 : body_first.sl.v80_r0 c i arg2 arg3 arg5 f2 f3 = popped (body_first.sl.r c i arg2 arg3 arg5 f2 f3) 7 := read_next 7 p7 rfl
  have w8 : body_first.sl.v87_r0 c i arg2 arg3 arg5 f2 f3 = popped (body_first.sl.r c i arg2 arg3 arg5 f2 f3) 8 := read_next 8 p8 rfl
  have w9 : body_first.sl.v94_r0 c i arg2 arg3 arg5 f2 f3 = popped (body_first.sl.r c i arg2 arg3 arg5 f2 f3) 9 := read_next 9 p9 rfl
  have w10 : body_first.sl.v101_r0 c i arg2 arg3 arg5 f2 f3 = popped (body_first.sl.r c i arg2 arg3 arg5 f2 f3) 10 := read_next 10 p10 rfl
  have w11 : (body_first.sl.k0_mxu123 c i arg2 arg3 arg5 f2 f3).read 1 80 fits_80_64 = popped (body_first.sl.r c i arg2 arg3 arg5 f2 f3) 11 := read_next 11 p11 rfl
  have q1 : body_first.sl.H4_1 (F := F) = seqPieces arg4.view (popped (body_first.sl.r c i arg2 arg3 arg5 f2 f3)) [] := rfl
  have q2 : body_first.sl.H4_2 c i arg2 arg3 arg4 arg5 f2 f3 = seqPieces arg4.view (popped (body_first.sl.r c i arg2 arg3 arg5 f2 f3)) [0] := seq_cons 0 q1 w0 rfl
  have q3 : body_first.sl.H4_3 c i arg2 arg3 arg4 arg5 f2 f3 = seqPieces arg4.view (popped (body_first.sl.r c i arg2 arg3 arg5 f2 f3)) [1, 0] := seq_cons 1 q2 w1 rfl
  have q4 : body_first.sl.H4_4 c i arg2 arg3 arg4 arg5 f2 f3 = seqPieces arg4.view (popped (body_first.sl.r c i arg2 arg3 arg5 f2 f3)) [2, 1, 0] := seq_cons 2 q3 w2 rfl
  have q5 : body_first.sl.H4_5 c i arg2 arg3 arg4 arg5 f2 f3 = seqPieces arg4.view (popped (body_first.sl.r c i arg2 arg3 arg5 f2 f3)) [3, 2, 1, 0] := seq_cons 3 q4 w3 rfl
  have q6 : body_first.sl.H4_6 c i arg2 arg3 arg4 arg5 f2 f3 = seqPieces arg4.view (popped (body_first.sl.r c i arg2 arg3 arg5 f2 f3)) [4, 3, 2, 1, 0] := seq_cons 4 q5 w4 rfl
  have q7 : body_first.sl.H4_7 c i arg2 arg3 arg4 arg5 f2 f3 = seqPieces arg4.view (popped (body_first.sl.r c i arg2 arg3 arg5 f2 f3)) [5, 4, 3, 2, 1, 0] := seq_cons 5 q6 w5 rfl
  have q8 : body_first.sl.H4_8 c i arg2 arg3 arg4 arg5 f2 f3 = seqPieces arg4.view (popped (body_first.sl.r c i arg2 arg3 arg5 f2 f3)) [6, 5, 4, 3, 2, 1, 0] := seq_cons 6 q7 w6 rfl
  have q9 : body_first.sl.H4_9 c i arg2 arg3 arg4 arg5 f2 f3 = seqPieces arg4.view (popped (body_first.sl.r c i arg2 arg3 arg5 f2 f3)) [7, 6, 5, 4, 3, 2, 1, 0] := seq_cons 7 q8 w7 rfl
  have q10 : body_first.sl.H4_10 c i arg2 arg3 arg4 arg5 f2 f3 = seqPieces arg4.view (popped (body_first.sl.r c i arg2 arg3 arg5 f2 f3)) [8, 7, 6, 5, 4, 3, 2, 1, 0] := seq_cons 8 q9 w8 rfl
  have q11 : body_first.sl.H4_11 c i arg2 arg3 arg4 arg5 f2 f3 = seqPieces arg4.view (popped (body_first.sl.r c i arg2 arg3 arg5 f2 f3)) [9, 8, 7, 6, 5, 4, 3, 2, 1, 0] := seq_cons 9 q10 w9 rfl
  have q12 : body_first.sl.H4_12 c i arg2 arg3 arg4 arg5 f2 f3 = seqPieces arg4.view (popped (body_first.sl.r c i arg2 arg3 arg5 f2 f3)) [10, 9, 8, 7, 6, 5, 4, 3, 2, 1, 0] := seq_cons 10 q11 w10 rfl
  have h5 : body_first.sl.H5_24 (F := F) i = patPieces (baseOf i) := rfl
  have hr : body_first.sl.r c i arg2 arg3 arg5 f2 f3 = (stateTo (arg2.view.read (Elt F) f2) (arg3.view.read (Elt F) f3) (arg5.view.read (Elt F) (arg5.view.writes (Elt F) arg5.view.junk (body_first.sl.H5_24 i))) Mxu.init k0_t1_loop.trips) := rfl
  have hA : popped (body_first.sl.r c i arg2 arg3 arg5 f2 f3) = stepAcc (arg2.view.read (Elt F) f2) (arg3.view.read (Elt F) f3) (pats i) := by
    rw [hr, h5, read_patPieces, popped_stateTo _ _ _ empty_init (fun _ _ => rfl)]
  unfold after
  isplitl [H2]
  · iexact H2
  isplitl [H3]
  · iexact H3
  isplitl [H5]
  · iexists _
    isplitr
    · ipureintro
      exact (congrArg (fun L => arg5.view.read (Elt F) (arg5.view.writes (Elt F) arg5.view.junk L)) h5).trans (read_patPieces arg5.view _ i)
    · iexact H5
  · iexists _
    isplitr
    · ipureintro
      exact (congrArg (fun L => arg4.view.read (Elt F) (arg4.view.writes (Elt F) f4 L)) (seq_cons 11 q12 w11 rfl)).trans
        ((read_seqPieces arg4.view f4 _).trans (congrArg (outStep _) hA))
    · iexact H4

end Body

end Cert.Proof.Kernel
-- ==== Proof.Kernel.HistFirstAll.lean ====
/-
  THE FIRST GRID STEP OF ALL of the histogram kernel.
-/
module

public import proofs.«01_k».proof.Proof.Kernel.HistAfter

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Body

variable (c : Dev nD) (i : grid0.Coords) (arg2 : Memref sig .tc .vmem S4096x40 .i8) (harg2 : arg2.IsWhole)
  (arg3 : Memref sig .tc .vmem S50x4096 .bf16) (harg3 : arg3.IsWhole) (arg4 : Memref sig .tc .vmem S1x12x64x256 .f32) (harg4 : arg4.IsWhole)
  (arg5 : Memref sig .tc .vmem S24x16x128 .bf16) (harg5 : arg5.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

local notation "𝕄" => MT nD τ sig Unit (Elt F) ℕ (UR sig nD τ) ℕ

set_option maxHeartbeats 1000000 in
/-- A first grid step of a histogram block writes the patterns and starts the block's sums (the first of all). -/
theorem body_firstAll (hc : first i) (hca :  firstAll i) :
    iprop(heldT c arg2 arg3 arg5 f2 f3 f5 ∗ (arg4.view.loc (c : Thread nD τ) ↦[arg4.view.set]{fullShare} f4))
      ⊢ wp frame (wpE (defs₀ (F := F)) Variants.none (c : Thread nD τ) none) Set.univ
          (cc0_hist i arg2 harg2 arg3 harg3 arg4 harg4 arg5 harg5)
          (fun _ => after c arg2 arg3 arg4 arg5 f2 f3
            (outStep k0_pay101 (stepAcc (arg2.view.read (Elt F) f2) (arg3.view.read (Elt F) f3) (pats i))) (pats i)) := by
  simp only [cc0_hist_eq_skeleton]; unfold cc0_hist_skel
  simp only [k0_part24_eq_skeleton, k0_part25_eq_skeleton, k0_part26_eq_skeleton, k0_part27_eq_skeleton, k0_part1_eq_skeleton, k0_part2_eq_skeleton, k0_part3_eq_skeleton, k0_part4_eq_skeleton, k0_part5_eq_skeleton, k0_part6_eq_skeleton]
  unfold heldT
  have he : Empty ((0#32 : BitVec 32), (init0 : Mxu F)).2 := (Empty.pops _ empty_init)
  iintro ⟨⟨H2, H3, H5⟩, H4⟩
  sl_exec (disch := first | sl_exact hc | sl_exact hca | exact he | exact drained_pops (Empty.stateTo (Empty.pops _ empty_init) _) (Within.stateTo within_init0 _))
  sl_step
  have p1 : body_firstAll.sl.k0_mxu113 c i arg2 arg3 arg5 f2 f3 = popsTo (body_firstAll.sl.r c i arg2 arg3 arg5 f2 f3) 1 := pop_next (by decide) (s := body_firstAll.sl.r c i arg2 arg3 arg5 f2 f3) rfl rfl
  have p2 : body_firstAll.sl.k0_mxu114 c i arg2 arg3 arg5 f2 f3 = popsTo (body_firstAll.sl.r c i arg2 arg3 arg5 f2 f3) 2 := pop_next (by decide) p1 rfl
  have p3 : body_firstAll.sl.k0_mxu115 c i arg2 arg3 arg5 f2 f3 = popsTo (body_firstAll.sl.r c i arg2 arg3 arg5 f2 f3) 3 := pop_next (by decide) p2 rfl
  have p4 : body_firstAll.sl.k0_mxu116 c i arg2 arg3 arg5 f2 f3 = popsTo (body_firstAll.sl.r c i arg2 arg3 arg5 f2 f3) 4 := pop_next (by decide) p3 rfl
  have p5 : body_firstAll.sl.k0_mxu117 c i arg2 arg3 arg5 f2 f3 = popsTo (body_firstAll.sl.r c i arg2 arg3 arg5 f2 f3) 5 := pop_next (by decide) p4 rfl
  have p6 : body_firstAll.sl.k0_mxu118 c i arg2 arg3 arg5 f2 f3 = popsTo (body_firstAll.sl.r c i arg2 arg3 arg5 f2 f3) 6 := pop_next (by decide) p5 rfl
  have p7 : body_firstAll.sl.k0_mxu119 c i arg2 arg3 arg5 f2 f3 = popsTo (body_firstAll.sl.r c i arg2 arg3 arg5 f2 f3) 7 := pop_next (by decide) p6 rfl
  have p8 : body_firstAll.sl.k0_mxu120 c i arg2 arg3 arg5 f2 f3 = popsTo (body_firstAll.sl.r c i arg2 arg3 arg5 f2 f3) 8 := pop_next (by decide) p7 rfl
  have p9 : body_firstAll.sl.k0_mxu121 c i arg2 arg3 arg5 f2 f3 = popsTo (body_firstAll.sl.r c i arg2 arg3 arg5 f2 f3) 9 := pop_next (by decide) p8 rfl
  have p10 : body_firstAll.sl.k0_mxu122 c i arg2 arg3 arg5 f2 f3 = popsTo (body_firstAll.sl.r c i arg2 arg3 arg5 f2 f3) 10 := pop_next (by decide) p9 rfl
  have p11 : body_firstAll.sl.k0_mxu123 c i arg2 arg3 arg5 f2 f3 = popsTo (body_firstAll.sl.r c i arg2 arg3 arg5 f2 f3) 11 := pop_next (by decide) p10 rfl
  have w0 : body_firstAll.sl.v31_r0 c i arg2 arg3 arg5 f2 f3 = popped (body_firstAll.sl.r c i arg2 arg3 arg5 f2 f3) 0 := read_next 0 (s := body_firstAll.sl.r c i arg2 arg3 arg5 f2 f3) rfl rfl
  have w1 : body_firstAll.sl.v38_r0 c i arg2 arg3 arg5 f2 f3 = popped (body_firstAll.sl.r c i arg2 arg3 arg5 f2 f3) 1 := read_next 1 p1 rfl
  have w2 : body_firstAll.sl.v45_r0 c i arg2 arg3 arg5 f2 f3 = popped (body_firstAll.sl.r c i arg2 arg3 arg5 f2 f3) 2 := read_next 2 p2 rfl
  have w3 : body_firstAll.sl.v52_r0 c i arg2 arg3 arg5 f2 f3 = popped (body_firstAll.sl.r c i arg2 arg3 arg5 f2 f3) 3 := read_next 3 p3 rfl
  have w4 : body_firstAll.sl.v59_r0 c i arg2 arg3 arg5 f2 f3 = popped (body_firstAll.sl.r c i arg2 arg3 arg5 f2 f3) 4 := read_next 4 p4 rfl
  have w5 : body_firstAll.sl.v66_r0 c i arg2 arg3 arg5 f2 f3 = popped (body_firstAll.sl.r c i arg2 arg3 arg5 f2 f3) 5 := read_next 5 p5 rfl
  have w6 : body_firstAll.sl.v73_r0 c i arg2 arg3 arg5 f2 f3 = popped (body_firstAll.sl.r c i arg2 arg3 arg5 f2 f3) 6 := read_next 6 p6 rfl
  have w7 : body_firstAll.sl.v80_r0 c i arg2 arg3 arg5 f2 f3 = popped (body_firstAll.sl.r c i arg2 arg3 arg5 f2 f3) 7 := read_next 7 p7 rfl
  have w8 : body_firstAll.sl.v87_r0 c i arg2 arg3 arg5 f2 f3 = popped (body_firstAll.sl.r c i arg2 arg3 arg5 f2 f3) 8 := read_next 8 p8 rfl
  have w9 : body_firstAll.sl.v94_r0 c i arg2 arg3 arg5 f2 f3 = popped (body_firstAll.sl.r c i arg2 arg3 arg5 f2 f3) 9 := read_next 9 p9 rfl
  have w10 : body_firstAll.sl.v101_r0 c i arg2 arg3 arg5 f2 f3 = popped (body_firstAll.sl.r c i arg2 arg3 arg5 f2 f3) 10 := read_next 10 p10 rfl
  have w11 : (body_firstAll.sl.k0_mxu123 c i arg2 arg3 arg5 f2 f3).read 1 80 fits_80_64 = popped (body_firstAll.sl.r c i arg2 arg3 arg5 f2 f3) 11 := read_next 11 p11 rfl
  have q1 : body_firstAll.sl.H4_1 (F := F) = seqPieces arg4.view (popped (body_firstAll.sl.r c i arg2 arg3 arg5 f2 f3)) [] := rfl
  have q2 : body_firstAll.sl.H4_2 c i arg2 arg3 arg4 arg5 f2 f3 = seqPieces arg4.view (popped (body_firstAll.sl.r c i arg2 arg3 arg5 f2 f3)) [0] := seq_cons 0 q1 w0 rfl
  have q3 : body_firstAll.sl.H4_3 c i arg2 arg3 arg4 arg5 f2 f3 = seqPieces arg4.view (popped (body_firstAll.sl.r c i arg2 arg3 arg5 f2 f3)) [1, 0] := seq_cons 1 q2 w1 rfl
  have q4 : body_firstAll.sl.H4_4 c i arg2 arg3 arg4 arg5 f2 f3 = seqPieces arg4.view (popped (body_firstAll.sl.r c i arg2 arg3 arg5 f2 f3)) [2, 1, 0] := seq_cons 2 q3 w2 rfl
  have q5 : body_firstAll.sl.H4_5 c i arg2 arg3 arg4 arg5 f2 f3 = seqPieces arg4.view (popped (body_firstAll.sl.r c i arg2 arg3 arg5 f2 f3)) [3, 2, 1, 0] := seq_cons 3 q4 w3 rfl
  have q6 : body_firstAll.sl.H4_6 c i arg2 arg3 arg4 arg5 f2 f3 = seqPieces arg4.view (popped (body_firstAll.sl.r c i arg2 arg3 arg5 f2 f3)) [4, 3, 2, 1, 0] := seq_cons 4 q5 w4 rfl
  have q7 : body_firstAll.sl.H4_7 c i arg2 arg3 arg4 arg5 f2 f3 = seqPieces arg4.view (popped (body_firstAll.sl.r c i arg2 arg3 arg5 f2 f3)) [5, 4, 3, 2, 1, 0] := seq_cons 5 q6 w5 rfl
  have q8 : body_firstAll.sl.H4_8 c i arg2 arg3 arg4 arg5 f2 f3 = seqPieces arg4.view (popped (body_firstAll.sl.r c i arg2 arg3 arg5 f2 f3)) [6, 5, 4, 3, 2, 1, 0] := seq_cons 6 q7 w6 rfl
  have q9 : body_firstAll.sl.H4_9 c i arg2 arg3 arg4 arg5 f2 f3 = seqPieces arg4.view (popped (body_firstAll.sl.r c i arg2 arg3 arg5 f2 f3)) [7, 6, 5, 4, 3, 2, 1, 0] := seq_cons 7 q8 w7 rfl
  have q10 : body_firstAll.sl.H4_10 c i arg2 arg3 arg4 arg5 f2 f3 = seqPieces arg4.view (popped (body_firstAll.sl.r c i arg2 arg3 arg5 f2 f3)) [8, 7, 6, 5, 4, 3, 2, 1, 0] := seq_cons 8 q9 w8 rfl
  have q11 : body_firstAll.sl.H4_11 c i arg2 arg3 arg4 arg5 f2 f3 = seqPieces arg4.view (popped (body_firstAll.sl.r c i arg2 arg3 arg5 f2 f3)) [9, 8, 7, 6, 5, 4, 3, 2, 1, 0] := seq_cons 9 q10 w9 rfl
  have q12 : body_firstAll.sl.H4_12 c i arg2 arg3 arg4 arg5 f2 f3 = seqPieces arg4.view (popped (body_firstAll.sl.r c i arg2 arg3 arg5 f2 f3)) [10, 9, 8, 7, 6, 5, 4, 3, 2, 1, 0] := seq_cons 10 q11 w10 rfl
  have h5 : body_firstAll.sl.H5_24 (F := F) i = patPieces (baseOf i) := rfl
  have hr : body_firstAll.sl.r c i arg2 arg3 arg5 f2 f3 = (stateTo (arg2.view.read (Elt F) f2) (arg3.view.read (Elt F) f3) (arg5.view.read (Elt F) (arg5.view.writes (Elt F) arg5.view.junk (body_firstAll.sl.H5_24 i))) init0 k0_t1_loop.trips) := rfl
  have hA : popped (body_firstAll.sl.r c i arg2 arg3 arg5 f2 f3) = stepAcc (arg2.view.read (Elt F) f2) (arg3.view.read (Elt F) f3) (pats i) := by
    rw [hr, h5, read_patPieces, popped_stateTo _ _ _ (Empty.pops _ empty_init) live_init0]
  unfold after
  isplitl [H2]
  · iexact H2
  isplitl [H3]
  · iexact H3
  isplitl [H5]
  · iexists _
    isplitr
    · ipureintro
      exact (congrArg (fun L => arg5.view.read (Elt F) (arg5.view.writes (Elt F) arg5.view.junk L)) h5).trans (read_patPieces arg5.view _ i)
    · iexact H5
  · iexists _
    isplitr
    · ipureintro
      exact (congrArg (fun L => arg4.view.read (Elt F) (arg4.view.writes (Elt F) f4 L)) (seq_cons 11 q12 w11 rfl)).trans
        ((read_seqPieces arg4.view f4 _).trans (congrArg (outStep _) hA))
    · iexact H4

end Body

end Cert.Proof.Kernel
-- ==== Proof.Kernel.Reg0.lean ====
/-
  THE FIRST REGION: the histogram call's proof data, point by point, and its body obligation.
-/
module

public import proofs.«01_k».proof.Proof.Kernel.HistLater
public import proofs.«01_k».proof.Proof.Kernel.HistFirst
public import proofs.«01_k».proof.Proof.Kernel.HistFirstAll
public import Idealize.ShloMosaic.Lib.Pipeline.FrameBody
public import Idealize.ShloMosaic.Lib.WordCmp
public import proofs.«01_k».proof.Proof.Gen.Kernel.Points
public import proofs.«01_k».proof.Proof.Gen.Kernel.Regions

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

/-! ## One grid step -/

/-- What a grid step leaves in the output block and in the scratch, from the two input blocks and from what it found. -/
def stepOut (i : grid0.Coords) (x2 : Vec F S4096x40 .i8) (x3 : Vec F S50x4096 .bf16) (p : Vec F S1x12x64x256 .f32 × Vec F S24x16x128 .bf16) :
    Vec F S1x12x64x256 .f32 × Vec F S24x16x128 .bf16 :=
  if first i then (outStep k0_pay101 (stepAcc x2 x3 (pats i)), pats i) else (outStep p.1 (stepAcc x2 x3 p.2), p.2)

theorem stepOut_first (i : grid0.Coords) (hc : first i) (x2 : Vec F S4096x40 .i8) (x3 : Vec F S50x4096 .bf16) (p) :
    stepOut i x2 x3 p = (outStep k0_pay101 (stepAcc x2 x3 (pats i)), pats i) := if_pos hc
theorem stepOut_later (i : grid0.Coords) (hc : ¬ first i) (x2 : Vec F S4096x40 .i8) (x3 : Vec F S50x4096 .bf16) (p) :
    stepOut i x2 x3 p = (outStep p.1 (stepAcc x2 x3 p.2), p.2) := if_neg hc

section Body

variable (c : Dev nD) (i : grid0.Coords) (arg2 : Memref sig .tc .vmem S4096x40 .i8) (harg2 : arg2.IsWhole)
  (arg3 : Memref sig .tc .vmem S50x4096 .bf16) (harg3 : arg3.IsWhole) (arg4 : Memref sig .tc .vmem S1x12x64x256 .f32) (harg4 : arg4.IsWhole)
  (arg5 : Memref sig .tc .vmem S24x16x128 .bf16) (harg5 : arg5.IsWhole)

/-- The state a run of the body ends in, as owned memrefs. -/
theorem after_owns (f2 : Buf (Elt F) (arg2.view.loc (c : Thread nD τ))) (f3 : Buf (Elt F) (arg3.view.loc (c : Thread nD τ))) (X : Vec F S1x12x64x256 .f32) (x5 : Vec F S24x16x128 .bf16) :
    after c arg2 arg3 arg4 arg5 f2 f3 X x5
      ⊢ (iprop(owns (c : Thread nD τ) arg2 fullShare (arg2.view.read (Elt F) f2) ∗ owns (c : Thread nD τ) arg3 fullShare (arg3.view.read (Elt F) f3)
        ∗ owns (c : Thread nD τ) arg4 fullShare X ∗ owns (c : Thread nD τ) arg5 fullShare x5) : sProp 𝕄) := by
  unfold after owns
  iintro ⟨H2, H3, H5, H4⟩
  isplitl [H2]
  · iexists f2; isplitr; · ipureintro; rfl
    iexact H2
  isplitl [H3]
  · iexists f3; isplitr; · ipureintro; rfl
    iexact H3
  isplitl [H4]; · iexact H4
  iexact H5

/-- One grid step on owned memrefs: the inputs stay, the output block and the scratch become `stepOut`. -/
theorem body_owns (hfa : firstAll i → first i) (x2 : Vec F S4096x40 .i8) (x3 : Vec F S50x4096 .bf16) (p : Vec F S1x12x64x256 .f32 × Vec F S24x16x128 .bf16) :
    (iprop(owns (c : Thread nD τ) arg2 fullShare x2 ∗ owns (c : Thread nD τ) arg3 fullShare x3
        ∗ owns (c : Thread nD τ) arg4 fullShare p.1 ∗ owns (c : Thread nD τ) arg5 fullShare p.2) : sProp 𝕄)
      ⊢ wp frame (wpE (defs₀ (F := F)) Variants.none (c : Thread nD τ) none) Set.univ
          (cc0_hist i arg2 harg2 arg3 harg3 arg4 harg4 arg5 harg5)
          (fun _ => iprop(owns (c : Thread nD τ) arg2 fullShare x2 ∗ owns (c : Thread nD τ) arg3 fullShare x3
            ∗ owns (c : Thread nD τ) arg4 fullShare (stepOut i x2 x3 p).1 ∗ owns (c : Thread nD τ) arg5 fullShare (stepOut i x2 x3 p).2)) := by
  have hopen : (iprop(owns (c : Thread nD τ) arg2 fullShare x2 ∗ owns (c : Thread nD τ) arg3 fullShare x3
        ∗ owns (c : Thread nD τ) arg4 fullShare p.1 ∗ owns (c : Thread nD τ) arg5 fullShare p.2) : sProp 𝕄)
      ⊢ iprop(∃ f2 f3 f4 f5, ⌜arg2.view.read (Elt F) f2 = x2 ∧ arg3.view.read (Elt F) f3 = x3 ∧ arg4.view.read (Elt F) f4 = p.1 ∧ arg5.view.read (Elt F) f5 = p.2⌝
        ∗ (heldT c arg2 arg3 arg5 f2 f3 f5 ∗ (arg4.view.loc (c : Thread nD τ) ↦[arg4.view.set]{fullShare} f4))) := by
    unfold owns heldT
    iintro ⟨⟨%f2, %h2, H2⟩, ⟨%f3, %h3, H3⟩, ⟨%f4, %h4, H4⟩, ⟨%f5, %h5, H5⟩⟩
    iexists f2, f3, f4, f5
    isplitr; · ipureintro; exact ⟨h2, h3, h4, h5⟩
    isplitr [H4]
    · isplitl [H2]; · iexact H2
      isplitl [H3]; · iexact H3
      iexact H5
    iexact H4
  refine hopen.trans ?_
  iintro ⟨%f2, %f3, %f4, %f5, %h, H⟩
  obtain ⟨p4, p5⟩ := p
  obtain ⟨h2, h3, h4, h5⟩ := h
  dsimp only at h4 h5
  subst h2 h3 h4 h5
  istop
  by_cases hc : first i
  · rw [stepOut_first i hc]
    by_cases hca : firstAll i
    · exact (body_firstAll c i arg2 harg2 arg3 harg3 arg4 harg4 arg5 harg5 f2 f3 f4 f5 hc hca).trans (wp_mono _ _ _ fun _ => after_owns c arg2 arg3 arg4 arg5 f2 f3 _ _)
    · exact (body_first c i arg2 harg2 arg3 harg3 arg4 harg4 arg5 harg5 f2 f3 f4 f5 hc hca).trans (wp_mono _ _ _ fun _ => after_owns c arg2 arg3 arg4 arg5 f2 f3 _ _)
  · rw [stepOut_later i hc]
    exact (body_later c i arg2 harg2 arg3 harg3 arg4 harg4 arg5 harg5 f2 f3 f4 f5 hc fun h => hc (hfa h)).trans (wp_mono _ _ _ fun _ => after_owns c arg2 arg3 arg4 arg5 f2 f3 _ _)

end Body

/-! ## The points -/

/-- The first coordinate of point `t`: the base. -/
theorem coords0_0 (t : Fin cfg0.N) : (grid0.coords t 0).val = t.val / 256 % 4 := Pipeline.Grid.coords_val t 0 (by decide) rfl
/-- The second coordinate of point `t`: the block of vectors. -/
theorem coords0_1 (t : Fin cfg0.N) : (grid0.coords t 1).val = t.val / 1 % 256 := Pipeline.Grid.coords_val t 1 (by decide) rfl

/-- A point is the first of its base when its number is a multiple of 256. -/
theorem first_iff (t : Fin cfg0.N) : first (grid0.coords t) ↔ t.val % 256 = 0 := by
  have ht : t.val < 1024 := Nat.lt_of_lt_of_eq t.isLt N_0
  have e1 := coords0_1 t
  simp only [first, e1]; word_cmp

/-- The first point of all is a first point of its base. -/
theorem first_of_firstAll (t : Fin cfg0.N) (h : firstAll (grid0.coords t)) : first (grid0.coords t) := by
  have ht : t.val < 1024 := Nat.lt_of_lt_of_eq t.isLt N_0
  have e0 := coords0_0 t
  have e1 := coords0_1 t
  have hh : firstAll (grid0.coords t) ↔ t.val = 0 := by
    simp only [firstAll, e0, e1]; word_cmp
  exact (first_iff t).mpr (by rw [hh.mp h])

/-! ## The proof data -/

variable (W : Dev nD → Valuation τ sig (Elt F))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- What the output block and the scratch hold after point `n`. -/
def outsAt (c : Dev nD) : (n : ℕ) → n < cfg0.N → Vec F S1x12x64x256 .f32 × Vec F S24x16x128 .bf16
  | 0, hn => stepOut (grid0.coords ⟨0, hn⟩) (blk0 W c 0 ⟨0, hn⟩) (blk0 W c 1 ⟨0, hn⟩) (k0_pay101, pats (grid0.coords ⟨0, hn⟩))
  | n + 1, hn => stepOut (grid0.coords ⟨n + 1, hn⟩) (blk0 W c 0 ⟨n + 1, hn⟩) (blk0 W c 1 ⟨n + 1, hn⟩) (outsAt c n (Nat.lt_of_succ_lt hn))

/-- At a point that is first of its base, `outsAt` is the step from anything. -/
theorem outsAt_first (c : Dev nD) (t : Fin cfg0.N) (h : t.val % 256 = 0) (p) :
    outsAt W c t.val t.isLt = stepOut (grid0.coords t) (blk0 W c 0 t) (blk0 W c 1 t) p := by
  have hf := (first_iff t).mpr h
  rw [stepOut_first _ hf]
  obtain ⟨n, hn⟩ := t
  cases n <;> exact stepOut_first _ hf _ _ _

/-- At any later point it is the step from what the point before left. -/
theorem outsAt_later (c : Dev nD) (t : Fin cfg0.N) (h : ¬ t.val % 256 = 0) :
    outsAt W c t.val t.isLt = stepOut (grid0.coords t) (blk0 W c 0 t) (blk0 W c 1 t) (outsAt W c (t.val - 1) (Nat.lt_of_le_of_lt (Nat.sub_le _ _) t.isLt)) := by
  obtain ⟨n, hn⟩ := t
  cases n with
  | zero => exact absurd (Nat.zero_mod _) h
  | succ n => rfl

/-- The scratch buffer, whole. -/
abbrev scM : Memref sig .tc .vmem S24x16x128 .bf16 := Memref.whole cc0_scratch0

/-- The second region's staging buffers, at anything: the first region leaves them alone. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's invariant before point `n`: the scratch at anything at first, then at what the point before left. -/
def inv0 (c : Dev nD) : (n : ℕ) → n ≤ cfg0.N → sProp 𝕄
  | 0, _ => iprop((∃ f : Buf (Elt F) ((c : Thread nD τ).loc cc0_scratch0), ((c : Thread nD τ).loc cc0_scratch0) ↦{fullShare} f) ∗ rest0 c)
  | n + 1, hn => iprop(owns (c : Thread nD τ) scM fullShare (outsAt W c n hn).2 ∗ rest0 c)

theorem inv0_succ (c : Dev nD) (n : ℕ) (hn : n < cfg0.N) :
    inv0 W c (n + 1) hn = iprop(owns (c : Thread nD τ) scM fullShare (outsAt W c n hn).2 ∗ rest0 c) := rfl

theorem inv0_pos (c : Dev nD) (n : ℕ) (h : n ≤ cfg0.N) (hz : n ≠ 0) :
    inv0 W c n h = iprop(owns (c : Thread nD τ) scM fullShare (outsAt W c (n - 1) (by omega)).2 ∗ rest0 c) := by
  cases n with
  | zero => exact absurd rfl hz
  | succ n => rfl

/-- Before any point the invariant owns the scratch at some contents. -/
theorem inv0_any (c : Dev nD) (n : ℕ) (h : n ≤ cfg0.N) :
    inv0 W c n h ⊢ iprop((∃ x, owns (c : Thread nD τ) scM fullShare x) ∗ rest0 c) := by
  cases n with
  | zero =>
    show iprop((∃ f : Buf (Elt F) ((c : Thread nD τ).loc cc0_scratch0), ((c : Thread nD τ).loc cc0_scratch0) ↦{fullShare} f) ∗ rest0 c) ⊢ _
    iintro ⟨⟨%f, H⟩, Hr⟩
    isplitl [H]
    · iexists f; rw [owns_whole]; iexact H
    iexact Hr
  | succ n =>
    rw [inv0_succ]
    iintro ⟨H, Hr⟩
    isplitl [H]
    · iexists _; iexact H
    iexact Hr

/-- The first region's proof data on core `c`. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => (outsAt W c t.val t.isLt).1
  Φ t := inv0 W c t.val (Nat.le_of_lt_succ t.isLt)
  q _ := fullShare
  owed _ := 0

theorem dat0_A (c : Dev nD) (w : Fin cfg0.W) : (dat0 W c).A w = W c (Proc.devRef .tc (Pipeline.arrRef spec0 w)) := by dsimp only [dat0]
theorem dat0_Φ (c : Dev nD) (t : Fin cfg0.N) : (dat0 W c).Φ t.castSucc = inv0 W c t.val (Nat.le_of_lt t.isLt) := by
  dsimp only [dat0]; exact Pipeline.Dat.Φ_castSucc (inv0 W c) t
theorem after0_0 (c : Dev nD) (t : Fin cfg0.N) : (dat0 W c).after 0 t = blk0 W c 0 t := by dsimp only [dat0]
theorem after0_1 (c : Dev nD) (t : Fin cfg0.N) : (dat0 W c).after 1 t = blk0 W c 1 t := by dsimp only [dat0]
theorem after0_2 (c : Dev nD) (t : Fin cfg0.N) : (dat0 W c).after 2 t = (outsAt W c t.val t.isLt).1 := by dsimp only [dat0]

/-- Each input's staging buffer holds its block at every point. -/
theorem before0_0 (c : Dev nD) (t : Fin cfg0.N) (d) : (dat0 W c).before 0 t d = blk0 W c 0 t :=
  ((dat0 W c).before_in_eq_fetched 0 rfl (fun _ => rfl) (fun _ _ _ => rfl) (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 W c).before 1 t d = blk0 W c 1 t :=
  ((dat0 W c).before_in_eq_fetched 1 rfl (fun _ => rfl) (fun _ _ _ => rfl) (fun t => by rw [after0_1]; unfold Dat.blockOf blk0; rw [dat0_A]; try rfl) t d).trans
    (by unfold Dat.fetched Dat.blockOf blk0; rw [dat0_A]; try rfl)
/-- At a later point of a base the output's staging buffer holds what the point before left. -/
theorem before0_2 (c : Dev nD) (t : Fin cfg0.N) (h0 : ¬t.val % 256 = 0) (d) :
    (dat0 W c).before 2 t d = (outsAt W c (t.val - 1) (Nat.lt_of_le_of_lt (Nat.sub_le _ _) t.isLt)).1 := by
  have hN : t.val < 1024 := lt_of_lt_of_eq t.isLt (show cfg0.N = 1024 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

/-- What the body is called with at point `t`, -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d)))

/-- and what it returns. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t))

/-- The body at point `t` on what it is called with holds the step from some `p`, and that step is `outsAt`. -/
theorem found0 (c : Dev nD) (t : Fin cfg0.N) :
    bodyPre0 W c t ⊢ iprop(∃ p, ⌜stepOut (grid0.coords t) (blk0 W c 0 t) (blk0 W c 1 t) p = outsAt W c t.val t.isLt⌝
      ∗ (rest0 c ∗ (dat0 W c).owesAt () t.castSucc)
      ∗ owns (c : Thread nD τ) (st0_0 t) fullShare (blk0 W c 0 t) ∗ owns (c : Thread nD τ) (st0_1 t) fullShare (blk0 W c 1 t)
      ∗ owns (c : Thread nD τ) (st0_2 t) fullShare p.1 ∗ owns (c : Thread nD τ) scM fullShare p.2) := by
  unfold bodyPre0
  simp only [before0_0, before0_1]
  rw [dat0_Φ]
  by_cases h0 : t.val % 256 = 0
  · iintro ⟨HΦ, Ho, ⟨%d0, H0⟩, ⟨%d1, H1⟩, ⟨%d2, H2⟩⟩
    ihave HΦ' := (inv0_any W c t.val (Nat.le_of_lt t.isLt)) $$ HΦ
    icases HΦ' with ⟨⟨%x, HS⟩, Hr⟩
    iexists ((dat0 W c).before 2 t d2, x)
    isplitr; · ipureintro; exact (outsAt_first W c t h0 _).symm
    isplitl [Hr Ho]
    · isplitl [Hr]; · iexact Hr
      iexact Ho
    isplitl [H0]; · iexact H0
    isplitl [H1]; · iexact H1
    isplitl [H2]; · iexact H2
    iexact HS
  · simp only [before0_2 W c t h0]
    rw [inv0_pos W c t.val _ (by rintro h; exact h0 (by rw [h]))]
    iintro ⟨⟨HS, Hr⟩, Ho, ⟨%d0, H0⟩, ⟨%d1, H1⟩, ⟨%d2, H2⟩⟩
    iexists _
    isplitr; · ipureintro; exact (outsAt_later W c t h0).symm
    isplitl [Hr Ho]
    · isplitl [Hr]; · iexact Hr
      iexact Ho
    isplitl [H0]; · iexact H0
    isplitl [H1]; · iexact H1
    isplitl [H2]; · iexact H2
    iexact HS

/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  refine (found0 W c t).trans ?_
  iintro ⟨%p, %hp, Hf, Hrest⟩
  istop
  have hb := body_owns c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) scM (Memref.isWhole_whole _) (first_of_firstAll t) (blk0 W c 0 t) (blk0 W c 1 t) p
  refine BI.Entails.trans (sep_mono .rfl hb) ?_
  refine BI.Entails.trans (wp_frame_l _ _ _) (wp_mono _ _ _ fun _ => ?_)
  unfold bodyPost0
  rw [after0_0, after0_1, after0_2, hp, show (dat0 W c).owesAt () t.succ = (dat0 W c).owesAt () t.castSucc from rfl,
    show (dat0 W c).Φ t.succ = inv0 W c (t.val + 1) t.isLt from rfl, inv0_succ]
  iintro ⟨⟨Hr, Ho⟩, H0, H1, H2, HS⟩
  isplitl [HS Hr]
  · isplitl [HS]; · iexact HS
    iexact Hr
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The first region's body obligation, at every point. -/
theorem obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

/-- The scoped buffers no window of the first region stages give its invariant, -/
theorem hin0 (c : Dev nD) : iprop(Pipeline.scopedRest spec0 c ∗ BI.emp) ⊢ (dat0 W c).Φ 0 := by
  rw [show (dat0 W c).Φ 0 = inv0 W c 0 (Nat.zero_le _) from rfl, scopedRest0_eq]
  unfold inv0 rest0
  iintro ⟨⟨H, Hr⟩, -⟩
  isplitl [H]; · iexact H
  iexact Hr

/-- and it gives them back. -/
theorem hout0 (c : Dev nD) : (dat0 W c).Φ (Fin.last cfg0.N) ⊢ iprop(Pipeline.scopedRest spec0 c ∗ BI.emp) := by
  rw [show (dat0 W c).Φ (Fin.last cfg0.N) = inv0 W c cfg0.N (le_refl _) from rfl, scopedRest0_eq]
  refine (inv0_any W c cfg0.N _).trans ?_
  unfold rest0
  simp only [owns_whole]
  iintro ⟨⟨%x, H⟩, Hr⟩
  isplitl [H Hr]
  · isplitl [H]; · iexists x; iexact H
    iexact Hr
  iempintro

end Cert.Proof.Kernel
-- ==== Proof.Kernel.Reg1.lean ====
/-
  THE SECOND REGION: the finishing call's body, its proof data and its body obligation.
-/
module

public import Idealize.ShloMosaic.Lib.Pipeline.FrameBody
public import Idealize.ShloMosaic.Lib.Tactic
public import proofs.«01_k».proof.Proof.Gen.Kernel.Skeleton
public import proofs.«01_k».proof.Proof.Gen.Kernel.Points
public import proofs.«01_k».proof.Proof.Gen.Kernel.Regions

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

abbrev rH : Rect S1x50x256 := Rect.unit (s := S1x50x256) ![0, 0, 0] S1x50x256.size inb_S1x50x256_S1x50x256_0_0_0
abbrev rC : Rect S1x256x8 := Rect.unit (s := S1x256x8) ![0, 0, 0] S1x256x8.size inb_S1x256x8_S1x256x8_0_0_0
abbrev rX : Rect S1x50x8 := Rect.unit (s := S1x50x8) ![0, 0, 0] S1x50x8.size inb_S1x50x8_S1x50x8_0_0_0

/-- The rectangle of a whole histogram block, taken in order, is the block. -/
theorem ld_rH (x : Vec F S1x50x256 .f32) : View.ld x rH = x := by
  funext y; show x (rH.idx y) = x y; congr 1; funext a; fin_cases a <;> exact Fin.ext (by show 0 + 1 * _ = _; omega)
theorem ld_rC (x : Vec F S1x256x8 .f32) : View.ld x rC = x := by
  funext y; show x (rC.idx y) = x y; congr 1; funext a; fin_cases a <;> exact Fin.ext (by show 0 + 1 * _ = _; omega)
theorem ld_rX (x : Vec F S1x50x8 .bf16) : View.ld x rX = x := by
  funext y; show x (rX.idx y) = x y; congr 1; funext a; fin_cases a <;> exact Fin.ext (by show 0 + 1 * _ = _; omega)

theorem mem_rX (y : S1x50x8.Idx) : rX.idx y = y := by
  funext a; fin_cases a <;> exact Fin.ext (by show 0 + 1 * _ = _; omega)
theorem mem_rC (y : S1x256x8.Idx) : rC.idx y = y := by
  funext a; fin_cases a <;> exact Fin.ext (by show 0 + 1 * _ = _; omega)

/-- A store of a whole block leaves the value stored. -/
theorem read_store_rX (v : View sig .tc .vmem S1x50x8 .bf16) (f : v.ty.Contents (Elt F)) (p : Vec F S1x50x8 .bf16) :
    v.read (Elt F) (v.writes (Elt F) f [⟨rX, p⟩]) = p := by
  funext y
  refine View.read_writes_apply_of_pieces v f p _ (fun q hq x => ?_) y ⟨_, List.mem_singleton.mpr rfl, ?_⟩
  · obtain rfl := List.mem_singleton.mp hq
    exact congrArg p (mem_rX x).symm
  · exact (congrArg (· ∈ rX.set) (mem_rX y)).mp (rX.idx_mem y)
theorem read_store_rC (v : View sig .tc .vmem S1x256x8 .f32) (f : v.ty.Contents (Elt F)) (p : Vec F S1x256x8 .f32) :
    v.read (Elt F) (v.writes (Elt F) f [⟨rC, p⟩]) = p := by
  funext y
  refine View.read_writes_apply_of_pieces v f p _ (fun q hq x => ?_) y ⟨_, List.mem_singleton.mpr rfl, ?_⟩
  · obtain rfl := List.mem_singleton.mp hq
    exact congrArg p (mem_rC x).symm
  · exact (congrArg (· ∈ rC.set) (mem_rC y)).mp (rC.idx_mem y)

/-- The finishing body: the two outputs become its two payloads of the input blocks. -/
theorem body_finish (c : Dev nD) (i : grid1.Coords) (arg1 : Memref sig .tc .vmem S1x50x256 .f32) (harg1 : arg1.IsWhole) (arg2 : Memref sig .tc .vmem S1x256x8 .f32) (harg2 : arg2.IsWhole) (arg3 : Memref sig .tc .vmem S1x50x8 .bf16) (harg3 : arg3.IsWhole) (arg4 : Memref sig .tc .vmem S1x50x8 .bf16) (harg4 : arg4.IsWhole) (arg5 : Memref sig .tc .vmem S1x256x8 .f32) (harg5 : arg5.IsWhole)
    (x1 : Vec F S1x50x256 .f32) (x2 : Vec F S1x256x8 .f32) (x3 : Vec F S1x50x8 .bf16) :
    (iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)) : sProp 𝕄)
      ⊢ wp frame (wpE (defs₀ (F := F)) Variants.none (c : Thread nD τ) none) Set.univ
          (cc1_finish i arg1 harg1 arg2 harg2 arg3 harg3 arg4 harg4 arg5 harg5)
          (fun _ => iprop(owns (c : Thread nD τ) arg1 fullShare x1 ∗ owns (c : Thread nD τ) arg2 fullShare x2 ∗ owns (c : Thread nD τ) arg3 fullShare x3
            ∗ owns (c : Thread nD τ) arg4 fullShare (k1_pay4 x1 x2 x3) ∗ owns (c : Thread nD τ) arg5 fullShare (k1_pay5 x1 x2 x3))) := by
  simp only [cc1_finish_eq_skeleton]; unfold cc1_finish_skel
  unfold owns
  iintro ⟨⟨%f1, %h1, H1⟩, ⟨%f2, %h2, H2⟩, ⟨%f3, %h3, H3⟩, ⟨%d4, %f4, -, H4⟩, ⟨%d5, %f5, -, H5⟩⟩
  subst h1 h2 h3
  sl_exec
  sl_step
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_store_rX arg4.view f4 _).trans ?_
    exact congr (congr (congrArg k1_pay4 (ld_rH _)) (ld_rC _)) (ld_rX _)
  iexists _; isplitr
  swap; · iexact H5
  ipureintro
  refine (read_store_rC arg5.view f5 _).trans ?_
  exact congr (congr (congrArg k1_pay5 (ld_rH _)) (ld_rC _)) (ld_rX _)

variable (W : Dev nD → Valuation τ sig (Elt F))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The second region's proof data on core `c`. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => k1_pay4 (blk1 W c 0 t) (blk1 W c 1 t) (blk1 W c 2 t)
    | ⟨4, _⟩ => k1_pay5 (blk1 W c 0 t) (blk1 W c 1 t) (blk1 W c 2 t)
  Φ _ := Pipeline.scopedRest spec1 c
  q _ := fullShare
  owed _ := 0

theorem dat1_A (c : Dev nD) (w : Fin cfg1.W) : (dat1 W c).A w = W c (Proc.devRef .tc (Pipeline.arrRef spec1 w)) := by dsimp only [dat1]
theorem after1_0 (c : Dev nD) (t : Fin cfg1.N) : (dat1 W c).after 0 t = blk1 W c 0 t := by dsimp only [dat1]
theorem after1_1 (c : Dev nD) (t : Fin cfg1.N) : (dat1 W c).after 1 t = blk1 W c 1 t := by dsimp only [dat1]
theorem after1_2 (c : Dev nD) (t : Fin cfg1.N) : (dat1 W c).after 2 t = blk1 W c 2 t := by dsimp only [dat1]
theorem after1_3 (c : Dev nD) (t : Fin cfg1.N) : (dat1 W c).after 3 t = k1_pay4 (blk1 W c 0 t) (blk1 W c 1 t) (blk1 W c 2 t) := by dsimp only [dat1]
theorem after1_4 (c : Dev nD) (t : Fin cfg1.N) : (dat1 W c).after 4 t = k1_pay5 (blk1 W c 0 t) (blk1 W c 1 t) (blk1 W c 2 t) := by dsimp only [dat1]

/-- Each input's staging buffer holds its block at every point. -/
theorem before1_0 (c : Dev nD) (t : Fin cfg1.N) (d) : (dat1 W c).before 0 t d = blk1 W c 0 t :=
  ((dat1 W c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 W c).before 1 t d = blk1 W c 1 t :=
  ((dat1 W c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem before1_2 (c : Dev nD) (t : Fin cfg1.N) (d) : (dat1 W c).before 2 t d = blk1 W c 2 t :=
  ((dat1 W c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)

/-- What the body is called with at point `t`, -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d)))

/-- and what it returns. -/
def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t)
    ∗ owns (c : Thread nD τ) (st1_4 t) fullShare ((dat1 W c).after 4 t))

/-- The body at any point. -/
theorem sound_body1 (c : Dev nD) (t : Fin cfg1.N) :
    bodyPre1 W c t ⊢ wp frame (wpE (defs₀ (F := F)) Variants.none c none) Set.univ (bodyAt1 t) (fun _ => bodyPost1 W c t) := by
  have hb := body_finish c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (blk1 W c 0 t) (blk1 W c 1 t) (blk1 W c 2 t)
  have hpre : bodyPre1 W c t ⊢ iprop(((dat1 W c).Φ t.castSucc ∗ (dat1 W c).owesAt () t.castSucc) ∗ (owns (c : Thread nD τ) (st1_0 t) fullShare (blk1 W c 0 t) ∗ owns (c : Thread nD τ) (st1_1 t) fullShare (blk1 W c 1 t) ∗ owns (c : Thread nD τ) (st1_2 t) fullShare (blk1 W c 2 t)
        ∗ (∃ d, owns (c : Thread nD τ) (st1_3 t) fullShare d) ∗ (∃ d, owns (c : Thread nD τ) (st1_4 t) fullShare d))) := by
    unfold bodyPre1
    simp only [before1_0, before1_1, before1_2]
    iintro ⟨HΦ, Ho, ⟨%d0, H0⟩, ⟨%d1, H1⟩, ⟨%d2, H2⟩, ⟨%d3, H3⟩, ⟨%d4, H4⟩⟩
    isplitl [HΦ Ho]
    · isplitl [HΦ]; · iexact HΦ
      iexact Ho
    isplitl [H0]; · iexact H0
    isplitl [H1]; · iexact H1
    isplitl [H2]; · iexact H2
    isplitl [H3]; · iexists _; iexact H3
    iexists _; iexact H4
  refine hpre.trans ?_
  refine BI.Entails.trans (sep_mono .rfl hb) ?_
  refine BI.Entails.trans (wp_frame_l _ _ _) (wp_mono _ _ _ fun _ => ?_)
  unfold bodyPost1
  rw [after1_0, after1_1, after1_2, after1_3, after1_4, show (dat1 W c).owesAt () t.succ = (dat1 W c).owesAt () t.castSucc from rfl,
    show (dat1 W c).Φ t.succ = (dat1 W c).Φ t.castSucc from rfl]
  iintro ⟨⟨Hr, Ho⟩, H⟩
  isplitl [Hr]; · iexact Hr
  isplitl [Ho]; · iexact Ho
  iexact H

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The second region's body obligation, at every point. -/
theorem obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

theorem hin1 (c : Dev nD) : iprop(Pipeline.scopedRest spec1 c ∗ BI.emp) ⊢ (dat1 W c).Φ 0 := by
  rw [show (dat1 W c).Φ 0 = Pipeline.scopedRest spec1 c from rfl]
  iintro ⟨H, -⟩; iexact H
theorem hout1 (c : Dev nD) : (dat1 W c).Φ (Fin.last cfg1.N) ⊢ iprop(Pipeline.scopedRest spec1 c ∗ BI.emp) := by
  rw [show (dat1 W c).Φ (Fin.last cfg1.N) = Pipeline.scopedRest spec1 c from rfl]
  iintro H
  isplitl [H]; · iexact H
  iempintro

end Cert.Proof.Kernel
-- ==== Proof.Kernel.Run.lean ====
/-
  THE RUN: both regions and the host stretches between them; what every final state holds.
-/
module

public import proofs.«01_k».proof.Proof.Kernel.Reg0
public import proofs.«01_k».proof.Proof.Kernel.Reg1
public import Idealize.ShloMosaic.Lib.Pipeline.RegionArrays
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]

local notation "𝕄" => MT nD τ sig Unit (Elt F) ℕ (UR sig nD τ) ℕ

variable (m : (ℓ : Loc nD τ sig) → Buf (Elt F) ℓ)

/-! ## What the regions leave -/

/-- The histogram call's result array, from the launch memory. -/
def raw (c : Dev nD) : Buf (Elt F) ((c : Thread nD τ).loc main_v0) := (dat0 (V0 m) c).arrAt 2 cfg0.N

/-- What the first region leaves; everything else as launched. -/
def outsA : Outs (F := F) := fun _ r c => Function.update (fun r : Ref sig .tc => m ((c : Thread nD τ).loc r)) main_v0 (raw m c) r

/-- The buffers the second region is entered with. -/
def W1 (c : Dev nD) : Valuation τ sig (Elt F) := V2 m (outsA m) c

/-- The finishing call's two result arrays. -/
def gx (c : Dev nD) : Buf (Elt F) ((c : Thread nD τ).loc main_v11_0) := (dat1 (W1 m) c).arrAt 3 cfg1.N
def gcb (c : Dev nD) : Buf (Elt F) ((c : Thread nD τ).loc main_v11_1) := (dat1 (W1 m) c).arrAt 4 cfg1.N

/-- What both regions leave. -/
def outs : Outs (F := F) := fun J r c => Function.update (Function.update (outsA m J · c) main_v11_0 (gx m c)) main_v11_1 (gcb m c) r

theorem outs_v0 (c : Dev nD) : outs m 1 main_v0 c = raw m c := by
  unfold outs
  rw [Function.update_of_ne (by decide), Function.update_of_ne (by decide)]
  unfold outsA
  rw [Function.update_self]
theorem outsA_v0 (c : Dev nD) : outsA m 1 main_v0 c = raw m c := by
  unfold outsA
  rw [Function.update_self]
theorem outs_v11_0 (c : Dev nD) : outs m 3 main_v11_0 c = gx m c := by
  unfold outs
  rw [Function.update_of_ne (by decide), Function.update_self]
theorem outs_v11_1 (c : Dev nD) : outs m 3 main_v11_1 c = gcb m c := by
  unfold outs
  rw [Function.update_self]

theorem W1_eq (c : Dev nD) : V2 m (outs m) c = W1 m c := by
  unfold W1 V2 V1
  rw [outs_v0, outsA_v0]

/-! ## The regions' records -/

/-- Both regions' proof data. -/
def pd : (p : Fin 2) → (c : Dev nD) → Dat τ (Elt F) Unit ℕ (UR sig nD τ) ℕ (cfgs p) c
  | ⟨0, _⟩, c => dat0 (V0 m) c
  | ⟨1, _⟩, c => dat1 (W1 m) c

/-- Every TensorCore semaphore may be waited on. -/
def lev : GSem nD τ sig → Finset Unit := fun g => if g.1.2 = .tc then {()} else ∅
def lvl : GSem nD τ sig → Unit → ℕ := fun _ _ => 0

theorem lev_none (g : GSem nD τ sig) (h : g.1.2 ≠ .tc) : lev g = ∅ := if_neg h

/-- The core owes nothing. -/
def duty (c : Dev nD) : sProp 𝕄 := iprop(∃ Wd, owes (c : Thread nD τ) (0 : CellTallies nD τ sig Unit) Wd)

theorem cut (p : Fin 2) : Pipeline.LevelCut (pcfgs (F := F)) adm () lev lvl p (fun _ => 0) (fun _ => 0) where
  hι _ _ _ := by unfold lev; rw [if_pos rfl]; exact Finset.mem_singleton.mpr rfl
  hιb _ _ _ := le_refl _
  hD _ _ _ h := absurd h (lt_irrefl _)

/-- The buffers no window of a region names. -/
def others {gr w : ℕ} (win : Fin w → Pipeline.WinSpec sig gr) (c : Dev nD) (V : Valuation τ sig (Elt F)) : sProp 𝕄 :=
  StableHlo.held (c : Thread nD τ) (Pipeline.ucRefs τ sig \ Pipeline.arrRefs win) V

theorem W_in0 (c : Dev nD) (w : Fin cfg0.W) : (dat0 (V0 m) c).arrAt w cfg0.N = V1 m (outs m) c (Proc.devRef .tc (Pipeline.arrRef spec0 w)) := by
  match w with
  | ⟨0, _⟩ => exact ((dat0 (V0 m) c).arrAt_in 0 rfl _).trans ((dat0_A (V0 m) c 0).trans (V1_of m (outs m) c main_arg2 (by decide)).symm)
  | ⟨1, _⟩ => exact ((dat0 (V0 m) c).arrAt_in 1 rfl _).trans ((dat0_A (V0 m) c 1).trans (V1_of m (outs m) c main_arg3 (by decide)).symm)
  | ⟨2, _⟩ =>
    refine Eq.trans (b := V1 m (outs m) c (Proc.devRef .tc main_v0)) ?_ rfl
    unfold V1
    rw [Function.update_self, outs_v0]
    rfl

theorem W_in1 (c : Dev nD) (w : Fin cfg1.W) : (dat1 (W1 m) c).arrAt w cfg1.N = V3 m (outs m) c (Proc.devRef .tc (Pipeline.arrRef spec1 w)) := by
  match w with
  | ⟨0, _⟩ => exact ((dat1 (W1 m) c).arrAt_in 0 rfl _).trans ((dat1_A (W1 m) c 0).trans ((congrFun (W1_eq m c) _).symm.trans (V3_of m (outs m) c main_v8 (by decide)).symm))
  | ⟨1, _⟩ => exact ((dat1 (W1 m) c).arrAt_in 1 rfl _).trans ((dat1_A (W1 m) c 1).trans ((congrFun (W1_eq m c) _).symm.trans (V3_of m (outs m) c main_arg1 (by decide)).symm))
  | ⟨2, _⟩ => exact ((dat1 (W1 m) c).arrAt_in 2 rfl _).trans ((dat1_A (W1 m) c 2).trans ((congrFun (W1_eq m c) _).symm.trans (V3_of m (outs m) c main_v10 (by decide)).symm))
  | ⟨3, _⟩ =>
    refine Eq.trans (b := V3 m (outs m) c (Proc.devRef .tc main_v11_0)) ?_ rfl
    unfold V3
    rw [Function.update_of_ne (StableHlo.devRef_ne_of_ne (by decide : (main_v11_0 : Ref sig .tc) ≠ main_v11_1)), Function.update_self, outs_v11_0]
    rfl
  | ⟨4, _⟩ =>
    refine Eq.trans (b := V3 m (outs m) c (Proc.devRef .tc main_v11_1)) ?_ rfl
    unfold V3
    rw [Function.update_self, outs_v11_1]
    rfl

/-- The first region: entered at the launch contents, left with the histogram call's result in place. -/
def seg0 : RegionSeg (pcfgs (F := F)) adm (pd m) () defs₀ Variants.none lev lvl 0 :=
  Pipeline.RegionSeg.ofHeld (pcfgs (F := F)) adm (pd m) () defs₀ Variants.none lev lvl 0 (fun _ => 0)
    (fun _ => BI.emp) (fun _ => BI.emp) launch0.toP rfl (fun c => (obligation0 (V0 m) c).loose) (fun _ _ => rfl) (fun _ => rfl)
    (fun c => (dat0 (V0 m) c).share_full fun _ => rfl) (fun c => hin0 (V0 m) c) (fun c => hout0 (V0 m) c) (fun _ => 0) (cut 0)
    (fun c => others spec0 c (V0 m c)) (V0 m) (V1 m (outs m)) (fun c w => dat0_A (V0 m) c w) (fun c w => W_in0 m c w)

/-- The second region: entered after the first host stretch, left with the finishing call's two results in place. -/
def seg1' : RegionSeg (pcfgs (F := F)) adm (pd m) () defs₀ Variants.none lev lvl 1 :=
  Pipeline.RegionSeg.ofHeld (pcfgs (F := F)) adm (pd m) () defs₀ Variants.none lev lvl 1 (fun _ => 0)
    (fun _ => BI.emp) (fun _ => BI.emp) launch1.toP rfl (fun c => (obligation1 (W1 m) c).loose) (fun _ _ => rfl) (fun _ => rfl)
    (fun c => (dat1 (W1 m) c).share_full fun _ => rfl) (fun c => hin1 (W1 m) c) (fun c => hout1 (W1 m) c) (fun _ => 0) (cut 1)
    (fun c => others spec1 c (W1 m c)) (W1 m) (V3 m (outs m)) (fun c w => dat1_A (W1 m) c w) (fun c w => W_in1 m c w)

theorem mem_arrRefs {gr w : ℕ} (win : Fin w → Pipeline.WinSpec sig gr) (k : Fin w) : (Proc.devRef .tc (Pipeline.arrRef win k) : DevRef τ sig) ∈ Pipeline.arrRefs (τ := τ) win :=
  Finset.mem_map.mpr ⟨_, Finset.mem_image.mpr ⟨k, Finset.mem_univ _, rfl⟩, rfl⟩

theorem pre0 (c : Dev nD) : (iprop(StableHlo.held (c : Thread nD τ) (Pipeline.ucRefs τ sig) (V0 m c) ∗ duty c) : sProp 𝕄) ⊢ (seg0 m).pre c := by
  rw [StableHlo.held_sub_split (c : Thread nD τ) (Pipeline.arrRefs_sub_ucRefs spec0 launch0.win.arr_unscoped) (V0 m c)]
  show _ ⊢ iprop(StableHlo.held (c : Thread nD τ) (Pipeline.arrRefs spec0) (V0 m c) ∗ BI.emp ∗ others spec0 c (V0 m c) ∗ duty c)
  unfold others
  iintro ⟨⟨Ha, Hr⟩, Hd⟩
  isplitl [Ha]; · iexact Ha
  isplitr; · iempintro
  isplitl [Hr]; · iexact Hr
  iexact Hd

theorem post0 (c : Dev nD) : (seg0 m).post c ⊢ (iprop(StableHlo.held (c : Thread nD τ) (Pipeline.ucRefs τ sig) (V1 m (outs m) c) ∗ duty c) : sProp 𝕄) := by
  rw [StableHlo.held_sub_split (c : Thread nD τ) (Pipeline.arrRefs_sub_ucRefs spec0 launch0.win.arr_unscoped) (V1 m (outs m) c)]
  show iprop(StableHlo.held (c : Thread nD τ) (Pipeline.arrRefs spec0) (V1 m (outs m) c) ∗ BI.emp ∗ others spec0 c (V0 m c) ∗ duty c) ⊢ _
  unfold others
  rw [StableHlo.held_congr (c : Thread nD τ) (V := V0 m c) (V' := V1 m (outs m) c) fun b hb =>
    (Function.update_of_ne (fun h => (Finset.mem_sdiff.mp hb).2 (h ▸ mem_arrRefs spec0 2)) _ _).symm]
  iintro ⟨Ha, -, Hr, Hd⟩
  isplitr [Hd]
  · isplitl [Ha]; · iexact Ha
    iexact Hr
  iexact Hd

theorem pre1 (c : Dev nD) : (iprop(StableHlo.held (c : Thread nD τ) (Pipeline.ucRefs τ sig) (V2 m (outs m) c) ∗ duty c) : sProp 𝕄) ⊢ (seg1' m).pre c := by
  rw [W1_eq, StableHlo.held_sub_split (c : Thread nD τ) (Pipeline.arrRefs_sub_ucRefs spec1 launch1.win.arr_unscoped) (W1 m c)]
  show _ ⊢ iprop(StableHlo.held (c : Thread nD τ) (Pipeline.arrRefs spec1) (W1 m c) ∗ BI.emp ∗ others spec1 c (W1 m c) ∗ duty c)
  unfold others
  iintro ⟨⟨Ha, Hr⟩, Hd⟩
  isplitl [Ha]; · iexact Ha
  isplitr; · iempintro
  isplitl [Hr]; · iexact Hr
  iexact Hd

theorem post1 (c : Dev nD) : (seg1' m).post c ⊢ (iprop(StableHlo.held (c : Thread nD τ) (Pipeline.ucRefs τ sig) (V3 m (outs m) c) ∗ duty c) : sProp 𝕄) := by
  rw [StableHlo.held_sub_split (c : Thread nD τ) (Pipeline.arrRefs_sub_ucRefs spec1 launch1.win.arr_unscoped) (V3 m (outs m) c)]
  show iprop(StableHlo.held (c : Thread nD τ) (Pipeline.arrRefs spec1) (V3 m (outs m) c) ∗ BI.emp ∗ others spec1 c (W1 m c) ∗ duty c) ⊢ _
  unfold others
  rw [StableHlo.held_congr (c : Thread nD τ) (V := W1 m c) (V' := V3 m (outs m) c) fun b hb => by
    have h3 : b ≠ Proc.devRef .tc main_v11_0 := fun h => (Finset.mem_sdiff.mp hb).2 (h ▸ mem_arrRefs spec1 3)
    have h4 : b ≠ Proc.devRef .tc main_v11_1 := fun h => (Finset.mem_sdiff.mp hb).2 (h ▸ mem_arrRefs spec1 4)
    rw [← W1_eq]
    unfold V3
    rw [Function.update_of_ne h4, Function.update_of_ne h3]]
  iintro ⟨Ha, -, Hr, Hd⟩
  isplitr [Hd]
  · isplitl [Ha]; · iexact Ha
    iexact Hr
  iexact Hd

/-! ## The run -/

/-- What the program's buffers hold at the end, named: the last valuation. -/
def final (c : Dev nD) : Valuation τ sig (Elt F) := V4 m (outs m) c

variable (ρ : Dev nD → PrngReg)

set_option backward.isDefEq.respectTransparency.types false in
/-- Every fair run of @main ends with every unscoped buffer at `final`, and every semaphore counter at zero. -/
theorem run_main : θ_run defs (onTc (τ := τ) (main (F := F))) ⟨m, fun _ => 0, ρ⟩ (fun r => (∀ c : Dev nD,
    ∀ b ∈ Pipeline.ucRefs τ sig, r.2.mem ((c : Thread nD τ).1, b) = final m c b) ∧ r.2.sem = fun _ => 0) := by
  let E : Fin 3 → Dev nD → sProp 𝕄 := fun _ c => duty c
  let O₀ : Dev nD → CellTallies nD τ sig Unit := fun _ => 0
  let G : Dev nD → sProp 𝕄 := fun _ => iprop(emp)
  have hE0 : (iprop((bigSep Finset.univ fun c : Dev nD => iprop(unscopedSems0 c ∗ owes (c : Thread nD τ) (O₀ c) ∅ ∗ Pipeline.launchCred O₀ c ∗ prngReg c (ρ c) ∗ G c)) ∗ levAts lev lvl) : sProp 𝕄)
      ⊢ |={Set.univ}=> bigSep Finset.univ (E 0) := by
    refine BI.Entails.trans ?_ (fupd_intro (PROP := sProp 𝕄))
    refine BI.Entails.trans (show _ ⊢ bigSep Finset.univ fun c : Dev nD => iprop(unscopedSems0 c ∗ owes (c : Thread nD τ) (O₀ c) ∅ ∗ Pipeline.launchCred O₀ c ∗ prngReg c (ρ c) ∗ G c) from by iintro ⟨H, -⟩; iexact H) ?_
    refine bigSep_mono fun c _ => ?_
    show _ ⊢ duty c
    unfold duty
    iintro ⟨-, H, -⟩
    iexists _; iexact H
  have hu₀ : (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ G) := by
    rw [ownU_emb₁]
    iintro H
    imodintro
    isplitl [H]; · iexact H
    rw [show bigSep Finset.univ G = (iprop(emp) : sProp 𝕄) from BI.bigSep_emp_const _]
    iempintro
  refine Pipeline.θ_run_regions_kit_dev_sems (pcfgs (F := F)) adm (pd m) () cellOf_inj emb₁ defs₀ Variants.none lev lvl m ρ main
    (segs m (outs m) Variants.none lev lvl E () (pd m) (seg0 m) (seg1' m))
    (fun c Q => by
      rewrite [main_chain c, Seg.run_eq_chain,
        show (segs m (outs m) Variants.none lev lvl E () (pd m) (seg0 m) (seg1' m) c).map Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ lev_none G _ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨pre0 m c, post0 m c, pre1 m c, post1 m c, .rfl⟩)
    (hinit := ?_) (QY := fun c s => ∀ b ∈ Pipeline.ucRefs τ sig, s.mem ((c : Thread nD τ).1, b) = final m c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact h
    · iexact HSI

/-- A TensorCore buffer that is not scoped is among the buffers `run_main` speaks of. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- The frame claim: every argument ends as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c _ (mem_uc main_arg0 rfl)).trans (V4_main_arg0 m (outs m) c),
     (h.1 c _ (mem_uc main_arg1 rfl)).trans (V4_main_arg1 m (outs m) c),
     (h.1 c _ (mem_uc main_arg2 rfl)).trans (V4_main_arg2 m (outs m) c),
     (h.1 c _ (mem_uc main_arg3 rfl)).trans (V4_main_arg3 m (outs m) c)⟩, h.2⟩) (run_main m ρ)

end Cert.Proof.Kernel
-- ==== Proof.KernelIdeal.Hist.lean ====
/-
  THE HISTOGRAM KERNEL'S MATRIX-UNIT STATE (`cc0_hist`), as a function of the values loaded: one chunk of 256 vectors
  pushes twelve tiles of matches and accumulates the chunk's weights against each, into the tile's own rows.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Mxu.PassChain
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One pattern row block (16 rows, one centroid number per lane) stacked sixteen times: 256 equal rows. -/
def stacked (p : Vec F S1x16x128 .bf16) : FVec F S256x128 .bf16 := k0_pay30 p

/-- The tile pushed for two pattern blocks: one where a vector's code equals the pattern's number, else zero, the two
    blocks' matches side by side. -/
def tile (code : FVec F S256x128 .bf16) (p₀ p₁ : Vec F S1x16x128 .bf16) : FVec F S256x256 .bf16 :=
  k0_pay99 code (select (cmpf .oeq code (stacked p₀)) (k0_pay97 (F := F)) (k0_pay98 (F := F))) p₁

theorem fitsT (t : Fin 12) : Mxu.Fits (16 * (t.val / 2)) 64 := by
  revert t; decide

/-- Tile `t`'s step: its tile pushed into its register, the weights accumulated at its address. -/
def tileStep (code : FVec F S256x128 .bf16) (w : FVec F S64x256 .bf16) (pat : Fin 24 → Vec F S1x16x128 .bf16) (s : Mxu F) (t : Fin 12) : Mxu F :=
  Mxu.pushAcc ⟨t.val % 2, Nat.mod_lt _ (by decide)⟩ ⟨t.val / 2 % 2, Nat.mod_lt _ (by decide)⟩ false (16 * (t.val / 2)) (fitsT t) s
    (tile code (pat ⟨2 * t.val, by omega⟩) (pat ⟨2 * t.val + 1, by omega⟩)) w

/-- One chunk: the twelve tiles' steps in order. -/
def chunkStep (pat : Fin 24 → Vec F S1x16x128 .bf16) (s : Mxu F) (cw : FVec F S256x128 .bf16 × FVec F S64x256 .bf16) : Mxu F :=
  [0, 1, 2, 3, 4, 5, 6, 7, 8, 9, 10, 11].foldl (tileStep cw.1 cw.2 pat) s

/-- A push and the accumulate loading it, on equal operands, is the tile's step. -/
theorem tileStep_eq {code : FVec F S256x128 .bf16} {w : FVec F S64x256 .bf16} {pat : Fin 24 → Vec F S1x16x128 .bf16} {s : Mxu F} {t : Fin 12}
    {s' : Mxu F} {v : FVec F S256x256 .bf16} {w' : FVec F S64x256 .bf16} (hs : s = s')
    (hv : tile code (pat ⟨2 * t.val, by omega⟩) (pat ⟨2 * t.val + 1, by omega⟩) = v) (hw : w = w') :
    tileStep code w pat s t = (s'.pushed ⟨t.val % 2, Nat.mod_lt _ (by decide)⟩ ⟨t.val / 2 % 2, Nat.mod_lt _ (by decide)⟩ false v).accLhs
      ⟨t.val % 2, Nat.mod_lt _ (by decide)⟩ ⟨t.val / 2 % 2, Nat.mod_lt _ (by decide)⟩ (16 * (t.val / 2)) w' (fitsT t) := by
  subst hs hv hw; rfl

/-- Every staging register of the unit is empty. -/
def Empty (s : Mxu F) : Prop := ∀ q r, s.reg q r = none

theorem Empty.pushOk {s : Mxu F} (h : Empty s) (q r : Fin 2) (tr : Bool) : s.PushOk q r tr :=
  Mxu.pushOk_of_none _ _ _ _ (h q r)

/-- A push at once accumulated from leaves the registers empty. -/
theorem Empty.acc {s : Mxu F} (h : Empty s) (q r : Fin 2) (tr : Bool) (v : FVec F (Mxu.STile 256) .bf16) (A : ℕ) (w : FVec F (Mxu.STile 64) .bf16)
    (hf : Mxu.Fits A 64) : Empty ((s.pushed q r tr v).accLhs q r A w hf) := by
  intro q' r'
  by_cases e : q' = q ∧ r' = r
  · obtain ⟨rfl, rfl⟩ := e; exact Mxu.reg_accLhs _ _ _ _ _ _
  · exact (Mxu.reg_accLhs_ne (hne := e) ..).trans ((Mxu.reg_pushed_ne (hne := e) ..).trans (h q' r'))

theorem Empty.foldl {α : Type} (g : Mxu F → α → Mxu F) (hg : ∀ s a, Empty s → Empty (g s a)) : ∀ (l : List α) (s : Mxu F), Empty s → Empty (l.foldl g s)
  | [], _, h => h
  | a :: l, s, h => Empty.foldl g hg l _ (hg s a h)

theorem Empty.chunk {s : Mxu F} (h : Empty s) (pat : Fin 24 → Vec F S1x16x128 .bf16) (cw) : Empty (chunkStep pat s cw) :=
  Empty.foldl _ (fun _ _ h => Empty.acc h _ _ _ _ _ _ _) _ _ h

/-- The lane numbers of a block of packed codes. -/
def laneOf : IVec S64x128 32 := iota .tc S64x128 32 [1] iota_S64x128_d1_w32

theorem inbPat (j : Fin 24) : ∀ a, (![j.val, 0, 0] : Fin 3 → ℕ) a + S1x16x128.size a ≤ S24x16x128.size a := by
  revert j; decide

/-- Pattern block `j` as the kernel loads it. -/
def patOf (x5 : Vec F S24x16x128 .bf16) (j : Fin 24) : Vec F S1x16x128 .bf16 :=
  View.ld (Val := Elt F) (e' := .bf16) x5 (Rect.unit (s := S24x16x128) ![j.val, 0, 0] S1x16x128.size (inbPat j))

/-- Chunk `u` of trip `k`: the codes spread over the lanes, and the weights padded to 64 rows. -/
def chunkOf (x2 : Vec F S4096x40 .i8) (x3 : Vec F S50x4096 .bf16) (k : Fin k0_t1_loop.trips) (u : Fin 4) :
    FVec F S256x128 .bf16 × FVec F S64x256 .bf16 :=
  (k0_pay27 laneOf (View.ld (Val := Elt F) (e' := .i8) x2 (Rect.unit (s := S4096x40) (k0_off1 k (BitVec.ofNat 32 u.val)) S256x40.size (k0_off1_inb k u))),
   k0_pay28 (View.ld (Val := Elt F) (e' := .bf16) x3 (Rect.unit (s := S50x4096) (k0_off2 k (BitVec.ofNat 32 u.val)) S50x256.size (k0_off2_inb k u))))

/-- One trip of the loop: four chunks. -/
def tripStep (x2 : Vec F S4096x40 .i8) (x3 : Vec F S50x4096 .bf16) (x5 : Vec F S24x16x128 .bf16) (s : Mxu F) (k : Fin k0_t1_loop.trips) : Mxu F :=
  [0, 1, 2, 3].foldl (fun s u => chunkStep (patOf x5) s (chunkOf x2 x3 k u)) s

/-- The unit's state before trip `k`, from `s`. -/
def stateTo (x2 : Vec F S4096x40 .i8) (x3 : Vec F S50x4096 .bf16) (x5 : Vec F S24x16x128 .bf16) (s : Mxu F) : ℕ → Mxu F
  | 0 => s
  | k + 1 => if h : k < k0_t1_loop.trips then tripStep x2 x3 x5 (stateTo x2 x3 x5 s k) ⟨k, h⟩ else stateTo x2 x3 x5 s k

theorem Empty.trip {x2 : Vec F S4096x40 .i8} {x3 : Vec F S50x4096 .bf16} {x5 : Vec F S24x16x128 .bf16} {s : Mxu F} (h : Empty s) (k) :
    Empty (tripStep x2 x3 x5 s k) :=
  Empty.foldl _ (fun _ _ h => h.chunk _ _) _ _ h

theorem Empty.stateTo {x2 : Vec F S4096x40 .i8} {x3 : Vec F S50x4096 .bf16} {x5 : Vec F S24x16x128 .bf16} {s : Mxu F} (h : Empty s) :
    ∀ k, Empty (stateTo x2 x3 x5 s k)
  | 0 => h
  | k + 1 => by
    unfold KernelIdeal.stateTo
    split
    · exact Empty.trip (Empty.stateTo h k) _
    · exact Empty.stateTo h k

section Trip

variable (c : Dev nD) (i : grid0.Coords) (arg2 : Memref sig .tc .vmem S4096x40 .i8) (harg2 : arg2.IsWhole)
  (arg3 : Memref sig .tc .vmem S50x4096 .bf16) (harg3 : arg3.IsWhole) (arg4 : Memref sig .tc .vmem S1x12x64x256 .f32) (harg4 : arg4.IsWhole)
  (arg5 : Memref sig .tc .vmem S24x16x128 .bf16) (harg5 : arg5.IsWhole)
  (f2 : Buf (Elt F) (arg2.view.loc (c : Thread nD τ))) (f3 : Buf (Elt F) (arg3.view.loc (c : Thread nD τ)))
  (f5 : Buf (Elt F) (arg5.view.loc (c : Thread nD τ)))

local notation "𝕄" => MT nD τ sig Unit (Elt F) ℕ (UR sig nD τ) ℕ

/-- What a trip reads, held: the codes, the weights and the patterns. -/
abbrev heldT : sProp 𝕄 :=
  iprop((arg2.view.loc (c : Thread nD τ) ↦[arg2.view.set]{fullShare} f2) ∗ (arg3.view.loc (c : Thread nD τ) ↦[arg3.view.set]{fullShare} f3)
    ∗ (arg5.view.loc (c : Thread nD τ) ↦[arg5.view.set]{fullShare} f5))

set_option maxHeartbeats 1000000 in
theorem trip_wp (k : Fin k0_t1_loop.trips) (s : Mxu F) (hs : Empty s) :
    (heldT c arg2 arg3 arg5 f2 f3 f5 : sProp 𝕄)
      ⊢ wp frame (wpE (defs₀ (F := F)) Variants.none (c : Thread nD τ) none) Set.univ
          (k0_t1_body (F := F) i arg2 harg2 arg3 harg3 arg4 harg4 arg5 harg5 laneOf k (0#32, s))
          (fun a => iprop(⌜a = (0#32, tripStep (arg2.view.read (Elt F) f2) (arg3.view.read (Elt F) f3) (arg5.view.read (Elt F) f5) s k)⌝ ∗ heldT c arg2 arg3 arg5 f2 f3 f5)) := by
  unfold k0_t1_body
  simp only [k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton,
    k0_part22_eq_skeleton, k0_part23_eq_skeleton]
  unfold heldT
  iintro ⟨H2, H3, H5⟩
  sl_exec (disch := exact Empty.pushOk (by repeat' first | exact hs | apply Empty.acc) _ _ _)
  sl_step
  isplitr
  · ipureintro
    refine congrArg (Prod.mk 0#32) (Eq.symm ?_)
    simp only [tripStep, chunkStep, List.foldl]
    iterate 48 (refine tileStep_eq ?_ ?_ ?_; rotate_left; exact rfl; exact rfl)
    rfl
  isplitl [H2]; · iexact H2
  isplitl [H3]; · iexact H3
  iexact H5

set_option warn.classDefReducibility false in
/-- The loop's invariant: the unit's state before trip `k` is `stateTo` from the state at entry, whose registers are
    empty; what the trips read is held unchanged. -/
@[sl_loop] def loopInv (init : BitVec 32 × Mxu F) :
    LoopInvTy_k0_t1 (F := F) Unit ℕ (UR sig nD τ) ℕ Variants.none c none Set.univ i arg2 harg2 arg3 harg3 arg4 harg4 arg5 harg5 laneOf init where
  inv k acc := iprop(⌜Empty init.2⌝ ∗ ⌜acc = (0#32, stateTo (arg2.view.read (Elt F) f2) (arg3.view.read (Elt F) f3) (arg5.view.read (Elt F) f5) init.2 k)⌝ ∗ heldT c arg2 arg3 arg5 f2 f3 f5)
  step k acc := by
    iintro ⟨%h0, %h, H⟩
    obtain rfl := h
    iapply (wp_wand_r Idealize.ShloMosaic.frame (wpE (defs₀ (F := F)) Variants.none (c : Thread nD τ) none) Set.univ)
    isplitl [H]
    · iapply (trip_wp c i arg2 harg2 arg3 harg3 arg4 harg4 arg5 harg5 f2 f3 f5 k _ (Empty.stateTo h0 k))
      iexact H
    · iintro %a ⟨%ha, H⟩
      isplitr; · ipureintro; exact h0
      isplitr
      · ipureintro; refine ha.trans ?_
        rw [stateTo, dif_pos k.isLt]
      · iexact H

end Trip

end Cert.Proof.KernelIdeal
-- ==== Proof.KernelIdeal.HistMxu.lean ====
/-
  WHAT THE MATRIX UNIT HOLDS after a grid step of the histogram kernel: each tile's rows are the sum of the sixteen
  chunks' passes; popping the twelve tiles drains the unit.
-/
module

public import proofs.«01_k».proof.Proof.KernelIdeal.Hist

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The unit tile `t` accumulates in. -/
abbrev unitT (t : Fin 12) : Fin 2 := ⟨t.val % 2, Nat.mod_lt _ (by decide)⟩

/-- Popping tile `t`'s rows. -/
def popTile (s : Mxu F) (t : Fin 12) : Mxu F := s.pop (unitT t) (16 * (t.val / 2)) 64 (fitsT t)

/-- Tile `t`'s rows as the state holds them. -/
def readTile (s : Mxu F) (t : Fin 12) : FVec F S64x256 .f32 := s.read (unitT t) (16 * (t.val / 2)) (fitsT t)

/-- Tile `t`'s rows are all live, or none is. -/
def LiveTile (s : Mxu F) (t : Fin 12) (b : Bool) : Prop := ∀ r : Fin 64, s.live (unitT t) (Mxu.row (fitsT t) r) = b

/-- Only the twelve tiles' rows are live. -/
def Within (s : Mxu F) : Prop := ∀ q R, s.live q R = true → R.val < 384

theorem Within.step {s : Mxu F} (h : Within s) (code : FVec F S256x128 .bf16) (w : FVec F S64x256 .bf16) (pat : Fin 24 → Vec F S1x16x128 .bf16)
    (t : Fin 12) : Within (tileStep code w pat s t) := by
  intro q' R hR
  unfold tileStep Mxu.pushAcc at hR
  rw [Mxu.live_accLhs, Mxu.live_pushed] at hR
  have ht := t.isLt
  split at hR
  · next hc => omega
  · exact h _ _ hR

theorem Within.foldl {α : Type} (g : Mxu F → α → Mxu F) (hg : ∀ s a, Within s → Within (g s a)) : ∀ (l : List α) (s : Mxu F), Within s → Within (l.foldl g s)
  | [], _, h => h
  | a :: l, s, h => Within.foldl g hg l _ (hg s a h)

theorem Within.chunk {s : Mxu F} (h : Within s) (pat : Fin 24 → Vec F S1x16x128 .bf16) (cw) : Within (chunkStep pat s cw) :=
  Within.foldl _ (fun _ t h => Within.step h _ _ _ t) _ _ h

theorem Within.stateTo {x2 : Vec F S4096x40 .i8} {x3 : Vec F S50x4096 .bf16} {x5 : Vec F S24x16x128 .bf16} {s : Mxu F} (h : Within s) :
    ∀ k, Within (stateTo x2 x3 x5 s k)
  | 0 => h
  | k + 1 => by
    unfold KernelIdeal.stateTo
    split
    · exact Within.foldl _ (fun _ _ h => h.chunk _ _) _ _ (Within.stateTo h k)
    · exact Within.stateTo h k

/-- What popping a list of tiles leaves live: rows live before, of no tile popped. -/
theorem live_pops : ∀ (l : List (Fin 12)) (s : Mxu F) (q : Fin 2) (R : Fin 1024), (l.foldl popTile s).live q R = true →
    s.live q R = true ∧ ∀ t ∈ l, ¬ (q = unitT t ∧ 4 * (16 * (t.val / 2)) ≤ R.val ∧ R.val < 4 * (16 * (t.val / 2)) + 64)
  | [], _, _, _, h => ⟨h, by simp⟩
  | t :: l, s, q, R, h => by
    obtain ⟨h1, h2⟩ := live_pops l (popTile s t) q R h
    unfold popTile at h1
    rw [Mxu.live_pop] at h1
    split at h1
    · cases h1
    · next hc =>
      refine ⟨h1, fun u hu => ?_⟩
      rcases List.mem_cons.mp hu with rfl | hu
      · exact hc
      · exact h2 u hu

theorem Empty.pops : ∀ (l : List (Fin 12)) {s : Mxu F}, Empty s → Empty (l.foldl popTile s)
  | [], _, h => h
  | t :: l, s, h => Empty.pops l (s := popTile s t) (fun q r => h q r)

/-- After the twelve tiles are popped nothing is live; with the registers empty the unit is drained. -/
theorem drained_pops {s : Mxu F} (he : Empty s) (hw : Within s) : ([0, 1, 2, 3, 4, 5, 6, 7, 8, 9, 10, 11].foldl popTile s).Drained := by
  refine ⟨fun q r => by rw [Empty.pops _ he q r]; rfl, fun q R => ?_⟩
  by_contra hne
  obtain ⟨h1, h2⟩ := live_pops _ _ q R (Bool.eq_true_of_not_eq_false hne)
  have hR := hw q R h1
  have hq := q.isLt
  have hall : ∀ t : Fin 12, t ∈ ([0, 1, 2, 3, 4, 5, 6, 7, 8, 9, 10, 11] : List (Fin 12)) := by decide
  refine h2 ⟨2 * (R.val / 64) + q.val, by omega⟩ (hall _) ⟨Fin.ext ?_, ?_, ?_⟩ <;> dsimp only <;> omega

/-- Popping other tiles leaves a tile's rows. -/
theorem readTile_pops (t : Fin 12) : ∀ (l : List (Fin 12)) (s : Mxu F), t ∉ l → readTile (l.foldl popTile s) t = readTile s t
  | [], _, _ => rfl
  | u :: l, s, h => by
    rw [List.foldl_cons, readTile_pops t l _ (fun hm => h (List.mem_cons_of_mem _ hm))]
    have hne : u ≠ t := fun e => h (e ▸ List.mem_cons_self ..)
    have hv : u.val ≠ t.val := fun e => hne (Fin.ext e)
    unfold readTile popTile
    refine Mxu.read_pop_ne (hne := ?_) ..
    by_cases e : t.val % 2 = u.val % 2
    · right; omega
    · left; intro e'; exact e (congrArg Fin.val e')

section Acc

variable (code : FVec F S256x128 .bf16) (w : FVec F S64x256 .bf16) (pat : Fin 24 → Vec F S1x16x128 .bf16)

/-- Other tiles' steps leave a tile's rows and which of them are live. -/
theorem tileSteps_other (t : Fin 12) : ∀ (l : List (Fin 12)) (s : Mxu F), t ∉ l →
    readTile (l.foldl (tileStep code w pat) s) t = readTile s t ∧ ∀ b, LiveTile s t b → LiveTile (l.foldl (tileStep code w pat) s) t b
  | [], _, _ => ⟨rfl, fun _ h => h⟩
  | u :: l, s, h => by
    obtain ⟨h1, h2⟩ := tileSteps_other t l (tileStep code w pat s u) (fun hm => h (List.mem_cons_of_mem _ hm))
    have hne : u ≠ t := fun e => h (e ▸ List.mem_cons_self ..)
    have hv : u.val ≠ t.val := fun e => hne (Fin.ext e)
    have hd : unitT t ≠ unitT u ∨ 4 * (16 * (t.val / 2)) + 64 ≤ 4 * (16 * (u.val / 2)) ∨ 4 * (16 * (u.val / 2)) + 64 ≤ 4 * (16 * (t.val / 2)) := by
      by_cases e : t.val % 2 = u.val % 2
      · right; omega
      · left; intro e'; exact e (congrArg Fin.val e')
    rw [List.foldl_cons]
    refine ⟨h1.trans ?_, fun b hb => h2 b fun r => ?_⟩
    · unfold readTile tileStep Mxu.pushAcc
      rw [Mxu.read_accLhs_ne (hne := hd), Mxu.read_pushed]
    · have hr := r.isLt
      unfold tileStep Mxu.pushAcc
      rw [Mxu.live_accLhs, Mxu.live_pushed, if_neg]
      · exact hb r
      · rintro ⟨e1, e2, e3⟩
        simp only [Mxu.row] at e2 e3
        rcases hd with hd | hd | hd
        · exact hd e1
        · omega
        · omega

/-- The pass of one chunk against tile `t`. -/
def passT (cw : FVec F S256x128 .bf16 × FVec F S64x256 .bf16) (t : Fin 12) : FVec F S64x256 .f32 :=
  Mxu.passOf false (tile cw.1 (pat ⟨2 * t.val, by omega⟩) (pat ⟨2 * t.val + 1, by omega⟩), cw.2)

/-- One chunk adds its pass to a tile's rows if they are live, else leaves the pass there; they are live after it. -/
theorem chunk_read (cw : FVec F S256x128 .bf16 × FVec F S64x256 .bf16) (s : Mxu F) (hs : Empty s) (t : Fin 12) :
    (LiveTile s t false → readTile (chunkStep pat s cw) t = passT pat cw t)
      ∧ (LiveTile s t true → readTile (chunkStep pat s cw) t = addf (readTile s t) (passT pat cw t))
      ∧ LiveTile (chunkStep pat s cw) t true := by
  have hall : ∀ t : Fin 12, t ∈ ([0, 1, 2, 3, 4, 5, 6, 7, 8, 9, 10, 11] : List (Fin 12)) := by decide
  have hnd : ([0, 1, 2, 3, 4, 5, 6, 7, 8, 9, 10, 11] : List (Fin 12)).Nodup := by decide
  unfold chunkStep
  revert hnd
  obtain ⟨pre, post, e⟩ := List.append_of_mem (hall t)
  rw [e]
  intro hnd
  rw [List.nodup_append] at hnd
  obtain ⟨-, hpost, hdis⟩ := hnd
  have hpre : t ∉ pre := fun hm => hdis t hm t (List.mem_cons_self ..) rfl
  have hpost' : t ∉ post := (List.nodup_cons.mp hpost).1
  rw [List.foldl_append, List.foldl_cons]
  set s₁ := pre.foldl (tileStep cw.1 cw.2 pat) s with hs₁
  have he : Empty s₁ := Empty.foldl _ (fun _ _ h => Empty.acc h _ _ _ _ _ _ _) _ _ hs
  obtain ⟨r1, l1⟩ := tileSteps_other cw.1 cw.2 pat t pre s hpre
  obtain ⟨r2, l2⟩ := tileSteps_other cw.1 cw.2 pat t post (tileStep cw.1 cw.2 pat s₁ t) hpost'
  rw [r2]
  refine ⟨fun h => ?_, fun h => ?_, l2 _ fun r => ?_⟩
  · exact Mxu.read_pushAcc_of_not_live _ _ _ _ _ _ _ _ (he _ _) (l1 _ h)
  · rw [← r1]
    exact Mxu.read_pushAcc_of_live _ _ _ _ _ _ _ _ (he _ _) (l1 _ h)
  · exact Mxu.live_pushAcc_row _ _ _ _ _ _ _ _ _

/-- A run of chunks from rows not live leaves the chunks' passes added in order. -/
theorem chunks_read (t : Fin 12) (cw : FVec F S256x128 .bf16 × FVec F S64x256 .bf16) (l : List (FVec F S256x128 .bf16 × FVec F S64x256 .bf16))
    (s : Mxu F) (hs : Empty s) (hl : LiveTile s t false) :
    readTile ((cw :: l).foldl (chunkStep pat) s) t = l.foldl (fun a cw => addf a (passT pat cw t)) (passT pat cw t) := by
  have key : ∀ (l : List (FVec F S256x128 .bf16 × FVec F S64x256 .bf16)) (s : Mxu F), Empty s → LiveTile s t true →
      readTile (l.foldl (chunkStep pat) s) t = l.foldl (fun a cw => addf a (passT pat cw t)) (readTile s t) := by
    intro l
    induction l with
    | nil => exact fun _ _ _ => rfl
    | cons cw l ih =>
      intro s hs hl
      rw [List.foldl_cons, List.foldl_cons, ih _ (hs.chunk _ _) (chunk_read pat cw s hs t).2.2, (chunk_read pat cw s hs t).2.1 hl]
  rw [List.foldl_cons, key _ _ (hs.chunk _ _) (chunk_read pat cw s hs t).2.2, (chunk_read pat cw s hs t).1 hl]

end Acc

theorem trips_eq : k0_t1_loop.trips = 4 := by decide

/-- Chunk `n` of a grid step's sixteen. -/
def chunkAt (x2 : Vec F S4096x40 .i8) (x3 : Vec F S50x4096 .bf16) (n : Fin 16) : FVec F S256x128 .bf16 × FVec F S64x256 .bf16 :=
  chunkOf x2 x3 ⟨n.val / 4, by rw [trips_eq]; omega⟩ ⟨n.val % 4, Nat.mod_lt _ (by decide)⟩

/-- The chunks of a grid step after the first, in order. -/
def laterChunks (x2 : Vec F S4096x40 .i8) (x3 : Vec F S50x4096 .bf16) : List (FVec F S256x128 .bf16 × FVec F S64x256 .bf16) :=
  [chunkAt x2 x3 1, chunkAt x2 x3 2, chunkAt x2 x3 3, chunkAt x2 x3 4, chunkAt x2 x3 5, chunkAt x2 x3 6, chunkAt x2 x3 7, chunkAt x2 x3 8,
    chunkAt x2 x3 9, chunkAt x2 x3 10, chunkAt x2 x3 11, chunkAt x2 x3 12, chunkAt x2 x3 13, chunkAt x2 x3 14, chunkAt x2 x3 15]

theorem tripStep_eq (x2 : Vec F S4096x40 .i8) (x3 : Vec F S50x4096 .bf16) (x5 : Vec F S24x16x128 .bf16) (s : Mxu F) (k : ℕ) (hk : k < 4) :
    tripStep x2 x3 x5 s ⟨k, by rw [trips_eq]; exact hk⟩
      = [chunkAt x2 x3 ⟨4 * k, by omega⟩, chunkAt x2 x3 ⟨4 * k + 1, by omega⟩, chunkAt x2 x3 ⟨4 * k + 2, by omega⟩,
          chunkAt x2 x3 ⟨4 * k + 3, by omega⟩].foldl (chunkStep (patOf x5)) s := by
  have h : ∀ (n : Fin 16) (u : Fin 4), n.val = 4 * k + u.val → chunkOf x2 x3 ⟨k, by rw [trips_eq]; exact hk⟩ u = chunkAt x2 x3 n := by
    intro n u e
    unfold chunkAt
    congr 1
    · exact Fin.ext (by dsimp only; omega)
    · exact Fin.ext (by dsimp only; omega)
  unfold tripStep
  simp only [List.foldl_cons, List.foldl_nil]
  rw [h ⟨4 * k, by omega⟩ 0 rfl, h ⟨4 * k + 1, by omega⟩ 1 rfl, h ⟨4 * k + 2, by omega⟩ 2 rfl, h ⟨4 * k + 3, by omega⟩ 3 rfl]

theorem stateTo_succ (x2 : Vec F S4096x40 .i8) (x3 : Vec F S50x4096 .bf16) (x5 : Vec F S24x16x128 .bf16) (s : Mxu F) (k : ℕ) (hk : k < 4) :
    stateTo x2 x3 x5 s (k + 1) = tripStep x2 x3 x5 (stateTo x2 x3 x5 s k) ⟨k, by rw [trips_eq]; exact hk⟩ := by
  rw [stateTo, dif_pos]

theorem stateTo_eq (x2 : Vec F S4096x40 .i8) (x3 : Vec F S50x4096 .bf16) (x5 : Vec F S24x16x128 .bf16) (s : Mxu F) :
    stateTo x2 x3 x5 s k0_t1_loop.trips = (chunkAt x2 x3 0 :: laterChunks x2 x3).foldl (chunkStep (patOf x5)) s := by
  rw [trips_eq, stateTo_succ _ _ _ _ 3 (by decide), stateTo_succ _ _ _ _ 2 (by decide), stateTo_succ _ _ _ _ 1 (by decide),
    stateTo_succ _ _ _ _ 0 (by decide), tripStep_eq _ _ _ _ _ (by decide), tripStep_eq _ _ _ _ _ (by decide), tripStep_eq _ _ _ _ _ (by decide),
    tripStep_eq _ _ _ _ _ (by decide), ← List.foldl_append, ← List.foldl_append, ← List.foldl_append]
  rfl

/-- What a grid step adds to a tile: the sixteen chunks' passes, added in order. -/
def stepAcc (x2 : Vec F S4096x40 .i8) (x3 : Vec F S50x4096 .bf16) (x5 : Vec F S24x16x128 .bf16) (t : Fin 12) : FVec F S64x256 .f32 :=
  (laterChunks x2 x3).foldl (fun a cw => addf a (passT (patOf x5) cw t)) (passT (patOf x5) (chunkAt x2 x3 0) t)

/-- The unit's state after the loop holds each tile's sum. -/
theorem readTile_stateTo (x2 : Vec F S4096x40 .i8) (x3 : Vec F S50x4096 .bf16) (x5 : Vec F S24x16x128 .bf16) (s : Mxu F) (hs : Empty s)
    (hl : ∀ q R, s.live q R = false) (t : Fin 12) : readTile (stateTo x2 x3 x5 s k0_t1_loop.trips) t = stepAcc x2 x3 x5 t := by
  rw [stateTo_eq, chunks_read _ t _ _ s hs (fun r => hl _ _)]
  rfl

end Cert.Proof.KernelIdeal
-- ==== Proof.KernelIdeal.HistOut.lean ====
/-
  WHAT A GRID STEP of the histogram kernel leaves in its output block and in its scratch, from the stores it makes.
-/
module

public import proofs.«01_k».proof.Proof.KernelIdeal.HistMxu
public import Idealize.ShloMosaic.Lib.ValueLayout

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The grid point is the first of its histogram block. -/
abbrev first (i : grid0.Coords) : Prop :=
  Scalar.cmpi .ne (Scalar.extui (Scalar.cmpi .eq (BitVec.ofNat 32 (i 1).val) 0#32) : BitVec 32) 0#32 = 1#1

/-- The grid point is the first of all. -/
abbrev firstAll (i : grid0.Coords) : Prop :=
  Scalar.cmpi .ne (Scalar.extui (Scalar.andi (Scalar.cmpi .eq (BitVec.ofNat 32 (i 1).val) 0#32) (Scalar.cmpi .eq (BitVec.ofNat 32 (i 0).val) 0#32)) : BitVec 32) 0#32 = 1#1

theorem inbOut (t : Fin 12) : ∀ a : Fin S1x12x64x256.rank, (![0, t.val, 0, 0] : Fin 4 → Nat) a + S1x1x64x256.size a ≤ S1x12x64x256.size a := by
  have := t.isLt
  intro a; fin_cases a
  · show 0 + 1 ≤ 1; omega
  · show t.val + 1 ≤ 12; omega
  · show 0 + 64 ≤ 64; omega
  · show 0 + 256 ≤ 256; omega

/-- Tile `t`'s part of the output block. -/
abbrev outRect (t : Fin 12) : Rect S1x12x64x256 := Rect.unit (s := S1x12x64x256) ![0, t.val, 0, 0] S1x1x64x256.size (inbOut t)

/-- A grid step adds each tile's sum to the output block. -/
def outStep (X : Vec F S1x12x64x256 .f32) (A : Fin 12 → FVec F S64x256 .f32) : Vec F S1x12x64x256 .f32 :=
  fun y => FloatOps.addf (X y) (A (y 1) (ix2 (y 2) (y 3)))

/-- What the step stores for tile `t`. -/
def outPiece (X : Vec F S1x12x64x256 .f32) (A : Fin 12 → FVec F S64x256 .f32) (t : Fin 12) : View.Piece (Elt F) S1x12x64x256 .f32 :=
  ⟨outRect t, k0_pay102 (View.ld (Val := Elt F) (e' := .f32) X (outRect t)) (A t)⟩

/-- The twelve stores, last first. -/
def outPieces (X : Vec F S1x12x64x256 .f32) (A : Fin 12 → FVec F S64x256 .f32) : List (View.Piece (Elt F) S1x12x64x256 .f32) :=
  [outPiece X A 11, outPiece X A 10, outPiece X A 9, outPiece X A 8, outPiece X A 7, outPiece X A 6, outPiece X A 5, outPiece X A 4,
    outPiece X A 3, outPiece X A 2, outPiece X A 1, outPiece X A 0]

theorem outPiece_apply (X : Vec F S1x12x64x256 .f32) (A : Fin 12 → FVec F S64x256 .f32) (t : Fin 12) (x : (outRect t).shape.Idx) :
    (outPiece X A t).2 x = outStep X A ((outRect t).emb x) := by
  have h0 : (x 0).val = 0 := by have := (x 0).isLt; change _ < 1 at this; omega
  have h1 : (x 1).val = 0 := by have := (x 1).isLt; change _ < 1 at this; omega
  have e1 : ((outRect t).emb x) 1 = t := Fin.ext (by show t.val + 1 * (x 1).val = t.val; omega)
  have e2 : ((outRect t).emb x) 2 = x 2 := Fin.ext (by show 0 + 1 * (x 2).val = (x 2).val; omega)
  have e3 : ((outRect t).emb x) 3 = x 3 := Fin.ext (by show 0 + 1 * (x 3).val = (x 3).val; omega)
  have hr : (Shape.rowMajor S64x256 (ix2 (x 2) (x 3))).val = (Shape.rowMajor S1x1x64x256 x).val := by
    rw [Shape.rowMajor_val_two, Shape.rowMajor_val_four]
    show (x 2).val * 256 + (x 3).val = (((x 0).val * 1 + (x 1).val) * 64 + (x 2).val) * 256 + (x 3).val
    omega
  show shapeCast S1x1x64x256 (addf (shapeCast S64x256 (View.ld (Val := Elt F) (e' := .f32) X (outRect t)) shapeCasts_S1x1x64x256_S64x256) (A t)) shapeCasts_S64x256_S1x1x64x256 x = _
  refine (shapeCast_apply (t := S1x1x64x256) _ _ x (ix2 (x 2) (x 3)) hr).trans ?_
  unfold outStep
  rw [e1, e2, e3]
  exact congrArg (fun z => FloatOps.addf z (A t (ix2 (x 2) (x 3))))
    (shapeCast_apply (t := S64x256) (View.ld (Val := Elt F) (e' := .f32) X (outRect t)) shapeCasts_S1x1x64x256_S64x256 (ix2 (x 2) (x 3)) x hr.symm)

theorem mem_outRect (y : S1x12x64x256.Idx) (t : Fin 12) : y ∈ (outRect t).set ↔ y 1 = t := by
  constructor
  · intro h
    obtain ⟨x, rfl⟩ := (outRect t).exists_idx_of_mem h
    have h1 : (x 1).val = 0 := by have := (x 1).isLt; change _ < 1 at this; omega
    exact Fin.ext (by show t.val + 1 * (x 1).val = t.val; omega)
  · rintro rfl
    have h0 : (y 0).val = 0 := by have := (y 0).isLt; change _ < 1 at this; omega
    have e : (outRect (y 1)).emb (ix4 (0 : Fin 1) (0 : Fin 1) (y 2) (y 3)) = y := by
      funext a; fin_cases a
      · exact Fin.ext (by show 0 + 1 * 0 = (y 0).val; omega)
      · exact Fin.ext (by show (y 1).val + 1 * 0 = (y 1).val; omega)
      · exact Fin.ext (by show 0 + 1 * (y 2).val = (y 2).val; omega)
      · exact Fin.ext (by show 0 + 1 * (y 3).val = (y 3).val; omega)
    exact e ▸ (outRect (y 1)).idx_mem _

theorem outPieces_eq (X : Vec F S1x12x64x256 .f32) (A : Fin 12 → FVec F S64x256 .f32) :
    outPieces X A = [11, 10, 9, 8, 7, 6, 5, 4, 3, 2, 1, 0].map (outPiece X A) := rfl

/-- The twelve stores together are the step, over whatever the buffer held. -/
theorem read_outPieces {κ : Kind} {sp : Space} (v : View sig κ sp S1x12x64x256 .f32) (f : v.ty.Contents (Elt F)) (X : Vec F S1x12x64x256 .f32)
    (A : Fin 12 → FVec F S64x256 .f32) : v.read (Elt F) (v.writes (Elt F) f (outPieces X A)) = outStep X A := by
  have hall : ∀ t : Fin 12, t ∈ ([11, 10, 9, 8, 7, 6, 5, 4, 3, 2, 1, 0] : List (Fin 12)) := by decide
  funext y
  refine View.read_writes_apply_of_pieces v f (outStep X A) _ (fun p hp x => ?_) y ⟨outPiece X A (y 1), ?_, (mem_outRect y (y 1)).mpr rfl⟩
  · rw [outPieces_eq] at hp
    obtain ⟨t, -, rfl⟩ := List.mem_map.mp hp
    exact outPiece_apply X A t x
  · rw [outPieces_eq]
    exact List.mem_map_of_mem (hall _)

/-- The store of zeros over the whole block. -/
abbrev zeroPiece : View.Piece (Elt F) S1x12x64x256 .f32 :=
  ⟨Rect.unit ![0, 0, 0, 0] S1x12x64x256.size inb_S1x12x64x256_S1x12x64x256_0_0_0_0, k0_pay101⟩

/-- The stores of a first step: zeros, then each tile's sum added to what the block then holds. -/
def seqPieces {κ : Kind} {sp : Space} (v : View sig κ sp S1x12x64x256 .f32) (A : Fin 12 → FVec F S64x256 .f32) :
    List (Fin 12) → List (View.Piece (Elt F) S1x12x64x256 .f32)
  | [] => [zeroPiece]
  | t :: l => ⟨outRect t, k0_pay102 (v.readCov (seqPieces v A l) (outRect t).toLoadRect) (A t)⟩ :: seqPieces v A l

theorem seqPieces_eq {κ : Kind} {sp : Space} (v : View sig κ sp S1x12x64x256 .f32) (A : Fin 12 → FVec F S64x256 .f32) :
    ∀ l : List (Fin 12), l.Nodup → seqPieces v A l = l.map (outPiece k0_pay101 A) ++ [zeroPiece]
  | [], _ => rfl
  | t :: l, h => by
    have hid : ∀ x : S1x12x64x256.Idx, (zeroPiece (F := F)).1.idx x = x := fun x => funext fun a => Fin.ext (by
      fin_cases a
      · show 0 + 1 * (x 0).val = (x 0).val; omega
      · show 0 + 1 * (x 1).val = (x 1).val; omega
      · show 0 + 1 * (x 2).val = (x 2).val; omega
      · show 0 + 1 * (x 3).val = (x 3).val; omega)
    have hz : ∀ f : v.ty.Contents (Elt F), v.read (Elt F) (v.writes (Elt F) f [zeroPiece]) = (k0_pay101 : Vec F S1x12x64x256 .f32) := fun f => by
      funext y
      refine View.read_writes_apply_of_pieces v f k0_pay101 [zeroPiece] (fun p hp x => ?_) y ⟨zeroPiece, List.mem_singleton.mpr rfl, ?_⟩
      · obtain rfl := List.mem_singleton.mp hp
        rfl
      · exact (hid y) ▸ (zeroPiece (F := F)).1.idx_mem y
    rw [seqPieces, seqPieces_eq v A l (List.nodup_cons.mp h).2]
    refine congrArg₂ List.cons (congrArg (fun w => (⟨outRect t, k0_pay102 w (A t)⟩ : View.Piece (Elt F) S1x12x64x256 .f32)) ?_) rfl
    funext x
    show v.readAt (Elt F) (outRect t).toLoadRect (v.writes (Elt F) v.junk _) x = k0_pay101 ((outRect t).emb x)
    rw [View.readAt_apply, View.writes_append]
    refine (View.read_writes_apply_of_forall_not_mem v _ _ _ fun p hp hm => ?_).trans (congrFun (hz _) _)
    obtain ⟨u, hu, rfl⟩ := List.mem_map.mp hp
    have h1 := (mem_outRect _ u).mp hm
    have h2 := (mem_outRect _ t).mp ((outRect t).idx_mem x)
    exact (List.nodup_cons.mp h).1 ((h2.symm.trans h1) ▸ hu)

theorem read_seqPieces {κ : Kind} {sp : Space} (v : View sig κ sp S1x12x64x256 .f32) (f : v.ty.Contents (Elt F))
    (A : Fin 12 → FVec F S64x256 .f32) :
    v.read (Elt F) (v.writes (Elt F) f (seqPieces v A [11, 10, 9, 8, 7, 6, 5, 4, 3, 2, 1, 0])) = outStep k0_pay101 A := by
  rw [seqPieces_eq v A _ (by decide), ← outPieces_eq, View.writes_append, read_outPieces]

/-- The state after the tiles before `n` are popped. -/
def popsTo (s : Mxu F) : ℕ → Mxu F
  | 0 => s
  | n + 1 => if h : n < 12 then popTile (popsTo s n) ⟨n, h⟩ else popsTo s n

theorem readTile_popsTo (s : Mxu F) (t : Fin 12) : ∀ n, n ≤ t.val → readTile (popsTo s n) t = readTile s t
  | 0, _ => rfl
  | n + 1, h => by
    have ht := t.isLt
    rw [popsTo, dif_pos (by omega)]
    exact (readTile_pops t [⟨n, by omega⟩] _ (by simp only [List.mem_singleton]; intro e; rw [e] at h; simp at h)).trans (readTile_popsTo s t n (by omega))

/-- What each tile's pop returns, popping in order. -/
def popped (s : Mxu F) (t : Fin 12) : FVec F S64x256 .f32 := readTile (popsTo s t.val) t

/-- One more tile popped. -/
theorem pop_next {S s s' : Mxu F} {n : ℕ} (h : n < 12) (hp : s = popsTo S n) (e : s' = popTile s ⟨n, h⟩) : s' = popsTo S (n + 1) := by
  rw [popsTo, dif_pos h, ← hp]
  exact e

/-- What the pop of the next tile returns. -/
theorem read_next {S s : Mxu F} {w : FVec F S64x256 .f32} (t : Fin 12) (hp : s = popsTo S t.val) (e : w = readTile s t) : w = popped S t := by
  unfold popped
  rw [← hp]
  exact e

/-- A store of a later step, from its parts. -/
theorem piece_eq {X : Vec F S1x12x64x256 .f32} {A : Fin 12 → FVec F S64x256 .f32} {x : Vec F S1x1x64x256 .f32} {w : FVec F S64x256 .f32}
    {p : View.Piece (Elt F) S1x12x64x256 .f32} (t : Fin 12) (hx : x = View.ld (Val := Elt F) (e' := .f32) X (outRect t)) (hw : w = A t)
    (e : p = ⟨outRect t, k0_pay102 x w⟩) : p = outPiece X A t := by
  rw [e, hx, hw]
  rfl

/-- A store of a first step, from its parts. -/
theorem seq_cons {κ : Kind} {sp : Space} {v : View sig κ sp S1x12x64x256 .f32} {A : Fin 12 → FVec F S64x256 .f32} {l : List (Fin 12)}
    {L L' : List (View.Piece (Elt F) S1x12x64x256 .f32)} {w : FVec F S64x256 .f32} (t : Fin 12) (h : L = seqPieces v A l) (hw : w = A t)
    (e : L' = ⟨outRect t, k0_pay102 (v.readCov L (outRect t).toLoadRect) w⟩ :: L) : L' = seqPieces v A (t :: l) := by
  rw [e, h, hw]
  rfl

theorem inbPatRect (j : Fin 24) : ∀ a : Fin S24x16x128.rank, (![j.val, 0, 0] : Fin 3 → Nat) a + S1x16x128.size a ≤ S24x16x128.size a := inbPat j

/-- Half tile `j`'s part of the scratch. -/
abbrev patRect (j : Fin 24) : Rect S24x16x128 := Rect.unit (s := S24x16x128) ![j.val, 0, 0] S1x16x128.size (inbPat j)

/-- The pattern of half tile `j`: lane `l < 120` holds the centroid `v + 3·j + l / 40`, the others `-1`. -/
def patPay (v : BitVec 32) (j : Fin 24) : FVec F S1x16x128 .bf16 :=
  shapeCast S1x16x128 (sitofp .bf16 (select k0_pay96 (addi (broadcast S16x128 (Scalar.addi v (BitVec.ofNat 32 (3 * j.val)))) k0_pay95)
    (broadcast S16x128 4294967295#32)) : FVec F S16x128 .bf16) shapeCasts_S16x128_S1x16x128

/-- The first centroid of a histogram block. -/
abbrev baseOf (i : grid0.Coords) : BitVec 32 := Scalar.muli (BitVec.ofNat 32 (i 0).val) 72#32

/-- The scratch a first step writes. -/
def pats (i : grid0.Coords) : Vec F S24x16x128 .bf16 := fun y => patPay (baseOf i) (y 0) (ix3 (0 : Fin 1) (y 1) (y 2))

/-- The stores of the patterns, last first. -/
def patPieces (v : BitVec 32) : List (View.Piece (Elt F) S24x16x128 .bf16) :=
  [23, 22, 21, 20, 19, 18, 17, 16, 15, 14, 13, 12, 11, 10, 9, 8, 7, 6, 5, 4, 3, 2, 1, 0].map fun j => ⟨patRect j, patPay v j⟩

theorem read_patPieces {κ : Kind} {sp : Space} (w : View sig κ sp S24x16x128 .bf16) (f : w.ty.Contents (Elt F)) (i : grid0.Coords) :
    w.read (Elt F) (w.writes (Elt F) f (patPieces (baseOf i))) = (pats i : Vec F S24x16x128 .bf16) := by
  have hall : ∀ t : Fin 24, t ∈ ([23, 22, 21, 20, 19, 18, 17, 16, 15, 14, 13, 12, 11, 10, 9, 8, 7, 6, 5, 4, 3, 2, 1, 0] : List (Fin 24)) := by decide
  funext y
  refine View.read_writes_apply_of_pieces w f (pats i) _ (fun p hp x => ?_) y ⟨_, List.mem_map_of_mem (hall (y 0)), ?_⟩
  · obtain ⟨j, -, rfl⟩ := List.mem_map.mp hp
    have h0 : (x 0).val = 0 := by have := (x 0).isLt; change _ < 1 at this; omega
    have e0 : ((patRect j).emb x) 0 = j := Fin.ext (by show j.val + 1 * (x 0).val = j.val; omega)
    have ex : ix3 (0 : Fin 1) (((patRect j).emb x) 1) (((patRect j).emb x) 2) = x := by
      funext a; fin_cases a
      · exact Fin.ext (by show 0 = (x 0).val; omega)
      · exact Fin.ext (by show 0 + 1 * (x 1).val = (x 1).val; omega)
      · exact Fin.ext (by show 0 + 1 * (x 2).val = (x 2).val; omega)
    show patPay (baseOf i) j x = patPay (baseOf i) (((patRect j).emb x) 0) _
    rw [e0]
    exact congrArg (patPay (baseOf i) j) ex.symm
  · have e : (patRect (y 0)).emb (ix3 (0 : Fin 1) (y 1) (y 2)) = y := by
      funext a; fin_cases a
      · exact Fin.ext (by show (y 0).val + 1 * 0 = (y 0).val; omega)
      · exact Fin.ext (by show 0 + 1 * (y 1).val = (y 1).val; omega)
      · exact Fin.ext (by show 0 + 1 * (y 2).val = (y 2).val; omega)
    exact e ▸ (patRect (y 0)).idx_mem _

end Cert.Proof.KernelIdeal
-- ==== Proof.KernelIdeal.HistAfter.lean ====
/-
  THE MATRIX UNIT'S STATE around a grid step of the histogram kernel, and what the step leaves held.
-/
module

public import proofs.«01_k».proof.Proof.KernelIdeal.HistOut

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Body

variable (c : Dev nD) (i : grid0.Coords) (arg2 : Memref sig .tc .vmem S4096x40 .i8) (harg2 : arg2.IsWhole)
  (arg3 : Memref sig .tc .vmem S50x4096 .bf16) (harg3 : arg3.IsWhole) (arg4 : Memref sig .tc .vmem S1x12x64x256 .f32) (harg4 : arg4.IsWhole)
  (arg5 : Memref sig .tc .vmem S24x16x128 .bf16) (harg5 : arg5.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

local notation "𝕄" => MT nD τ sig Unit (Elt F) ℕ (UR sig nD τ) ℕ

theorem within_init : Within (Mxu.init : Mxu F) := fun _ _ h => Bool.noConfusion h

/-- The unit after a loop from a state with nothing in it. -/
theorem drained_after (x2 : Vec F S4096x40 .i8) (x3 : Vec F S50x4096 .bf16) (x5 : Vec F S24x16x128 .bf16) {s : Mxu F} (he : Empty s) (hw : Within s) (k : ℕ) :
    ([0, 1, 2, 3, 4, 5, 6, 7, 8, 9, 10, 11].foldl popTile (stateTo x2 x3 x5 s k)).Drained :=
  drained_pops (he.stateTo k) (hw.stateTo k)

/-- The unit with the twelve tiles popped at the entry. -/
abbrev init0 : Mxu F := [0, 1, 2, 3, 4, 5, 6, 7, 8, 9, 10, 11].foldl popTile Mxu.init

theorem empty_init : Empty (Mxu.init : Mxu F) := fun _ _ => rfl

theorem live_init0 (q : Fin 2) (R : Fin 1024) : (init0 (F := F)).live q R = false := by
  by_contra h
  exact Bool.noConfusion (live_pops _ _ q R (Bool.eq_true_of_not_eq_false h)).1

theorem popped_stateTo (x2 : Vec F S4096x40 .i8) (x3 : Vec F S50x4096 .bf16) (x5 : Vec F S24x16x128 .bf16) {s : Mxu F} (he : Empty s)
    (hl : ∀ q R, s.live q R = false) : popped (stateTo x2 x3 x5 s k0_t1_loop.trips) = stepAcc x2 x3 x5 :=
  funext fun t => (readTile_popsTo _ t _ le_rfl).trans (readTile_stateTo x2 x3 x5 s he hl t)

/-- The points-tos after the body, the scratch reading `x5` and the output block reading `X`. -/
def after (X : Vec F S1x12x64x256 .f32) (x5 : Vec F S24x16x128 .bf16) : sProp 𝕄 :=
  iprop((arg2.view.loc (c : Thread nD τ) ↦[arg2.view.set]{fullShare} f2) ∗ (arg3.view.loc (c : Thread nD τ) ↦[arg3.view.set]{fullShare} f3)
    ∗ (∃ f5, ⌜arg5.view.read (Elt F) f5 = x5⌝ ∗ (arg5.view.loc (c : Thread nD τ) ↦[arg5.view.set]{fullShare} f5))
    ∗ (∃ f4, ⌜arg4.view.read (Elt F) f4 = X⌝ ∗ (arg4.view.loc (c : Thread nD τ) ↦[arg4.view.set]{fullShare} f4)))

theorem within_init0 : Within (init0 : Mxu F) := fun q R h => by rw [live_init0] at h; cases h

end Body

end Cert.Proof.KernelIdeal
-- ==== Proof.KernelIdeal.HistLater.lean ====
/-
  A LATER GRID STEP of the histogram kernel.
-/
module

public import proofs.«01_k».proof.Proof.KernelIdeal.HistAfter

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Body

variable (c : Dev nD) (i : grid0.Coords) (arg2 : Memref sig .tc .vmem S4096x40 .i8) (harg2 : arg2.IsWhole)
  (arg3 : Memref sig .tc .vmem S50x4096 .bf16) (harg3 : arg3.IsWhole) (arg4 : Memref sig .tc .vmem S1x12x64x256 .f32) (harg4 : arg4.IsWhole)
  (arg5 : Memref sig .tc .vmem S24x16x128 .bf16) (harg5 : arg5.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

local notation "𝕄" => MT nD τ sig Unit (Elt F) ℕ (UR sig nD τ) ℕ

set_option maxHeartbeats 1000000 in
/-- A later grid step adds its sums to what the block held; the scratch is read only. -/
theorem body_later (hc : ¬ first i) (hca : ¬ firstAll i) :
    iprop(heldT c arg2 arg3 arg5 f2 f3 f5 ∗ (arg4.view.loc (c : Thread nD τ) ↦[arg4.view.set]{fullShare} f4))
      ⊢ wp frame (wpE (defs₀ (F := F)) Variants.none (c : Thread nD τ) none) Set.univ
          (cc0_hist i arg2 harg2 arg3 harg3 arg4 harg4 arg5 harg5)
          (fun _ => after c arg2 arg3 arg4 arg5 f2 f3
            (outStep (arg4.view.read (Elt F) f4) (stepAcc (arg2.view.read (Elt F) f2) (arg3.view.read (Elt F) f3) (arg5.view.read (Elt F) f5))) (arg5.view.read (Elt F) f5)) := by
  simp only [cc0_hist_eq_skeleton]; unfold cc0_hist_skel
  simp only [k0_part24_eq_skeleton, k0_part25_eq_skeleton, k0_part26_eq_skeleton, k0_part27_eq_skeleton, k0_part1_eq_skeleton, k0_part2_eq_skeleton, k0_part3_eq_skeleton, k0_part4_eq_skeleton, k0_part5_eq_skeleton, k0_part6_eq_skeleton]
  unfold heldT
  have he : Empty ((0#32 : BitVec 32), (Mxu.init : Mxu F)).2 := empty_init
  iintro ⟨⟨H2, H3, H5⟩, H4⟩
  sl_exec (disch := first | sl_exact hc | sl_exact hca | exact drained_pops (Empty.stateTo empty_init _) (Within.stateTo within_init _))
  sl_step
  have p1 : body_later.sl.k0_mxu113 c arg2 arg3 arg5 f2 f3 f5 = popsTo (body_later.sl.r c arg2 arg3 arg5 f2 f3 f5) 1 := pop_next (by decide) (s := body_later.sl.r c arg2 arg3 arg5 f2 f3 f5) rfl rfl
  have p2 : body_later.sl.k0_mxu114 c arg2 arg3 arg5 f2 f3 f5 = popsTo (body_later.sl.r c arg2 arg3 arg5 f2 f3 f5) 2 := pop_next (by decide) p1 rfl
  have p3 : body_later.sl.k0_mxu115 c arg2 arg3 arg5 f2 f3 f5 = popsTo (body_later.sl.r c arg2 arg3 arg5 f2 f3 f5) 3 := pop_next (by decide) p2 rfl
  have p4 : body_later.sl.k0_mxu116 c arg2 arg3 arg5 f2 f3 f5 = popsTo (body_later.sl.r c arg2 arg3 arg5 f2 f3 f5) 4 := pop_next (by decide) p3 rfl
  have p5 : body_later.sl.k0_mxu117 c arg2 arg3 arg5 f2 f3 f5 = popsTo (body_later.sl.r c arg2 arg3 arg5 f2 f3 f5) 5 := pop_next (by decide) p4 rfl
  have p6 : body_later.sl.k0_mxu118 c arg2 arg3 arg5 f2 f3 f5 = popsTo (body_later.sl.r c arg2 arg3 arg5 f2 f3 f5) 6 := pop_next (by decide) p5 rfl
  have p7 : body_later.sl.k0_mxu119 c arg2 arg3 arg5 f2 f3 f5 = popsTo (body_later.sl.r c arg2 arg3 arg5 f2 f3 f5) 7 := pop_next (by decide) p6 rfl
  have p8 : body_later.sl.k0_mxu120 c arg2 arg3 arg5 f2 f3 f5 = popsTo (body_later.sl.r c arg2 arg3 arg5 f2 f3 f5) 8 := pop_next (by decide) p7 rfl
  have p9 : body_later.sl.k0_mxu121 c arg2 arg3 arg5 f2 f3 f5 = popsTo (body_later.sl.r c arg2 arg3 arg5 f2 f3 f5) 9 := pop_next (by decide) p8 rfl
  have p10 : body_later.sl.k0_mxu122 c arg2 arg3 arg5 f2 f3 f5 = popsTo (body_later.sl.r c arg2 arg3 arg5 f2 f3 f5) 10 := pop_next (by decide) p9 rfl
  have p11 : body_later.sl.k0_mxu123 c arg2 arg3 arg5 f2 f3 f5 = popsTo (body_later.sl.r c arg2 arg3 arg5 f2 f3 f5) 11 := pop_next (by decide) p10 rfl
  have w0 : body_later.sl.v31_r0 c arg2 arg3 arg5 f2 f3 f5 = popped (body_later.sl.r c arg2 arg3 arg5 f2 f3 f5) 0 := read_next 0 (s := body_later.sl.r c arg2 arg3 arg5 f2 f3 f5) rfl rfl
  have w1 : body_later.sl.v38_r0 c arg2 arg3 arg5 f2 f3 f5 = popped (body_later.sl.r c arg2 arg3 arg5 f2 f3 f5) 1 := read_next 1 p1 rfl
  have w2 : body_later.sl.v45_r0 c arg2 arg3 arg5 f2 f3 f5 = popped (body_later.sl.r c arg2 arg3 arg5 f2 f3 f5) 2 := read_next 2 p2 rfl
  have w3 : body_later.sl.v52_r0 c arg2 arg3 arg5 f2 f3 f5 = popped (body_later.sl.r c arg2 arg3 arg5 f2 f3 f5) 3 := read_next 3 p3 rfl
  have w4 : body_later.sl.v59_r0 c arg2 arg3 arg5 f2 f3 f5 = popped (body_later.sl.r c arg2 arg3 arg5 f2 f3 f5) 4 := read_next 4 p4 rfl
  have w5 : body_later.sl.v66_r0 c arg2 arg3 arg5 f2 f3 f5 = popped (body_later.sl.r c arg2 arg3 arg5 f2 f3 f5) 5 := read_next 5 p5 rfl
  have w6 : body_later.sl.v73_r0 c arg2 arg3 arg5 f2 f3 f5 = popped (body_later.sl.r c arg2 arg3 arg5 f2 f3 f5) 6 := read_next 6 p6 rfl
  have w7 : body_later.sl.v80_r0 c arg2 arg3 arg5 f2 f3 f5 = popped (body_later.sl.r c arg2 arg3 arg5 f2 f3 f5) 7 := read_next 7 p7 rfl
  have w8 : body_later.sl.v87_r0 c arg2 arg3 arg5 f2 f3 f5 = popped (body_later.sl.r c arg2 arg3 arg5 f2 f3 f5) 8 := read_next 8 p8 rfl
  have w9 : body_later.sl.v94_r0 c arg2 arg3 arg5 f2 f3 f5 = popped (body_later.sl.r c arg2 arg3 arg5 f2 f3 f5) 9 := read_next 9 p9 rfl
  have w10 : body_later.sl.v101_r0 c arg2 arg3 arg5 f2 f3 f5 = popped (body_later.sl.r c arg2 arg3 arg5 f2 f3 f5) 10 := read_next 10 p10 rfl
  have w11 : (body_later.sl.k0_mxu123 c arg2 arg3 arg5 f2 f3 f5).read 1 80 fits_80_64 = popped (body_later.sl.r c arg2 arg3 arg5 f2 f3 f5) 11 := read_next 11 p11 rfl
  have hr : body_later.sl.r c arg2 arg3 arg5 f2 f3 f5 = (stateTo (arg2.view.read (Elt F) f2) (arg3.view.read (Elt F) f3) (arg5.view.read (Elt F) f5) Mxu.init k0_t1_loop.trips) := rfl
  have hA : popped (body_later.sl.r c arg2 arg3 arg5 f2 f3 f5) = stepAcc (arg2.view.read (Elt F) f2) (arg3.view.read (Elt F) f3) (arg5.view.read (Elt F) f5) := (congrArg popped hr).trans (popped_stateTo _ _ _ empty_init (fun _ _ => rfl))
  unfold after
  isplitl [H2]
  · iexact H2
  isplitl [H3]
  · iexact H3
  isplitl [H5]
  · iexists _
    isplitr
    · ipureintro
      exact rfl
    · iexact H5
  · iexists _
    isplitr
    · ipureintro
      exact (congrArg (fun L => arg4.view.read (Elt F) (arg4.view.writes (Elt F) f4 L)) (show _ = outPieces (arg4.view.read (Elt F) f4) (popped (body_later.sl.r c arg2 arg3 arg5 f2 f3 f5)) from
    congrArg₂ List.cons (piece_eq (x := (View.readAt (Elt F) arg4.view (outRect 11).toLoadRect f4)) 11 rfl w11 rfl)
    (congrArg₂ List.cons (piece_eq (x := (View.readAt (Elt F) arg4.view (outRect 10).toLoadRect f4)) 10 rfl w10 rfl)
    (congrArg₂ List.cons (piece_eq (x := (View.readAt (Elt F) arg4.view (outRect 9).toLoadRect f4)) 9 rfl w9 rfl)
    (congrArg₂ List.cons (piece_eq (x := (View.readAt (Elt F) arg4.view (outRect 8).toLoadRect f4)) 8 rfl w8 rfl)
    (congrArg₂ List.cons (piece_eq (x := (View.readAt (Elt F) arg4.view (outRect 7).toLoadRect f4)) 7 rfl w7 rfl)
    (congrArg₂ List.cons (piece_eq (x := (View.readAt (Elt F) arg4.view (outRect 6).toLoadRect f4)) 6 rfl w6 rfl)
    (congrArg₂ List.cons (piece_eq (x := (View.readAt (Elt F) arg4.view (outRect 5).toLoadRect f4)) 5 rfl w5 rfl)
    (congrArg₂ List.cons (piece_eq (x := (View.readAt (Elt F) arg4.view (outRect 4).toLoadRect f4)) 4 rfl w4 rfl)
    (congrArg₂ List.cons (piece_eq (x := (View.readAt (Elt F) arg4.view (outRect 3).toLoadRect f4)) 3 rfl w3 rfl)
    (congrArg₂ List.cons (piece_eq (x := (View.readAt (Elt F) arg4.view (outRect 2).toLoadRect f4)) 2 rfl w2 rfl)
    (congrArg₂ List.cons (piece_eq (x := (View.readAt (Elt F) arg4.view (outRect 1).toLoadRect f4)) 1 rfl w1 rfl)
    (congrArg₂ List.cons (piece_eq (x := (View.readAt (Elt F) arg4.view (outRect 0).toLoadRect f4)) 0 rfl w0 rfl) rfl))))))))))))).trans
        ((read_outPieces arg4.view f4 _ _).trans (congrArg (outStep _) hA))
    · iexact H4

end Body

end Cert.Proof.KernelIdeal
-- ==== Proof.KernelIdeal.HistFirst.lean ====
/-
  A FIRST GRID STEP of the histogram kernel, in a later histogram block.
-/
module

public import proofs.«01_k».proof.Proof.KernelIdeal.HistAfter

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Body

variable (c : Dev nD) (i : grid0.Coords) (arg2 : Memref sig .tc .vmem S4096x40 .i8) (harg2 : arg2.IsWhole)
  (arg3 : Memref sig .tc .vmem S50x4096 .bf16) (harg3 : arg3.IsWhole) (arg4 : Memref sig .tc .vmem S1x12x64x256 .f32) (harg4 : arg4.IsWhole)
  (arg5 : Memref sig .tc .vmem S24x16x128 .bf16) (harg5 : arg5.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

local notation "𝕄" => MT nD τ sig Unit (Elt F) ℕ (UR sig nD τ) ℕ

set_option maxHeartbeats 1000000 in
/-- A first grid step of a histogram block writes the patterns and starts the block's sums. -/
theorem body_first (hc : first i) (hca : ¬ firstAll i) :
    iprop(heldT c arg2 arg3 arg5 f2 f3 f5 ∗ (arg4.view.loc (c : Thread nD τ) ↦[arg4.view.set]{fullShare} f4))
      ⊢ wp frame (wpE (defs₀ (F := F)) Variants.none (c : Thread nD τ) none) Set.univ
          (cc0_hist i arg2 harg2 arg3 harg3 arg4 harg4 arg5 harg5)
          (fun _ => after c arg2 arg3 arg4 arg5 f2 f3
            (outStep k0_pay101 (stepAcc (arg2.view.read (Elt F) f2) (arg3.view.read (Elt F) f3) (pats i))) (pats i)) := by
  simp only [cc0_hist_eq_skeleton]; unfold cc0_hist_skel
  simp only [k0_part24_eq_skeleton, k0_part25_eq_skeleton, k0_part26_eq_skeleton, k0_part27_eq_skeleton, k0_part1_eq_skeleton, k0_part2_eq_skeleton, k0_part3_eq_skeleton, k0_part4_eq_skeleton, k0_part5_eq_skeleton, k0_part6_eq_skeleton]
  unfold heldT
  have he : Empty ((0#32 : BitVec 32), (Mxu.init : Mxu F)).2 := empty_init
  iintro ⟨⟨H2, H3, H5⟩, H4⟩
  sl_exec (disch := first | sl_exact hc | sl_exact hca | exact he | exact drained_pops (Empty.stateTo empty_init _) (Within.stateTo within_init _))
  sl_step
  have p1 : body_first.sl.k0_mxu113 c i arg2 arg3 arg5 f2 f3 = popsTo (body_first.sl.r c i arg2 arg3 arg5 f2 f3) 1 := pop_next (by decide) (s := body_first.sl.r c i arg2 arg3 arg5 f2 f3) rfl rfl
  have p2 : body_first.sl.k0_mxu114 c i arg2 arg3 arg5 f2 f3 = popsTo (body_first.sl.r c i arg2 arg3 arg5 f2 f3) 2 := pop_next (by decide) p1 rfl
  have p3 : body_first.sl.k0_mxu115 c i arg2 arg3 arg5 f2 f3 = popsTo (body_first.sl.r c i arg2 arg3 arg5 f2 f3) 3 := pop_next (by decide) p2 rfl
  have p4 : body_first.sl.k0_mxu116 c i arg2 arg3 arg5 f2 f3 = popsTo (body_first.sl.r c i arg2 arg3 arg5 f2 f3) 4 := pop_next (by decide) p3 rfl
  have p5 : body_first.sl.k0_mxu117 c i arg2 arg3 arg5 f2 f3 = popsTo (body_first.sl.r c i arg2 arg3 arg5 f2 f3) 5 := pop_next (by decide) p4 rfl
  have p6 : body_first.sl.k0_mxu118 c i arg2 arg3 arg5 f2 f3 = popsTo (body_first.sl.r c i arg2 arg3 arg5 f2 f3) 6 := pop_next (by decide) p5 rfl
  have p7 : body_first.sl.k0_mxu119 c i arg2 arg3 arg5 f2 f3 = popsTo (body_first.sl.r c i arg2 arg3 arg5 f2 f3) 7 := pop_next (by decide) p6 rfl
  have p8 : body_first.sl.k0_mxu120 c i arg2 arg3 arg5 f2 f3 = popsTo (body_first.sl.r c i arg2 arg3 arg5 f2 f3) 8 := pop_next (by decide) p7 rfl
  have p9 : body_first.sl.k0_mxu121 c i arg2 arg3 arg5 f2 f3 = popsTo (body_first.sl.r c i arg2 arg3 arg5 f2 f3) 9 := pop_next (by decide) p8 rfl
  have p10 : body_first.sl.k0_mxu122 c i arg2 arg3 arg5 f2 f3 = popsTo (body_first.sl.r c i arg2 arg3 arg5 f2 f3) 10 := pop_next (by decide) p9 rfl
  have p11 : body_first.sl.k0_mxu123 c i arg2 arg3 arg5 f2 f3 = popsTo (body_first.sl.r c i arg2 arg3 arg5 f2 f3) 11 := pop_next (by decide) p10 rfl
  have w0 : body_first.sl.v31_r0 c i arg2 arg3 arg5 f2 f3 = popped (body_first.sl.r c i arg2 arg3 arg5 f2 f3) 0 := read_next 0 (s := body_first.sl.r c i arg2 arg3 arg5 f2 f3) rfl rfl
  have w1 : body_first.sl.v38_r0 c i arg2 arg3 arg5 f2 f3 = popped (body_first.sl.r c i arg2 arg3 arg5 f2 f3) 1 := read_next 1 p1 rfl
  have w2 : body_first.sl.v45_r0 c i arg2 arg3 arg5 f2 f3 = popped (body_first.sl.r c i arg2 arg3 arg5 f2 f3) 2 := read_next 2 p2 rfl
  have w3 : body_first.sl.v52_r0 c i arg2 arg3 arg5 f2 f3 = popped (body_first.sl.r c i arg2 arg3 arg5 f2 f3) 3 := read_next 3 p3 rfl
  have w4 : body_first.sl.v59_r0 c i arg2 arg3 arg5 f2 f3 = popped (body_first.sl.r c i arg2 arg3 arg5 f2 f3) 4 := read_next 4 p4 rfl
  have w5 : body_first.sl.v66_r0 c i arg2 arg3 arg5 f2 f3 = popped (body_first.sl.r c i arg2 arg3 arg5 f2 f3) 5 := read_next 5 p5 rfl
  have w6 : body_first.sl.v73_r0 c i arg2 arg3 arg5 f2 f3 = popped (body_first.sl.r c i arg2 arg3 arg5 f2 f3) 6 := read_next 6 p6 rfl
  have w7 : body_first.sl.v80_r0 c i arg2 arg3 arg5 f2 f3 = popped (body_first.sl.r c i arg2 arg3 arg5 f2 f3) 7 := read_next 7 p7 rfl
  have w8 : body_first.sl.v87_r0 c i arg2 arg3 arg5 f2 f3 = popped (body_first.sl.r c i arg2 arg3 arg5 f2 f3) 8 := read_next 8 p8 rfl
  have w9 : body_first.sl.v94_r0 c i arg2 arg3 arg5 f2 f3 = popped (body_first.sl.r c i arg2 arg3 arg5 f2 f3) 9 := read_next 9 p9 rfl
  have w10 : body_first.sl.v101_r0 c i arg2 arg3 arg5 f2 f3 = popped (body_first.sl.r c i arg2 arg3 arg5 f2 f3) 10 := read_next 10 p10 rfl
  have w11 : (body_first.sl.k0_mxu123 c i arg2 arg3 arg5 f2 f3).read 1 80 fits_80_64 = popped (body_first.sl.r c i arg2 arg3 arg5 f2 f3) 11 := read_next 11 p11 rfl
  have q1 : body_first.sl.H4_1 (F := F) = seqPieces arg4.view (popped (body_first.sl.r c i arg2 arg3 arg5 f2 f3)) [] := rfl
  have q2 : body_first.sl.H4_2 c i arg2 arg3 arg4 arg5 f2 f3 = seqPieces arg4.view (popped (body_first.sl.r c i arg2 arg3 arg5 f2 f3)) [0] := seq_cons 0 q1 w0 rfl
  have q3 : body_first.sl.H4_3 c i arg2 arg3 arg4 arg5 f2 f3 = seqPieces arg4.view (popped (body_first.sl.r c i arg2 arg3 arg5 f2 f3)) [1, 0] := seq_cons 1 q2 w1 rfl
  have q4 : body_first.sl.H4_4 c i arg2 arg3 arg4 arg5 f2 f3 = seqPieces arg4.view (popped (body_first.sl.r c i arg2 arg3 arg5 f2 f3)) [2, 1, 0] := seq_cons 2 q3 w2 rfl
  have q5 : body_first.sl.H4_5 c i arg2 arg3 arg4 arg5 f2 f3 = seqPieces arg4.view (popped (body_first.sl.r c i arg2 arg3 arg5 f2 f3)) [3, 2, 1, 0] := seq_cons 3 q4 w3 rfl
  have q6 : body_first.sl.H4_6 c i arg2 arg3 arg4 arg5 f2 f3 = seqPieces arg4.view (popped (body_first.sl.r c i arg2 arg3 arg5 f2 f3)) [4, 3, 2, 1, 0] := seq_cons 4 q5 w4 rfl
  have q7 : body_first.sl.H4_7 c i arg2 arg3 arg4 arg5 f2 f3 = seqPieces arg4.view (popped (body_first.sl.r c i arg2 arg3 arg5 f2 f3)) [5, 4, 3, 2, 1, 0] := seq_cons 5 q6 w5 rfl
  have q8 : body_first.sl.H4_8 c i arg2 arg3 arg4 arg5 f2 f3 = seqPieces arg4.view (popped (body_first.sl.r c i arg2 arg3 arg5 f2 f3)) [6, 5, 4, 3, 2, 1, 0] := seq_cons 6 q7 w6 rfl
  have q9 : body_first.sl.H4_9 c i arg2 arg3 arg4 arg5 f2 f3 = seqPieces arg4.view (popped (body_first.sl.r c i arg2 arg3 arg5 f2 f3)) [7, 6, 5, 4, 3, 2, 1, 0] := seq_cons 7 q8 w7 rfl
  have q10 : body_first.sl.H4_10 c i arg2 arg3 arg4 arg5 f2 f3 = seqPieces arg4.view (popped (body_first.sl.r c i arg2 arg3 arg5 f2 f3)) [8, 7, 6, 5, 4, 3, 2, 1, 0] := seq_cons 8 q9 w8 rfl
  have q11 : body_first.sl.H4_11 c i arg2 arg3 arg4 arg5 f2 f3 = seqPieces arg4.view (popped (body_first.sl.r c i arg2 arg3 arg5 f2 f3)) [9, 8, 7, 6, 5, 4, 3, 2, 1, 0] := seq_cons 9 q10 w9 rfl
  have q12 : body_first.sl.H4_12 c i arg2 arg3 arg4 arg5 f2 f3 = seqPieces arg4.view (popped (body_first.sl.r c i arg2 arg3 arg5 f2 f3)) [10, 9, 8, 7, 6, 5, 4, 3, 2, 1, 0] := seq_cons 10 q11 w10 rfl
  have h5 : body_first.sl.H5_24 (F := F) i = patPieces (baseOf i) := rfl
  have hr : body_first.sl.r c i arg2 arg3 arg5 f2 f3 = (stateTo (arg2.view.read (Elt F) f2) (arg3.view.read (Elt F) f3) (arg5.view.read (Elt F) (arg5.view.writes (Elt F) arg5.view.junk (body_first.sl.H5_24 i))) Mxu.init k0_t1_loop.trips) := rfl
  have hA : popped (body_first.sl.r c i arg2 arg3 arg5 f2 f3) = stepAcc (arg2.view.read (Elt F) f2) (arg3.view.read (Elt F) f3) (pats i) := by
    rw [hr, h5, read_patPieces, popped_stateTo _ _ _ empty_init (fun _ _ => rfl)]
  unfold after
  isplitl [H2]
  · iexact H2
  isplitl [H3]
  · iexact H3
  isplitl [H5]
  · iexists _
    isplitr
    · ipureintro
      exact (congrArg (fun L => arg5.view.read (Elt F) (arg5.view.writes (Elt F) arg5.view.junk L)) h5).trans (read_patPieces arg5.view _ i)
    · iexact H5
  · iexists _
    isplitr
    · ipureintro
      exact (congrArg (fun L => arg4.view.read (Elt F) (arg4.view.writes (Elt F) f4 L)) (seq_cons 11 q12 w11 rfl)).trans
        ((read_seqPieces arg4.view f4 _).trans (congrArg (outStep _) hA))
    · iexact H4

end Body

end Cert.Proof.KernelIdeal
-- ==== Proof.KernelIdeal.HistFirstAll.lean ====
/-
  THE FIRST GRID STEP OF ALL of the histogram kernel.
-/
module

public import proofs.«01_k».proof.Proof.KernelIdeal.HistAfter

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Body

variable (c : Dev nD) (i : grid0.Coords) (arg2 : Memref sig .tc .vmem S4096x40 .i8) (harg2 : arg2.IsWhole)
  (arg3 : Memref sig .tc .vmem S50x4096 .bf16) (harg3 : arg3.IsWhole) (arg4 : Memref sig .tc .vmem S1x12x64x256 .f32) (harg4 : arg4.IsWhole)
  (arg5 : Memref sig .tc .vmem S24x16x128 .bf16) (harg5 : arg5.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))

local notation "𝕄" => MT nD τ sig Unit (Elt F) ℕ (UR sig nD τ) ℕ

set_option maxHeartbeats 1000000 in
/-- A first grid step of a histogram block writes the patterns and starts the block's sums (the first of all). -/
theorem body_firstAll (hc : first i) (hca :  firstAll i) :
    iprop(heldT c arg2 arg3 arg5 f2 f3 f5 ∗ (arg4.view.loc (c : Thread nD τ) ↦[arg4.view.set]{fullShare} f4))
      ⊢ wp frame (wpE (defs₀ (F := F)) Variants.none (c : Thread nD τ) none) Set.univ
          (cc0_hist i arg2 harg2 arg3 harg3 arg4 harg4 arg5 harg5)
          (fun _ => after c arg2 arg3 arg4 arg5 f2 f3
            (outStep k0_pay101 (stepAcc (arg2.view.read (Elt F) f2) (arg3.view.read (Elt F) f3) (pats i))) (pats i)) := by
  simp only [cc0_hist_eq_skeleton]; unfold cc0_hist_skel
  simp only [k0_part24_eq_skeleton, k0_part25_eq_skeleton, k0_part26_eq_skeleton, k0_part27_eq_skeleton, k0_part1_eq_skeleton, k0_part2_eq_skeleton, k0_part3_eq_skeleton, k0_part4_eq_skeleton, k0_part5_eq_skeleton, k0_part6_eq_skeleton]
  unfold heldT
  have he : Empty ((0#32 : BitVec 32), (init0 : Mxu F)).2 := (Empty.pops _ empty_init)
  iintro ⟨⟨H2, H3, H5⟩, H4⟩
  sl_exec (disch := first | sl_exact hc | sl_exact hca | exact he | exact drained_pops (Empty.stateTo (Empty.pops _ empty_init) _) (Within.stateTo within_init0 _))
  sl_step
  have p1 : body_firstAll.sl.k0_mxu113 c i arg2 arg3 arg5 f2 f3 = popsTo (body_firstAll.sl.r c i arg2 arg3 arg5 f2 f3) 1 := pop_next (by decide) (s := body_firstAll.sl.r c i arg2 arg3 arg5 f2 f3) rfl rfl
  have p2 : body_firstAll.sl.k0_mxu114 c i arg2 arg3 arg5 f2 f3 = popsTo (body_firstAll.sl.r c i arg2 arg3 arg5 f2 f3) 2 := pop_next (by decide) p1 rfl
  have p3 : body_firstAll.sl.k0_mxu115 c i arg2 arg3 arg5 f2 f3 = popsTo (body_firstAll.sl.r c i arg2 arg3 arg5 f2 f3) 3 := pop_next (by decide) p2 rfl
  have p4 : body_firstAll.sl.k0_mxu116 c i arg2 arg3 arg5 f2 f3 = popsTo (body_firstAll.sl.r c i arg2 arg3 arg5 f2 f3) 4 := pop_next (by decide) p3 rfl
  have p5 : body_firstAll.sl.k0_mxu117 c i arg2 arg3 arg5 f2 f3 = popsTo (body_firstAll.sl.r c i arg2 arg3 arg5 f2 f3) 5 := pop_next (by decide) p4 rfl
  have p6 : body_firstAll.sl.k0_mxu118 c i arg2 arg3 arg5 f2 f3 = popsTo (body_firstAll.sl.r c i arg2 arg3 arg5 f2 f3) 6 := pop_next (by decide) p5 rfl
  have p7 : body_firstAll.sl.k0_mxu119 c i arg2 arg3 arg5 f2 f3 = popsTo (body_firstAll.sl.r c i arg2 arg3 arg5 f2 f3) 7 := pop_next (by decide) p6 rfl
  have p8 : body_firstAll.sl.k0_mxu120 c i arg2 arg3 arg5 f2 f3 = popsTo (body_firstAll.sl.r c i arg2 arg3 arg5 f2 f3) 8 := pop_next (by decide) p7 rfl
  have p9 : body_firstAll.sl.k0_mxu121 c i arg2 arg3 arg5 f2 f3 = popsTo (body_firstAll.sl.r c i arg2 arg3 arg5 f2 f3) 9 := pop_next (by decide) p8 rfl
  have p10 : body_firstAll.sl.k0_mxu122 c i arg2 arg3 arg5 f2 f3 = popsTo (body_firstAll.sl.r c i arg2 arg3 arg5 f2 f3) 10 := pop_next (by decide) p9 rfl
  have p11 : body_firstAll.sl.k0_mxu123 c i arg2 arg3 arg5 f2 f3 = popsTo (body_firstAll.sl.r c i arg2 arg3 arg5 f2 f3) 11 := pop_next (by decide) p10 rfl
  have w0 : body_firstAll.sl.v31_r0 c i arg2 arg3 arg5 f2 f3 = popped (body_firstAll.sl.r c i arg2 arg3 arg5 f2 f3) 0 := read_next 0 (s := body_firstAll.sl.r c i arg2 arg3 arg5 f2 f3) rfl rfl
  have w1 : body_firstAll.sl.v38_r0 c i arg2 arg3 arg5 f2 f3 = popped (body_firstAll.sl.r c i arg2 arg3 arg5 f2 f3) 1 := read_next 1 p1 rfl
  have w2 : body_firstAll.sl.v45_r0 c i arg2 arg3 arg5 f2 f3 = popped (body_firstAll.sl.r c i arg2 arg3 arg5 f2 f3) 2 := read_next 2 p2 rfl
  have w3 : body_firstAll.sl.v52_r0 c i arg2 arg3 arg5 f2 f3 = popped (body_firstAll.sl.r c i arg2 arg3 arg5 f2 f3) 3 := read_next 3 p3 rfl
  have w4 : body_firstAll.sl.v59_r0 c i arg2 arg3 arg5 f2 f3 = popped (body_firstAll.sl.r c i arg2 arg3 arg5 f2 f3) 4 := read_next 4 p4 rfl
  have w5 : body_firstAll.sl.v66_r0 c i arg2 arg3 arg5 f2 f3 = popped (body_firstAll.sl.r c i arg2 arg3 arg5 f2 f3) 5 := read_next 5 p5 rfl
  have w6 : body_firstAll.sl.v73_r0 c i arg2 arg3 arg5 f2 f3 = popped (body_firstAll.sl.r c i arg2 arg3 arg5 f2 f3) 6 := read_next 6 p6 rfl
  have w7 : body_firstAll.sl.v80_r0 c i arg2 arg3 arg5 f2 f3 = popped (body_firstAll.sl.r c i arg2 arg3 arg5 f2 f3) 7 := read_next 7 p7 rfl
  have w8 : body_firstAll.sl.v87_r0 c i arg2 arg3 arg5 f2 f3 = popped (body_firstAll.sl.r c i arg2 arg3 arg5 f2 f3) 8 := read_next 8 p8 rfl
  have w9 : body_firstAll.sl.v94_r0 c i arg2 arg3 arg5 f2 f3 = popped (body_firstAll.sl.r c i arg2 arg3 arg5 f2 f3) 9 := read_next 9 p9 rfl
  have w10 : body_firstAll.sl.v101_r0 c i arg2 arg3 arg5 f2 f3 = popped (body_firstAll.sl.r c i arg2 arg3 arg5 f2 f3) 10 := read_next 10 p10 rfl
  have w11 : (body_firstAll.sl.k0_mxu123 c i arg2 arg3 arg5 f2 f3).read 1 80 fits_80_64 = popped (body_firstAll.sl.r c i arg2 arg3 arg5 f2 f3) 11 := read_next 11 p11 rfl
  have q1 : body_firstAll.sl.H4_1 (F := F) = seqPieces arg4.view (popped (body_firstAll.sl.r c i arg2 arg3 arg5 f2 f3)) [] := rfl
  have q2 : body_firstAll.sl.H4_2 c i arg2 arg3 arg4 arg5 f2 f3 = seqPieces arg4.view (popped (body_firstAll.sl.r c i arg2 arg3 arg5 f2 f3)) [0] := seq_cons 0 q1 w0 rfl
  have q3 : body_firstAll.sl.H4_3 c i arg2 arg3 arg4 arg5 f2 f3 = seqPieces arg4.view (popped (body_firstAll.sl.r c i arg2 arg3 arg5 f2 f3)) [1, 0] := seq_cons 1 q2 w1 rfl
  have q4 : body_firstAll.sl.H4_4 c i arg2 arg3 arg4 arg5 f2 f3 = seqPieces arg4.view (popped (body_firstAll.sl.r c i arg2 arg3 arg5 f2 f3)) [2, 1, 0] := seq_cons 2 q3 w2 rfl
  have q5 : body_firstAll.sl.H4_5 c i arg2 arg3 arg4 arg5 f2 f3 = seqPieces arg4.view (popped (body_firstAll.sl.r c i arg2 arg3 arg5 f2 f3)) [3, 2, 1, 0] := seq_cons 3 q4 w3 rfl
  have q6 : body_firstAll.sl.H4_6 c i arg2 arg3 arg4 arg5 f2 f3 = seqPieces arg4.view (popped (body_firstAll.sl.r c i arg2 arg3 arg5 f2 f3)) [4, 3, 2, 1, 0] := seq_cons 4 q5 w4 rfl
  have q7 : body_firstAll.sl.H4_7 c i arg2 arg3 arg4 arg5 f2 f3 = seqPieces arg4.view (popped (body_firstAll.sl.r c i arg2 arg3 arg5 f2 f3)) [5, 4, 3, 2, 1, 0] := seq_cons 5 q6 w5 rfl
  have q8 : body_firstAll.sl.H4_8 c i arg2 arg3 arg4 arg5 f2 f3 = seqPieces arg4.view (popped (body_firstAll.sl.r c i arg2 arg3 arg5 f2 f3)) [6, 5, 4, 3, 2, 1, 0] := seq_cons 6 q7 w6 rfl
  have q9 : body_firstAll.sl.H4_9 c i arg2 arg3 arg4 arg5 f2 f3 = seqPieces arg4.view (popped (body_firstAll.sl.r c i arg2 arg3 arg5 f2 f3)) [7, 6, 5, 4, 3, 2, 1, 0] := seq_cons 7 q8 w7 rfl
  have q10 : body_firstAll.sl.H4_10 c i arg2 arg3 arg4 arg5 f2 f3 = seqPieces arg4.view (popped (body_firstAll.sl.r c i arg2 arg3 arg5 f2 f3)) [8, 7, 6, 5, 4, 3, 2, 1, 0] := seq_cons 8 q9 w8 rfl
  have q11 : body_firstAll.sl.H4_11 c i arg2 arg3 arg4 arg5 f2 f3 = seqPieces arg4.view (popped (body_firstAll.sl.r c i arg2 arg3 arg5 f2 f3)) [9, 8, 7, 6, 5, 4, 3, 2, 1, 0] := seq_cons 9 q10 w9 rfl
  have q12 : body_firstAll.sl.H4_12 c i arg2 arg3 arg4 arg5 f2 f3 = seqPieces arg4.view (popped (body_firstAll.sl.r c i arg2 arg3 arg5 f2 f3)) [10, 9, 8, 7, 6, 5, 4, 3, 2, 1, 0] := seq_cons 10 q11 w10 rfl
  have h5 : body_firstAll.sl.H5_24 (F := F) i = patPieces (baseOf i) := rfl
  have hr : body_firstAll.sl.r c i arg2 arg3 arg5 f2 f3 = (stateTo (arg2.view.read (Elt F) f2) (arg3.view.read (Elt F) f3) (arg5.view.read (Elt F) (arg5.view.writes (Elt F) arg5.view.junk (body_firstAll.sl.H5_24 i))) init0 k0_t1_loop.trips) := rfl
  have hA : popped (body_firstAll.sl.r c i arg2 arg3 arg5 f2 f3) = stepAcc (arg2.view.read (Elt F) f2) (arg3.view.read (Elt F) f3) (pats i) := by
    rw [hr, h5, read_patPieces, popped_stateTo _ _ _ (Empty.pops _ empty_init) live_init0]
  unfold after
  isplitl [H2]
  · iexact H2
  isplitl [H3]
  · iexact H3
  isplitl [H5]
  · iexists _
    isplitr
    · ipureintro
      exact (congrArg (fun L => arg5.view.read (Elt F) (arg5.view.writes (Elt F) arg5.view.junk L)) h5).trans (read_patPieces arg5.view _ i)
    · iexact H5
  · iexists _
    isplitr
    · ipureintro
      exact (congrArg (fun L => arg4.view.read (Elt F) (arg4.view.writes (Elt F) f4 L)) (seq_cons 11 q12 w11 rfl)).trans
        ((read_seqPieces arg4.view f4 _).trans (congrArg (outStep _) hA))
    · iexact H4

end Body

end Cert.Proof.KernelIdeal
-- ==== Proof.KernelIdeal.Reg0.lean ====
/-
  THE FIRST REGION: the histogram call's proof data, point by point, and its body obligation.
-/
module

public import proofs.«01_k».proof.Proof.KernelIdeal.HistLater
public import proofs.«01_k».proof.Proof.KernelIdeal.HistFirst
public import proofs.«01_k».proof.Proof.KernelIdeal.HistFirstAll
public import Idealize.ShloMosaic.Lib.Pipeline.FrameBody
public import Idealize.ShloMosaic.Lib.WordCmp
public import proofs.«01_k».proof.Proof.Gen.KernelIdeal.Points
public import proofs.«01_k».proof.Proof.Gen.KernelIdeal.Regions

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

/-! ## One grid step -/

/-- What a grid step leaves in the output block and in the scratch, from the two input blocks and from what it found. -/
def stepOut (i : grid0.Coords) (x2 : Vec F S4096x40 .i8) (x3 : Vec F S50x4096 .bf16) (p : Vec F S1x12x64x256 .f32 × Vec F S24x16x128 .bf16) :
    Vec F S1x12x64x256 .f32 × Vec F S24x16x128 .bf16 :=
  if first i then (outStep k0_pay101 (stepAcc x2 x3 (pats i)), pats i) else (outStep p.1 (stepAcc x2 x3 p.2), p.2)

theorem stepOut_first (i : grid0.Coords) (hc : first i) (x2 : Vec F S4096x40 .i8) (x3 : Vec F S50x4096 .bf16) (p) :
    stepOut i x2 x3 p = (outStep k0_pay101 (stepAcc x2 x3 (pats i)), pats i) := if_pos hc
theorem stepOut_later (i : grid0.Coords) (hc : ¬ first i) (x2 : Vec F S4096x40 .i8) (x3 : Vec F S50x4096 .bf16) (p) :
    stepOut i x2 x3 p = (outStep p.1 (stepAcc x2 x3 p.2), p.2) := if_neg hc

section Body

variable (c : Dev nD) (i : grid0.Coords) (arg2 : Memref sig .tc .vmem S4096x40 .i8) (harg2 : arg2.IsWhole)
  (arg3 : Memref sig .tc .vmem S50x4096 .bf16) (harg3 : arg3.IsWhole) (arg4 : Memref sig .tc .vmem S1x12x64x256 .f32) (harg4 : arg4.IsWhole)
  (arg5 : Memref sig .tc .vmem S24x16x128 .bf16) (harg5 : arg5.IsWhole)

/-- The state a run of the body ends in, as owned memrefs. -/
theorem after_owns (f2 : Buf (Elt F) (arg2.view.loc (c : Thread nD τ))) (f3 : Buf (Elt F) (arg3.view.loc (c : Thread nD τ))) (X : Vec F S1x12x64x256 .f32) (x5 : Vec F S24x16x128 .bf16) :
    after c arg2 arg3 arg4 arg5 f2 f3 X x5
      ⊢ (iprop(owns (c : Thread nD τ) arg2 fullShare (arg2.view.read (Elt F) f2) ∗ owns (c : Thread nD τ) arg3 fullShare (arg3.view.read (Elt F) f3)
        ∗ owns (c : Thread nD τ) arg4 fullShare X ∗ owns (c : Thread nD τ) arg5 fullShare x5) : sProp 𝕄) := by
  unfold after owns
  iintro ⟨H2, H3, H5, H4⟩
  isplitl [H2]
  · iexists f2; isplitr; · ipureintro; rfl
    iexact H2
  isplitl [H3]
  · iexists f3; isplitr; · ipureintro; rfl
    iexact H3
  isplitl [H4]; · iexact H4
  iexact H5

/-- One grid step on owned memrefs: the inputs stay, the output block and the scratch become `stepOut`. -/
theorem body_owns (hfa : firstAll i → first i) (x2 : Vec F S4096x40 .i8) (x3 : Vec F S50x4096 .bf16) (p : Vec F S1x12x64x256 .f32 × Vec F S24x16x128 .bf16) :
    (iprop(owns (c : Thread nD τ) arg2 fullShare x2 ∗ owns (c : Thread nD τ) arg3 fullShare x3
        ∗ owns (c : Thread nD τ) arg4 fullShare p.1 ∗ owns (c : Thread nD τ) arg5 fullShare p.2) : sProp 𝕄)
      ⊢ wp frame (wpE (defs₀ (F := F)) Variants.none (c : Thread nD τ) none) Set.univ
          (cc0_hist i arg2 harg2 arg3 harg3 arg4 harg4 arg5 harg5)
          (fun _ => iprop(owns (c : Thread nD τ) arg2 fullShare x2 ∗ owns (c : Thread nD τ) arg3 fullShare x3
            ∗ owns (c : Thread nD τ) arg4 fullShare (stepOut i x2 x3 p).1 ∗ owns (c : Thread nD τ) arg5 fullShare (stepOut i x2 x3 p).2)) := by
  have hopen : (iprop(owns (c : Thread nD τ) arg2 fullShare x2 ∗ owns (c : Thread nD τ) arg3 fullShare x3
        ∗ owns (c : Thread nD τ) arg4 fullShare p.1 ∗ owns (c : Thread nD τ) arg5 fullShare p.2) : sProp 𝕄)
      ⊢ iprop(∃ f2 f3 f4 f5, ⌜arg2.view.read (Elt F) f2 = x2 ∧ arg3.view.read (Elt F) f3 = x3 ∧ arg4.view.read (Elt F) f4 = p.1 ∧ arg5.view.read (Elt F) f5 = p.2⌝
        ∗ (heldT c arg2 arg3 arg5 f2 f3 f5 ∗ (arg4.view.loc (c : Thread nD τ) ↦[arg4.view.set]{fullShare} f4))) := by
    unfold owns heldT
    iintro ⟨⟨%f2, %h2, H2⟩, ⟨%f3, %h3, H3⟩, ⟨%f4, %h4, H4⟩, ⟨%f5, %h5, H5⟩⟩
    iexists f2, f3, f4, f5
    isplitr; · ipureintro; exact ⟨h2, h3, h4, h5⟩
    isplitr [H4]
    · isplitl [H2]; · iexact H2
      isplitl [H3]; · iexact H3
      iexact H5
    iexact H4
  refine hopen.trans ?_
  iintro ⟨%f2, %f3, %f4, %f5, %h, H⟩
  obtain ⟨p4, p5⟩ := p
  obtain ⟨h2, h3, h4, h5⟩ := h
  dsimp only at h4 h5
  subst h2 h3 h4 h5
  istop
  by_cases hc : first i
  · rw [stepOut_first i hc]
    by_cases hca : firstAll i
    · exact (body_firstAll c i arg2 harg2 arg3 harg3 arg4 harg4 arg5 harg5 f2 f3 f4 f5 hc hca).trans (wp_mono _ _ _ fun _ => after_owns c arg2 arg3 arg4 arg5 f2 f3 _ _)
    · exact (body_first c i arg2 harg2 arg3 harg3 arg4 harg4 arg5 harg5 f2 f3 f4 f5 hc hca).trans (wp_mono _ _ _ fun _ => after_owns c arg2 arg3 arg4 arg5 f2 f3 _ _)
  · rw [stepOut_later i hc]
    exact (body_later c i arg2 harg2 arg3 harg3 arg4 harg4 arg5 harg5 f2 f3 f4 f5 hc fun h => hc (hfa h)).trans (wp_mono _ _ _ fun _ => after_owns c arg2 arg3 arg4 arg5 f2 f3 _ _)

end Body

/-! ## The points -/

/-- The first coordinate of point `t`: the base. -/
theorem coords0_0 (t : Fin cfg0.N) : (grid0.coords t 0).val = t.val / 256 % 4 := Pipeline.Grid.coords_val t 0 (by decide) rfl
/-- The second coordinate of point `t`: the block of vectors. -/
theorem coords0_1 (t : Fin cfg0.N) : (grid0.coords t 1).val = t.val / 1 % 256 := Pipeline.Grid.coords_val t 1 (by decide) rfl

/-- A point is the first of its base when its number is a multiple of 256. -/
theorem first_iff (t : Fin cfg0.N) : first (grid0.coords t) ↔ t.val % 256 = 0 := by
  have ht : t.val < 1024 := Nat.lt_of_lt_of_eq t.isLt N_0
  have e1 := coords0_1 t
  simp only [first, e1]; word_cmp

/-- The first point of all is a first point of its base. -/
theorem first_of_firstAll (t : Fin cfg0.N) (h : firstAll (grid0.coords t)) : first (grid0.coords t) := by
  have ht : t.val < 1024 := Nat.lt_of_lt_of_eq t.isLt N_0
  have e0 := coords0_0 t
  have e1 := coords0_1 t
  have hh : firstAll (grid0.coords t) ↔ t.val = 0 := by
    simp only [firstAll, e0, e1]; word_cmp
  exact (first_iff t).mpr (by rw [hh.mp h])

/-! ## The proof data -/

variable (W : Dev nD → Valuation τ sig (Elt F))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- What the output block and the scratch hold after point `n`. -/
def outsAt (c : Dev nD) : (n : ℕ) → n < cfg0.N → Vec F S1x12x64x256 .f32 × Vec F S24x16x128 .bf16
  | 0, hn => stepOut (grid0.coords ⟨0, hn⟩) (blk0 W c 0 ⟨0, hn⟩) (blk0 W c 1 ⟨0, hn⟩) (k0_pay101, pats (grid0.coords ⟨0, hn⟩))
  | n + 1, hn => stepOut (grid0.coords ⟨n + 1, hn⟩) (blk0 W c 0 ⟨n + 1, hn⟩) (blk0 W c 1 ⟨n + 1, hn⟩) (outsAt c n (Nat.lt_of_succ_lt hn))

/-- At a point that is first of its base, `outsAt` is the step from anything. -/
theorem outsAt_first (c : Dev nD) (t : Fin cfg0.N) (h : t.val % 256 = 0) (p) :
    outsAt W c t.val t.isLt = stepOut (grid0.coords t) (blk0 W c 0 t) (blk0 W c 1 t) p := by
  have hf := (first_iff t).mpr h
  rw [stepOut_first _ hf]
  obtain ⟨n, hn⟩ := t
  cases n <;> exact stepOut_first _ hf _ _ _

/-- At any later point it is the step from what the point before left. -/
theorem outsAt_later (c : Dev nD) (t : Fin cfg0.N) (h : ¬ t.val % 256 = 0) :
    outsAt W c t.val t.isLt = stepOut (grid0.coords t) (blk0 W c 0 t) (blk0 W c 1 t) (outsAt W c (t.val - 1) (Nat.lt_of_le_of_lt (Nat.sub_le _ _) t.isLt)) := by
  obtain ⟨n, hn⟩ := t
  cases n with
  | zero => exact absurd (Nat.zero_mod _) h
  | succ n => rfl

/-- The scratch buffer, whole. -/
abbrev scM : Memref sig .tc .vmem S24x16x128 .bf16 := Memref.whole cc0_scratch0

/-- The second region's staging buffers, at anything: the first region leaves them alone. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's invariant before point `n`: the scratch at anything at first, then at what the point before left. -/
def inv0 (c : Dev nD) : (n : ℕ) → n ≤ cfg0.N → sProp 𝕄
  | 0, _ => iprop((∃ f : Buf (Elt F) ((c : Thread nD τ).loc cc0_scratch0), ((c : Thread nD τ).loc cc0_scratch0) ↦{fullShare} f) ∗ rest0 c)
  | n + 1, hn => iprop(owns (c : Thread nD τ) scM fullShare (outsAt W c n hn).2 ∗ rest0 c)

theorem inv0_succ (c : Dev nD) (n : ℕ) (hn : n < cfg0.N) :
    inv0 W c (n + 1) hn = iprop(owns (c : Thread nD τ) scM fullShare (outsAt W c n hn).2 ∗ rest0 c) := rfl

theorem inv0_pos (c : Dev nD) (n : ℕ) (h : n ≤ cfg0.N) (hz : n ≠ 0) :
    inv0 W c n h = iprop(owns (c : Thread nD τ) scM fullShare (outsAt W c (n - 1) (by omega)).2 ∗ rest0 c) := by
  cases n with
  | zero => exact absurd rfl hz
  | succ n => rfl

/-- Before any point the invariant owns the scratch at some contents. -/
theorem inv0_any (c : Dev nD) (n : ℕ) (h : n ≤ cfg0.N) :
    inv0 W c n h ⊢ iprop((∃ x, owns (c : Thread nD τ) scM fullShare x) ∗ rest0 c) := by
  cases n with
  | zero =>
    show iprop((∃ f : Buf (Elt F) ((c : Thread nD τ).loc cc0_scratch0), ((c : Thread nD τ).loc cc0_scratch0) ↦{fullShare} f) ∗ rest0 c) ⊢ _
    iintro ⟨⟨%f, H⟩, Hr⟩
    isplitl [H]
    · iexists f; rw [owns_whole]; iexact H
    iexact Hr
  | succ n =>
    rw [inv0_succ]
    iintro ⟨H, Hr⟩
    isplitl [H]
    · iexists _; iexact H
    iexact Hr

/-- The first region's proof data on core `c`. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => (outsAt W c t.val t.isLt).1
  Φ t := inv0 W c t.val (Nat.le_of_lt_succ t.isLt)
  q _ := fullShare
  owed _ := 0

theorem dat0_A (c : Dev nD) (w : Fin cfg0.W) : (dat0 W c).A w = W c (Proc.devRef .tc (Pipeline.arrRef spec0 w)) := by dsimp only [dat0]
theorem dat0_Φ (c : Dev nD) (t : Fin cfg0.N) : (dat0 W c).Φ t.castSucc = inv0 W c t.val (Nat.le_of_lt t.isLt) := by
  dsimp only [dat0]; exact Pipeline.Dat.Φ_castSucc (inv0 W c) t
theorem after0_0 (c : Dev nD) (t : Fin cfg0.N) : (dat0 W c).after 0 t = blk0 W c 0 t := by dsimp only [dat0]
theorem after0_1 (c : Dev nD) (t : Fin cfg0.N) : (dat0 W c).after 1 t = blk0 W c 1 t := by dsimp only [dat0]
theorem after0_2 (c : Dev nD) (t : Fin cfg0.N) : (dat0 W c).after 2 t = (outsAt W c t.val t.isLt).1 := by dsimp only [dat0]

/-- Each input's staging buffer holds its block at every point. -/
theorem before0_0 (c : Dev nD) (t : Fin cfg0.N) (d) : (dat0 W c).before 0 t d = blk0 W c 0 t :=
  ((dat0 W c).before_in_eq_fetched 0 rfl (fun _ => rfl) (fun _ _ _ => rfl) (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 W c).before 1 t d = blk0 W c 1 t :=
  ((dat0 W c).before_in_eq_fetched 1 rfl (fun _ => rfl) (fun _ _ _ => rfl) (fun t => by rw [after0_1]; unfold Dat.blockOf blk0; rw [dat0_A]; try rfl) t d).trans
    (by unfold Dat.fetched Dat.blockOf blk0; rw [dat0_A]; try rfl)
/-- At a later point of a base the output's staging buffer holds what the point before left. -/
theorem before0_2 (c : Dev nD) (t : Fin cfg0.N) (h0 : ¬t.val % 256 = 0) (d) :
    (dat0 W c).before 2 t d = (outsAt W c (t.val - 1) (Nat.lt_of_le_of_lt (Nat.sub_le _ _) t.isLt)).1 := by
  have hN : t.val < 1024 := lt_of_lt_of_eq t.isLt (show cfg0.N = 1024 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

/-- What the body is called with at point `t`, -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d)))

/-- and what it returns. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t))

/-- The body at point `t` on what it is called with holds the step from some `p`, and that step is `outsAt`. -/
theorem found0 (c : Dev nD) (t : Fin cfg0.N) :
    bodyPre0 W c t ⊢ iprop(∃ p, ⌜stepOut (grid0.coords t) (blk0 W c 0 t) (blk0 W c 1 t) p = outsAt W c t.val t.isLt⌝
      ∗ (rest0 c ∗ (dat0 W c).owesAt () t.castSucc)
      ∗ owns (c : Thread nD τ) (st0_0 t) fullShare (blk0 W c 0 t) ∗ owns (c : Thread nD τ) (st0_1 t) fullShare (blk0 W c 1 t)
      ∗ owns (c : Thread nD τ) (st0_2 t) fullShare p.1 ∗ owns (c : Thread nD τ) scM fullShare p.2) := by
  unfold bodyPre0
  simp only [before0_0, before0_1]
  rw [dat0_Φ]
  by_cases h0 : t.val % 256 = 0
  · iintro ⟨HΦ, Ho, ⟨%d0, H0⟩, ⟨%d1, H1⟩, ⟨%d2, H2⟩⟩
    ihave HΦ' := (inv0_any W c t.val (Nat.le_of_lt t.isLt)) $$ HΦ
    icases HΦ' with ⟨⟨%x, HS⟩, Hr⟩
    iexists ((dat0 W c).before 2 t d2, x)
    isplitr; · ipureintro; exact (outsAt_first W c t h0 _).symm
    isplitl [Hr Ho]
    · isplitl [Hr]; · iexact Hr
      iexact Ho
    isplitl [H0]; · iexact H0
    isplitl [H1]; · iexact H1
    isplitl [H2]; · iexact H2
    iexact HS
  · simp only [before0_2 W c t h0]
    rw [inv0_pos W c t.val _ (by rintro h; exact h0 (by rw [h]))]
    iintro ⟨⟨HS, Hr⟩, Ho, ⟨%d0, H0⟩, ⟨%d1, H1⟩, ⟨%d2, H2⟩⟩
    iexists _
    isplitr; · ipureintro; exact (outsAt_later W c t h0).symm
    isplitl [Hr Ho]
    · isplitl [Hr]; · iexact Hr
      iexact Ho
    isplitl [H0]; · iexact H0
    isplitl [H1]; · iexact H1
    isplitl [H2]; · iexact H2
    iexact HS

/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  refine (found0 W c t).trans ?_
  iintro ⟨%p, %hp, Hf, Hrest⟩
  istop
  have hb := body_owns c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) scM (Memref.isWhole_whole _) (first_of_firstAll t) (blk0 W c 0 t) (blk0 W c 1 t) p
  refine BI.Entails.trans (sep_mono .rfl hb) ?_
  refine BI.Entails.trans (wp_frame_l _ _ _) (wp_mono _ _ _ fun _ => ?_)
  unfold bodyPost0
  rw [after0_0, after0_1, after0_2, hp, show (dat0 W c).owesAt () t.succ = (dat0 W c).owesAt () t.castSucc from rfl,
    show (dat0 W c).Φ t.succ = inv0 W c (t.val + 1) t.isLt from rfl, inv0_succ]
  iintro ⟨⟨Hr, Ho⟩, H0, H1, H2, HS⟩
  isplitl [HS Hr]
  · isplitl [HS]; · iexact HS
    iexact Hr
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The first region's body obligation, at every point. -/
theorem obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

/-- The scoped buffers no window of the first region stages give its invariant, -/
theorem hin0 (c : Dev nD) : iprop(Pipeline.scopedRest spec0 c ∗ BI.emp) ⊢ (dat0 W c).Φ 0 := by
  rw [show (dat0 W c).Φ 0 = inv0 W c 0 (Nat.zero_le _) from rfl, scopedRest0_eq]
  unfold inv0 rest0
  iintro ⟨⟨H, Hr⟩, -⟩
  isplitl [H]; · iexact H
  iexact Hr

/-- and it gives them back. -/
theorem hout0 (c : Dev nD) : (dat0 W c).Φ (Fin.last cfg0.N) ⊢ iprop(Pipeline.scopedRest spec0 c ∗ BI.emp) := by
  rw [show (dat0 W c).Φ (Fin.last cfg0.N) = inv0 W c cfg0.N (le_refl _) from rfl, scopedRest0_eq]
  refine (inv0_any W c cfg0.N _).trans ?_
  unfold rest0
  simp only [owns_whole]
  iintro ⟨⟨%x, H⟩, Hr⟩
  isplitl [H Hr]
  · isplitl [H]; · iexists x; iexact H
    iexact Hr
  iempintro

end Cert.Proof.KernelIdeal
-- ==== Proof.KernelIdeal.Reg1.lean ====
/-
  THE SECOND REGION: the finishing call's body, its proof data and its body obligation.
-/
module

public import Idealize.ShloMosaic.Lib.Pipeline.FrameBody
public import Idealize.ShloMosaic.Lib.Tactic
public import proofs.«01_k».proof.Proof.Gen.KernelIdeal.Skeleton
public import proofs.«01_k».proof.Proof.Gen.KernelIdeal.Points
public import proofs.«01_k».proof.Proof.Gen.KernelIdeal.Regions

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

abbrev rH : Rect S1x50x256 := Rect.unit (s := S1x50x256) ![0, 0, 0] S1x50x256.size inb_S1x50x256_S1x50x256_0_0_0
abbrev rC : Rect S1x256x8 := Rect.unit (s := S1x256x8) ![0, 0, 0] S1x256x8.size inb_S1x256x8_S1x256x8_0_0_0
abbrev rX : Rect S1x50x8 := Rect.unit (s := S1x50x8) ![0, 0, 0] S1x50x8.size inb_S1x50x8_S1x50x8_0_0_0

/-- The rectangle of a whole histogram block, taken in order, is the block. -/
theorem ld_rH (x : Vec F S1x50x256 .f32) : View.ld x rH = x := by
  funext y; show x (rH.idx y) = x y; congr 1; funext a; fin_cases a <;> exact Fin.ext (by show 0 + 1 * _ = _; omega)
theorem ld_rC (x : Vec F S1x256x8 .f32) : View.ld x rC = x := by
  funext y; show x (rC.idx y) = x y; congr 1; funext a; fin_cases a <;> exact Fin.ext (by show 0 + 1 * _ = _; omega)
theorem ld_rX (x : Vec F S1x50x8 .bf16) : View.ld x rX = x := by
  funext y; show x (rX.idx y) = x y; congr 1; funext a; fin_cases a <;> exact Fin.ext (by show 0 + 1 * _ = _; omega)

theorem mem_rX (y : S1x50x8.Idx) : rX.idx y = y := by
  funext a; fin_cases a <;> exact Fin.ext (by show 0 + 1 * _ = _; omega)
theorem mem_rC (y : S1x256x8.Idx) : rC.idx y = y := by
  funext a; fin_cases a <;> exact Fin.ext (by show 0 + 1 * _ = _; omega)

/-- A store of a whole block leaves the value stored. -/
theorem read_store_rX (v : View sig .tc .vmem S1x50x8 .bf16) (f : v.ty.Contents (Elt F)) (p : Vec F S1x50x8 .bf16) :
    v.read (Elt F) (v.writes (Elt F) f [⟨rX, p⟩]) = p := by
  funext y
  refine View.read_writes_apply_of_pieces v f p _ (fun q hq x => ?_) y ⟨_, List.mem_singleton.mpr rfl, ?_⟩
  · obtain rfl := List.mem_singleton.mp hq
    exact congrArg p (mem_rX x).symm
  · exact (congrArg (· ∈ rX.set) (mem_rX y)).mp (rX.idx_mem y)
theorem read_store_rC (v : View sig .tc .vmem S1x256x8 .f32) (f : v.ty.Contents (Elt F)) (p : Vec F S1x256x8 .f32) :
    v.read (Elt F) (v.writes (Elt F) f [⟨rC, p⟩]) = p := by
  funext y
  refine View.read_writes_apply_of_pieces v f p _ (fun q hq x => ?_) y ⟨_, List.mem_singleton.mpr rfl, ?_⟩
  · obtain rfl := List.mem_singleton.mp hq
    exact congrArg p (mem_rC x).symm
  · exact (congrArg (· ∈ rC.set) (mem_rC y)).mp (rC.idx_mem y)

/-- The finishing body: the two outputs become its two payloads of the input blocks. -/
theorem body_finish (c : Dev nD) (i : grid1.Coords) (arg1 : Memref sig .tc .vmem S1x50x256 .f32) (harg1 : arg1.IsWhole) (arg2 : Memref sig .tc .vmem S1x256x8 .f32) (harg2 : arg2.IsWhole) (arg3 : Memref sig .tc .vmem S1x50x8 .bf16) (harg3 : arg3.IsWhole) (arg4 : Memref sig .tc .vmem S1x50x8 .bf16) (harg4 : arg4.IsWhole) (arg5 : Memref sig .tc .vmem S1x256x8 .f32) (harg5 : arg5.IsWhole)
    (x1 : Vec F S1x50x256 .f32) (x2 : Vec F S1x256x8 .f32) (x3 : Vec F S1x50x8 .bf16) :
    (iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)) : sProp 𝕄)
      ⊢ wp frame (wpE (defs₀ (F := F)) Variants.none (c : Thread nD τ) none) Set.univ
          (cc1_finish i arg1 harg1 arg2 harg2 arg3 harg3 arg4 harg4 arg5 harg5)
          (fun _ => iprop(owns (c : Thread nD τ) arg1 fullShare x1 ∗ owns (c : Thread nD τ) arg2 fullShare x2 ∗ owns (c : Thread nD τ) arg3 fullShare x3
            ∗ owns (c : Thread nD τ) arg4 fullShare (k1_pay4 x1 x2 x3) ∗ owns (c : Thread nD τ) arg5 fullShare (k1_pay5 x1 x2 x3))) := by
  simp only [cc1_finish_eq_skeleton]; unfold cc1_finish_skel
  unfold owns
  iintro ⟨⟨%f1, %h1, H1⟩, ⟨%f2, %h2, H2⟩, ⟨%f3, %h3, H3⟩, ⟨%d4, %f4, -, H4⟩, ⟨%d5, %f5, -, H5⟩⟩
  subst h1 h2 h3
  sl_exec
  sl_step
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_store_rX arg4.view f4 _).trans ?_
    exact congr (congr (congrArg k1_pay4 (ld_rH _)) (ld_rC _)) (ld_rX _)
  iexists _; isplitr
  swap; · iexact H5
  ipureintro
  refine (read_store_rC arg5.view f5 _).trans ?_
  exact congr (congr (congrArg k1_pay5 (ld_rH _)) (ld_rC _)) (ld_rX _)

variable (W : Dev nD → Valuation τ sig (Elt F))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The second region's proof data on core `c`. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => k1_pay4 (blk1 W c 0 t) (blk1 W c 1 t) (blk1 W c 2 t)
    | ⟨4, _⟩ => k1_pay5 (blk1 W c 0 t) (blk1 W c 1 t) (blk1 W c 2 t)
  Φ _ := Pipeline.scopedRest spec1 c
  q _ := fullShare
  owed _ := 0

theorem dat1_A (c : Dev nD) (w : Fin cfg1.W) : (dat1 W c).A w = W c (Proc.devRef .tc (Pipeline.arrRef spec1 w)) := by dsimp only [dat1]
theorem after1_0 (c : Dev nD) (t : Fin cfg1.N) : (dat1 W c).after 0 t = blk1 W c 0 t := by dsimp only [dat1]
theorem after1_1 (c : Dev nD) (t : Fin cfg1.N) : (dat1 W c).after 1 t = blk1 W c 1 t := by dsimp only [dat1]
theorem after1_2 (c : Dev nD) (t : Fin cfg1.N) : (dat1 W c).after 2 t = blk1 W c 2 t := by dsimp only [dat1]
theorem after1_3 (c : Dev nD) (t : Fin cfg1.N) : (dat1 W c).after 3 t = k1_pay4 (blk1 W c 0 t) (blk1 W c 1 t) (blk1 W c 2 t) := by dsimp only [dat1]
theorem after1_4 (c : Dev nD) (t : Fin cfg1.N) : (dat1 W c).after 4 t = k1_pay5 (blk1 W c 0 t) (blk1 W c 1 t) (blk1 W c 2 t) := by dsimp only [dat1]

/-- Each input's staging buffer holds its block at every point. -/
theorem before1_0 (c : Dev nD) (t : Fin cfg1.N) (d) : (dat1 W c).before 0 t d = blk1 W c 0 t :=
  ((dat1 W c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 W c).before 1 t d = blk1 W c 1 t :=
  ((dat1 W c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem before1_2 (c : Dev nD) (t : Fin cfg1.N) (d) : (dat1 W c).before 2 t d = blk1 W c 2 t :=
  ((dat1 W c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)

/-- What the body is called with at point `t`, -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d)))

/-- and what it returns. -/
def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t)
    ∗ owns (c : Thread nD τ) (st1_4 t) fullShare ((dat1 W c).after 4 t))

/-- The body at any point. -/
theorem sound_body1 (c : Dev nD) (t : Fin cfg1.N) :
    bodyPre1 W c t ⊢ wp frame (wpE (defs₀ (F := F)) Variants.none c none) Set.univ (bodyAt1 t) (fun _ => bodyPost1 W c t) := by
  have hb := body_finish c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (blk1 W c 0 t) (blk1 W c 1 t) (blk1 W c 2 t)
  have hpre : bodyPre1 W c t ⊢ iprop(((dat1 W c).Φ t.castSucc ∗ (dat1 W c).owesAt () t.castSucc) ∗ (owns (c : Thread nD τ) (st1_0 t) fullShare (blk1 W c 0 t) ∗ owns (c : Thread nD τ) (st1_1 t) fullShare (blk1 W c 1 t) ∗ owns (c : Thread nD τ) (st1_2 t) fullShare (blk1 W c 2 t)
        ∗ (∃ d, owns (c : Thread nD τ) (st1_3 t) fullShare d) ∗ (∃ d, owns (c : Thread nD τ) (st1_4 t) fullShare d))) := by
    unfold bodyPre1
    simp only [before1_0, before1_1, before1_2]
    iintro ⟨HΦ, Ho, ⟨%d0, H0⟩, ⟨%d1, H1⟩, ⟨%d2, H2⟩, ⟨%d3, H3⟩, ⟨%d4, H4⟩⟩
    isplitl [HΦ Ho]
    · isplitl [HΦ]; · iexact HΦ
      iexact Ho
    isplitl [H0]; · iexact H0
    isplitl [H1]; · iexact H1
    isplitl [H2]; · iexact H2
    isplitl [H3]; · iexists _; iexact H3
    iexists _; iexact H4
  refine hpre.trans ?_
  refine BI.Entails.trans (sep_mono .rfl hb) ?_
  refine BI.Entails.trans (wp_frame_l _ _ _) (wp_mono _ _ _ fun _ => ?_)
  unfold bodyPost1
  rw [after1_0, after1_1, after1_2, after1_3, after1_4, show (dat1 W c).owesAt () t.succ = (dat1 W c).owesAt () t.castSucc from rfl,
    show (dat1 W c).Φ t.succ = (dat1 W c).Φ t.castSucc from rfl]
  iintro ⟨⟨Hr, Ho⟩, H⟩
  isplitl [Hr]; · iexact Hr
  isplitl [Ho]; · iexact Ho
  iexact H

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The second region's body obligation, at every point. -/
theorem obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

theorem hin1 (c : Dev nD) : iprop(Pipeline.scopedRest spec1 c ∗ BI.emp) ⊢ (dat1 W c).Φ 0 := by
  rw [show (dat1 W c).Φ 0 = Pipeline.scopedRest spec1 c from rfl]
  iintro ⟨H, -⟩; iexact H
theorem hout1 (c : Dev nD) : (dat1 W c).Φ (Fin.last cfg1.N) ⊢ iprop(Pipeline.scopedRest spec1 c ∗ BI.emp) := by
  rw [show (dat1 W c).Φ (Fin.last cfg1.N) = Pipeline.scopedRest spec1 c from rfl]
  iintro H
  isplitl [H]; · iexact H
  iempintro

end Cert.Proof.KernelIdeal
-- ==== Proof.KernelIdeal.Run.lean ====
/-
  THE RUN: both regions and the host stretches between them; what every final state holds.
-/
module

public import proofs.«01_k».proof.Proof.KernelIdeal.Reg0
public import proofs.«01_k».proof.Proof.KernelIdeal.Reg1
public import Idealize.ShloMosaic.Lib.Pipeline.RegionArrays
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]

local notation "𝕄" => MT nD τ sig Unit (Elt F) ℕ (UR sig nD τ) ℕ

variable (m : (ℓ : Loc nD τ sig) → Buf (Elt F) ℓ)

/-! ## What the regions leave -/

/-- The histogram call's result array, from the launch memory. -/
def raw (c : Dev nD) : Buf (Elt F) ((c : Thread nD τ).loc main_v0) := (dat0 (V0 m) c).arrAt 2 cfg0.N

/-- What the first region leaves; everything else as launched. -/
def outsA : Outs (F := F) := fun _ r c => Function.update (fun r : Ref sig .tc => m ((c : Thread nD τ).loc r)) main_v0 (raw m c) r

/-- The buffers the second region is entered with. -/
def W1 (c : Dev nD) : Valuation τ sig (Elt F) := V2 m (outsA m) c

/-- The finishing call's two result arrays. -/
def gx (c : Dev nD) : Buf (Elt F) ((c : Thread nD τ).loc main_v11_0) := (dat1 (W1 m) c).arrAt 3 cfg1.N
def gcb (c : Dev nD) : Buf (Elt F) ((c : Thread nD τ).loc main_v11_1) := (dat1 (W1 m) c).arrAt 4 cfg1.N

/-- What both regions leave. -/
def outs : Outs (F := F) := fun J r c => Function.update (Function.update (outsA m J · c) main_v11_0 (gx m c)) main_v11_1 (gcb m c) r

theorem outs_v0 (c : Dev nD) : outs m 1 main_v0 c = raw m c := by
  unfold outs
  rw [Function.update_of_ne (by decide), Function.update_of_ne (by decide)]
  unfold outsA
  rw [Function.update_self]
theorem outsA_v0 (c : Dev nD) : outsA m 1 main_v0 c = raw m c := by
  unfold outsA
  rw [Function.update_self]
theorem outs_v11_0 (c : Dev nD) : outs m 3 main_v11_0 c = gx m c := by
  unfold outs
  rw [Function.update_of_ne (by decide), Function.update_self]
theorem outs_v11_1 (c : Dev nD) : outs m 3 main_v11_1 c = gcb m c := by
  unfold outs
  rw [Function.update_self]

theorem W1_eq (c : Dev nD) : V2 m (outs m) c = W1 m c := by
  unfold W1 V2 V1
  rw [outs_v0, outsA_v0]

/-! ## The regions' records -/

/-- Both regions' proof data. -/
def pd : (p : Fin 2) → (c : Dev nD) → Dat τ (Elt F) Unit ℕ (UR sig nD τ) ℕ (cfgs p) c
  | ⟨0, _⟩, c => dat0 (V0 m) c
  | ⟨1, _⟩, c => dat1 (W1 m) c

/-- Every TensorCore semaphore may be waited on. -/
def lev : GSem nD τ sig → Finset Unit := fun g => if g.1.2 = .tc then {()} else ∅
def lvl : GSem nD τ sig → Unit → ℕ := fun _ _ => 0

theorem lev_none (g : GSem nD τ sig) (h : g.1.2 ≠ .tc) : lev g = ∅ := if_neg h

/-- The core owes nothing. -/
def duty (c : Dev nD) : sProp 𝕄 := iprop(∃ Wd, owes (c : Thread nD τ) (0 : CellTallies nD τ sig Unit) Wd)

theorem cut (p : Fin 2) : Pipeline.LevelCut (pcfgs (F := F)) adm () lev lvl p (fun _ => 0) (fun _ => 0) where
  hι _ _ _ := by unfold lev; rw [if_pos rfl]; exact Finset.mem_singleton.mpr rfl
  hιb _ _ _ := le_refl _
  hD _ _ _ h := absurd h (lt_irrefl _)

/-- The buffers no window of a region names. -/
def others {gr w : ℕ} (win : Fin w → Pipeline.WinSpec sig gr) (c : Dev nD) (V : Valuation τ sig (Elt F)) : sProp 𝕄 :=
  StableHlo.held (c : Thread nD τ) (Pipeline.ucRefs τ sig \ Pipeline.arrRefs win) V

theorem W_in0 (c : Dev nD) (w : Fin cfg0.W) : (dat0 (V0 m) c).arrAt w cfg0.N = V1 m (outs m) c (Proc.devRef .tc (Pipeline.arrRef spec0 w)) := by
  match w with
  | ⟨0, _⟩ => exact ((dat0 (V0 m) c).arrAt_in 0 rfl _).trans ((dat0_A (V0 m) c 0).trans (V1_of m (outs m) c main_arg2 (by decide)).symm)
  | ⟨1, _⟩ => exact ((dat0 (V0 m) c).arrAt_in 1 rfl _).trans ((dat0_A (V0 m) c 1).trans (V1_of m (outs m) c main_arg3 (by decide)).symm)
  | ⟨2, _⟩ =>
    refine Eq.trans (b := V1 m (outs m) c (Proc.devRef .tc main_v0)) ?_ rfl
    unfold V1
    rw [Function.update_self, outs_v0]
    rfl

theorem W_in1 (c : Dev nD) (w : Fin cfg1.W) : (dat1 (W1 m) c).arrAt w cfg1.N = V3 m (outs m) c (Proc.devRef .tc (Pipeline.arrRef spec1 w)) := by
  match w with
  | ⟨0, _⟩ => exact ((dat1 (W1 m) c).arrAt_in 0 rfl _).trans ((dat1_A (W1 m) c 0).trans ((congrFun (W1_eq m c) _).symm.trans (V3_of m (outs m) c main_v8 (by decide)).symm))
  | ⟨1, _⟩ => exact ((dat1 (W1 m) c).arrAt_in 1 rfl _).trans ((dat1_A (W1 m) c 1).trans ((congrFun (W1_eq m c) _).symm.trans (V3_of m (outs m) c main_arg1 (by decide)).symm))
  | ⟨2, _⟩ => exact ((dat1 (W1 m) c).arrAt_in 2 rfl _).trans ((dat1_A (W1 m) c 2).trans ((congrFun (W1_eq m c) _).symm.trans (V3_of m (outs m) c main_v10 (by decide)).symm))
  | ⟨3, _⟩ =>
    refine Eq.trans (b := V3 m (outs m) c (Proc.devRef .tc main_v11_0)) ?_ rfl
    unfold V3
    rw [Function.update_of_ne (StableHlo.devRef_ne_of_ne (by decide : (main_v11_0 : Ref sig .tc) ≠ main_v11_1)), Function.update_self, outs_v11_0]
    rfl
  | ⟨4, _⟩ =>
    refine Eq.trans (b := V3 m (outs m) c (Proc.devRef .tc main_v11_1)) ?_ rfl
    unfold V3
    rw [Function.update_self, outs_v11_1]
    rfl

/-- The first region: entered at the launch contents, left with the histogram call's result in place. -/
def seg0 : RegionSeg (pcfgs (F := F)) adm (pd m) () defs₀ Variants.none lev lvl 0 :=
  Pipeline.RegionSeg.ofHeld (pcfgs (F := F)) adm (pd m) () defs₀ Variants.none lev lvl 0 (fun _ => 0)
    (fun _ => BI.emp) (fun _ => BI.emp) launch0.toP rfl (fun c => (obligation0 (V0 m) c).loose) (fun _ _ => rfl) (fun _ => rfl)
    (fun c => (dat0 (V0 m) c).share_full fun _ => rfl) (fun c => hin0 (V0 m) c) (fun c => hout0 (V0 m) c) (fun _ => 0) (cut 0)
    (fun c => others spec0 c (V0 m c)) (V0 m) (V1 m (outs m)) (fun c w => dat0_A (V0 m) c w) (fun c w => W_in0 m c w)

/-- The second region: entered after the first host stretch, left with the finishing call's two results in place. -/
def seg1' : RegionSeg (pcfgs (F := F)) adm (pd m) () defs₀ Variants.none lev lvl 1 :=
  Pipeline.RegionSeg.ofHeld (pcfgs (F := F)) adm (pd m) () defs₀ Variants.none lev lvl 1 (fun _ => 0)
    (fun _ => BI.emp) (fun _ => BI.emp) launch1.toP rfl (fun c => (obligation1 (W1 m) c).loose) (fun _ _ => rfl) (fun _ => rfl)
    (fun c => (dat1 (W1 m) c).share_full fun _ => rfl) (fun c => hin1 (W1 m) c) (fun c => hout1 (W1 m) c) (fun _ => 0) (cut 1)
    (fun c => others spec1 c (W1 m c)) (W1 m) (V3 m (outs m)) (fun c w => dat1_A (W1 m) c w) (fun c w => W_in1 m c w)

theorem mem_arrRefs {gr w : ℕ} (win : Fin w → Pipeline.WinSpec sig gr) (k : Fin w) : (Proc.devRef .tc (Pipeline.arrRef win k) : DevRef τ sig) ∈ Pipeline.arrRefs (τ := τ) win :=
  Finset.mem_map.mpr ⟨_, Finset.mem_image.mpr ⟨k, Finset.mem_univ _, rfl⟩, rfl⟩

theorem pre0 (c : Dev nD) : (iprop(StableHlo.held (c : Thread nD τ) (Pipeline.ucRefs τ sig) (V0 m c) ∗ duty c) : sProp 𝕄) ⊢ (seg0 m).pre c := by
  rw [StableHlo.held_sub_split (c : Thread nD τ) (Pipeline.arrRefs_sub_ucRefs spec0 launch0.win.arr_unscoped) (V0 m c)]
  show _ ⊢ iprop(StableHlo.held (c : Thread nD τ) (Pipeline.arrRefs spec0) (V0 m c) ∗ BI.emp ∗ others spec0 c (V0 m c) ∗ duty c)
  unfold others
  iintro ⟨⟨Ha, Hr⟩, Hd⟩
  isplitl [Ha]; · iexact Ha
  isplitr; · iempintro
  isplitl [Hr]; · iexact Hr
  iexact Hd

theorem post0 (c : Dev nD) : (seg0 m).post c ⊢ (iprop(StableHlo.held (c : Thread nD τ) (Pipeline.ucRefs τ sig) (V1 m (outs m) c) ∗ duty c) : sProp 𝕄) := by
  rw [StableHlo.held_sub_split (c : Thread nD τ) (Pipeline.arrRefs_sub_ucRefs spec0 launch0.win.arr_unscoped) (V1 m (outs m) c)]
  show iprop(StableHlo.held (c : Thread nD τ) (Pipeline.arrRefs spec0) (V1 m (outs m) c) ∗ BI.emp ∗ others spec0 c (V0 m c) ∗ duty c) ⊢ _
  unfold others
  rw [StableHlo.held_congr (c : Thread nD τ) (V := V0 m c) (V' := V1 m (outs m) c) fun b hb =>
    (Function.update_of_ne (fun h => (Finset.mem_sdiff.mp hb).2 (h ▸ mem_arrRefs spec0 2)) _ _).symm]
  iintro ⟨Ha, -, Hr, Hd⟩
  isplitr [Hd]
  · isplitl [Ha]; · iexact Ha
    iexact Hr
  iexact Hd

theorem pre1 (c : Dev nD) : (iprop(StableHlo.held (c : Thread nD τ) (Pipeline.ucRefs τ sig) (V2 m (outs m) c) ∗ duty c) : sProp 𝕄) ⊢ (seg1' m).pre c := by
  rw [W1_eq, StableHlo.held_sub_split (c : Thread nD τ) (Pipeline.arrRefs_sub_ucRefs spec1 launch1.win.arr_unscoped) (W1 m c)]
  show _ ⊢ iprop(StableHlo.held (c : Thread nD τ) (Pipeline.arrRefs spec1) (W1 m c) ∗ BI.emp ∗ others spec1 c (W1 m c) ∗ duty c)
  unfold others
  iintro ⟨⟨Ha, Hr⟩, Hd⟩
  isplitl [Ha]; · iexact Ha
  isplitr; · iempintro
  isplitl [Hr]; · iexact Hr
  iexact Hd

theorem post1 (c : Dev nD) : (seg1' m).post c ⊢ (iprop(StableHlo.held (c : Thread nD τ) (Pipeline.ucRefs τ sig) (V3 m (outs m) c) ∗ duty c) : sProp 𝕄) := by
  rw [StableHlo.held_sub_split (c : Thread nD τ) (Pipeline.arrRefs_sub_ucRefs spec1 launch1.win.arr_unscoped) (V3 m (outs m) c)]
  show iprop(StableHlo.held (c : Thread nD τ) (Pipeline.arrRefs spec1) (V3 m (outs m) c) ∗ BI.emp ∗ others spec1 c (W1 m c) ∗ duty c) ⊢ _
  unfold others
  rw [StableHlo.held_congr (c : Thread nD τ) (V := W1 m c) (V' := V3 m (outs m) c) fun b hb => by
    have h3 : b ≠ Proc.devRef .tc main_v11_0 := fun h => (Finset.mem_sdiff.mp hb).2 (h ▸ mem_arrRefs spec1 3)
    have h4 : b ≠ Proc.devRef .tc main_v11_1 := fun h => (Finset.mem_sdiff.mp hb).2 (h ▸ mem_arrRefs spec1 4)
    rw [← W1_eq]
    unfold V3
    rw [Function.update_of_ne h4, Function.update_of_ne h3]]
  iintro ⟨Ha, -, Hr, Hd⟩
  isplitr [Hd]
  · isplitl [Ha]; · iexact Ha
    iexact Hr
  iexact Hd

/-! ## The run -/

/-- What the program's buffers hold at the end, named: the last valuation. -/
def final (c : Dev nD) : Valuation τ sig (Elt F) := V4 m (outs m) c

variable (ρ : Dev nD → PrngReg)

set_option backward.isDefEq.respectTransparency.types false in
/-- Every fair run of @main ends with every unscoped buffer at `final`, and every semaphore counter at zero. -/
theorem run_main : θ_run defs (onTc (τ := τ) (main (F := F))) ⟨m, fun _ => 0, ρ⟩ (fun r => (∀ c : Dev nD,
    ∀ b ∈ Pipeline.ucRefs τ sig, r.2.mem ((c : Thread nD τ).1, b) = final m c b) ∧ r.2.sem = fun _ => 0) := by
  let E : Fin 3 → Dev nD → sProp 𝕄 := fun _ c => duty c
  let O₀ : Dev nD → CellTallies nD τ sig Unit := fun _ => 0
  let G : Dev nD → sProp 𝕄 := fun _ => iprop(emp)
  have hE0 : (iprop((bigSep Finset.univ fun c : Dev nD => iprop(unscopedSems0 c ∗ owes (c : Thread nD τ) (O₀ c) ∅ ∗ Pipeline.launchCred O₀ c ∗ prngReg c (ρ c) ∗ G c)) ∗ levAts lev lvl) : sProp 𝕄)
      ⊢ |={Set.univ}=> bigSep Finset.univ (E 0) := by
    refine BI.Entails.trans ?_ (fupd_intro (PROP := sProp 𝕄))
    refine BI.Entails.trans (show _ ⊢ bigSep Finset.univ fun c : Dev nD => iprop(unscopedSems0 c ∗ owes (c : Thread nD τ) (O₀ c) ∅ ∗ Pipeline.launchCred O₀ c ∗ prngReg c (ρ c) ∗ G c) from by iintro ⟨H, -⟩; iexact H) ?_
    refine bigSep_mono fun c _ => ?_
    show _ ⊢ duty c
    unfold duty
    iintro ⟨-, H, -⟩
    iexists _; iexact H
  have hu₀ : (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ G) := by
    rw [ownU_emb₁]
    iintro H
    imodintro
    isplitl [H]; · iexact H
    rw [show bigSep Finset.univ G = (iprop(emp) : sProp 𝕄) from BI.bigSep_emp_const _]
    iempintro
  refine Pipeline.θ_run_regions_kit_dev_sems (pcfgs (F := F)) adm (pd m) () cellOf_inj emb₁ defs₀ Variants.none lev lvl m ρ main
    (segs m (outs m) Variants.none lev lvl E () (pd m) (seg0 m) (seg1' m))
    (fun c Q => by
      rewrite [main_chain c, Seg.run_eq_chain,
        show (segs m (outs m) Variants.none lev lvl E () (pd m) (seg0 m) (seg1' m) c).map Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ lev_none G _ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m (outs m) c))
    (hch := fun c => ⟨pre0 m c, post0 m c, pre1 m c, post1 m c, .rfl⟩)
    (hinit := ?_) (QY := fun c s => ∀ b ∈ Pipeline.ucRefs τ sig, s.mem ((c : Thread nD τ).1, b) = final m c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact h
    · iexact HSI

/-- A TensorCore buffer that is not scoped is among the buffers `run_main` speaks of. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- The frame claim: every argument ends as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c _ (mem_uc main_arg0 rfl)).trans (V4_main_arg0 m (outs m) c),
     (h.1 c _ (mem_uc main_arg1 rfl)).trans (V4_main_arg1 m (outs m) c),
     (h.1 c _ (mem_uc main_arg2 rfl)).trans (V4_main_arg2 m (outs m) c),
     (h.1 c _ (mem_uc main_arg3 rfl)).trans (V4_main_arg3 m (outs m) c)⟩, h.2⟩) (run_main m ρ)

end Cert.Proof.KernelIdeal
-- ==== Proof.Frames.lean ====
/-
  THE FRAMES: each program runs, leaves its arguments as they were, and ends with every counter at zero.
-/
module

public import proofs.«01_k».proof.Defs
public import proofs.«01_k».proof.Proof.Kernel.Run
public import proofs.«01_k».proof.Proof.KernelIdeal.Run
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The kernel as it stands, at the bit patterns of its floats: it runs, leaves its four arguments as they were, and
    ends with every counter at zero. -/
theorem quiescent_Kernel : Cert.quiescent_Kernel (hKernel := Cert.Kernel.Gen.facts) :=
  fun m g _ => Cert.Proof.Kernel.frame (F := Bits) m g

/-- The same of its reading at the extended reals. -/
theorem quiescent_KernelIdeal : Cert.quiescent_KernelIdeal (hKernelIdeal := Cert.KernelIdeal.Gen.facts) :=
  fun m g _ => Cert.Proof.KernelIdeal.frame (F := Ideal) m g

/-- The reference at the extended reals runs, leaves its four arguments as they were, and has no counters at all. -/
theorem quiescent_ReferenceIdeal :
    Cert.quiescent_ReferenceIdeal (hReferenceIdeal := Cert.ReferenceIdeal.Gen.facts) := fun m g _ =>
  (θ_run (Cert.ReferenceIdeal.defs (F := Ideal)) _ _).mono (fun r h => ⟨fun c => (h c).2.2.2,
      Idealize.ShloMosaic.sem_eq_zero_of_no_sems (by decide) r.2⟩)
    (Cert.ReferenceIdeal.Value.run (F := Ideal) m g)

end Cert.Proof

end
-- ==== Proof.KernelIdeal.Spread.lean ====
/-
  THE CODES OVER THE LANES: what the spreading of forty codes over three times forty lanes holds, lane by lane.
-/
module

public import proofs.«01_k».proof.Proof.KernelIdeal.HistOut
public import Idealize.ShloMosaic.Lib.BitcastFour
public import Idealize.ShloMosaic.Lib.Pipeline.Value
public import Idealize.ShloMosaic.Lib.KernelVsHost
public import Idealize.ShloMosaic.Lib.IdealHost

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

/-- A row of bytes read out of words: bit `q` of byte row `p` is bit `8 (p % 4) + q` of word row `p / 4`. -/
theorem byte_getLsbD (x : IVec S64x128 32) (h : S64x128.Bitcasts 32 S256x128 8) (p : Fin 256) (l : Fin 128) (a : Fin 64) (ha : a.val = p.val / 4)
    (q : ℕ) (hq : q < 8) :
    (bitcast S256x128 8 x h (ix2 p l)).getLsbD q = (x (ix2 a l)).getLsbD (8 * (p.val % 4) + q) := by
  rw [bitcast_getLsbD x h _ q hq (by decide)]
  have er : S256x128.row (ix2 p l) = p.val := rfl
  have ed : (S256x128.row (ix2 p l) * 8 + q) / 32 = a.val := by rw [er]; omega
  have em : (S256x128.row (ix2 p l) * 8 + q) % 32 = 8 * (p.val % 4) + q := by rw [er]; omega
  rw [em]
  congr 2
  funext c
  match c with
  | ⟨0, _⟩ => exact Fin.ext ((h.srcIdx_row _ _ _ ⟨0, Nat.zero_lt_two⟩ rfl).trans ed)
  | ⟨1, _⟩ => exact Fin.ext (h.srcIdx_other _ _ _ ⟨1, Nat.one_lt_two⟩ (by show ¬ 1 + 2 = 2; omega))

/-- Bytes packed into words, the words moved within their rows, and unpacked: the byte at lane `l` is the byte at the
    lane the word came from. -/
theorem bytes_moved (x : IVec S256x128 8) (h : S256x128.Bitcasts 8 S64x128 32) (h' : S64x128.Bitcasts 32 S256x128 8) (y : IVec S64x128 32)
    (p : Fin 256) (l l' : Fin 128) (hy : ∀ a : Fin 64, y (ix2 a l) = bitcast S64x128 32 x h (ix2 a l')) :
    bitcast S256x128 8 y h' (ix2 p l) = x (ix2 p l') := by
  apply BitVec.eq_of_getLsbD_eq
  intro q hq
  have hp := p.isLt
  rw [byte_getLsbD y h' p l ⟨p.val / 4, by omega⟩ rfl q hq, hy,
    bitcast_8_32_getLsbD_ix2 x h _ l' _ (by omega) p (by dsimp only; omega)]
  congr 1
  omega

/-- The lane numbers. -/
theorem laneOf_apply (a : Fin 64) (l : Fin 128) : laneOf (ix2 a l) = BitVec.ofNat 32 l.val := by
  unfold laneOf
  exact iota_single_apply ..

theorem lt40 (l : Fin 128) : IntOp.cmpi .slt (BitVec.ofNat 32 l.val) 40#32 = if l.val < 40 then 1#1 else 0#1 := by
  revert l; decide
theorem lt80 (l : Fin 128) : IntOp.cmpi .slt (BitVec.ofNat 32 l.val) 80#32 = if l.val < 80 then 1#1 else 0#1 := by
  revert l; decide

/-- A row rotated by `s` lanes, read at a lane at or past `s`. -/
theorem rotate_lane (w : IVec S64x128 32) (k : BitVec 32) (a : Fin 64) (l l' : Fin 128) (s : ℕ) (hk : k.toNat = s) (hs : s ≤ l.val) (hl : l.val - s = l'.val) :
    dynamicRotate 1 k none w rotates_S64x128_d1 (ix2 a l) = w (ix2 a l') := by
  have hll := l.isLt
  refine dynamicRotate_apply 1 k w _ _ _ fun b => ?_
  match b with
  | ⟨0, _⟩ => rfl
  | ⟨1, _⟩ =>
    show l'.val = (l.val + 128 - k.toNat % 128) % 128
    rw [hk]; omega

/-- The words of the first forty lanes, repeated over the next two forties. -/
def spreadWords (w : IVec S64x128 32) : IVec S64x128 32 :=
  select (cmpi .slt laneOf (broadcast S64x128 40#32)) w (select (cmpi .slt laneOf (broadcast S64x128 80#32))
      (dynamicRotate 1 40#32 none w rotates_S64x128_d1) (dynamicRotate 1 80#32 none w rotates_S64x128_d1))

theorem spreadWords_apply (w : IVec S64x128 32) (a : Fin 64) (l l' : Fin 128) (hl : l.val < 120) (hm : l.val % 40 = l'.val) :
    spreadWords w (ix2 a l) = w (ix2 a l') := by
  unfold spreadWords
  rw [select_apply, select_apply]
  show Scalar.select (IntOp.cmpi .slt (laneOf (ix2 a l)) 40#32) _ (Scalar.select (IntOp.cmpi .slt (laneOf (ix2 a l)) 80#32) _ _) = _
  rw [laneOf_apply, lt40, lt80]
  by_cases h1 : l.val < 40
  · rw [if_pos h1, show l' = l from Fin.ext (by omega)]; rfl
  · rw [if_neg h1]
    by_cases h2 : l.val < 80
    · rw [if_pos h2]; exact rotate_lane w 40#32 a l l' 40 rfl (by omega) (by omega)
    · rw [if_neg h2]; exact rotate_lane w 80#32 a l l' 80 rfl (by omega) (by omega)

/-- The codes padded to 128 lanes. -/
def padCodes (v : IVec S256x40 8) : IVec S256x128 8 :=
  concatenate S256x128 1 [⟨S256x40, v⟩, ⟨S256x88, broadcast S256x88 0#8⟩] concatenates_S256x40_S256x88_S256x128_d1

theorem padCodes_apply (v : IVec S256x40 8) (p : Fin 256) (l : Fin 128) (m : Fin 40) (hm : m.val = l.val) : padCodes v (ix2 p l) = v (ix2 p m) :=
  concatenate_pair_apply_left (t := S256x128) (s₁ := S256x40) (s₂ := S256x88) 1 _ _ _ _ rfl (ix2 p m) (fun b => by
    match b with
    | ⟨0, _⟩ => rfl
    | ⟨1, _⟩ => exact hm)

/-- Lane `l < 120` of the spread codes is the code of subspace `l % 40`, as a number. -/
theorem spread_apply (v : Vec Ideal S256x40 .i8) (p : Fin 256) (l : Fin 128) (m : Fin 40) (hl : l.val < 120) (hm : l.val % 40 = m.val) :
    k0_pay27 (F := Ideal) laneOf v (ix2 p l) = (((v (ix2 p m)).toNat : ℝ) : EReal) := by
  have hb := bytes_moved (padCodes v) bitcasts_S256x128_w8_S64x128_w32 bitcasts_S64x128_w32_S256x128_w8
    (spreadWords (bitcast S64x128 32 (padCodes v) bitcasts_S256x128_w8_S64x128_w32)) p l ⟨m.val, by omega⟩ (fun a => spreadWords_apply _ a l _ hl hm)
  rw [padCodes_apply v p _ m rfl] at hb
  exact congrArg (fun z : BitVec 8 => ((z.toNat : ℝ) : EReal)) hb

end Cert.Proof.KernelIdeal

end
-- ==== Proof.KernelIdeal.Tile.lean ====
/-
  A TILE'S PASS: which vectors a tile's column counts, and what one pass of the matrix unit leaves there.
-/
module

public import proofs.«01_k».proof.Proof.KernelIdeal.Spread
public import Idealize.ShloMosaic.Lib.MatmulPlain

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

/-! ## The patterns -/

theorem third_apply (r : Fin 16) (l : Fin 128) (hl : l.val < 120) : k0_pay95 (ix2 r l) = BitVec.ofNat 32 (l.val / 40) := by
  have h80 : IntOp.cmpi .sge (BitVec.ofNat 32 l.val) 80#32 = if 80 ≤ l.val then 1#1 else 0#1 := by revert l; decide
  have h40 : IntOp.cmpi .sge (BitVec.ofNat 32 l.val) 40#32 = if 40 ≤ l.val then 1#1 else 0#1 := by revert l; decide
  have hi : iota .tc S16x128 32 [1] iota_S16x128_d1_w32 (ix2 r l) = BitVec.ofNat 32 l.val := iota_single_apply ..
  show Scalar.select (IntOp.cmpi .sge (iota .tc S16x128 32 [1] iota_S16x128_d1_w32 (ix2 r l)) 80#32) 2#32
    (Scalar.select (IntOp.cmpi .sge (iota .tc S16x128 32 [1] iota_S16x128_d1_w32 (ix2 r l)) 40#32) 1#32 0#32) = _
  rw [hi, h80, h40]
  by_cases h1 : 80 ≤ l.val
  · rw [if_pos h1, show l.val / 40 = 2 by omega]; rfl
  · rw [if_neg h1]
    by_cases h2 : 40 ≤ l.val
    · rw [if_pos h2, show l.val / 40 = 1 by omega]; rfl
    · rw [if_neg h2, show l.val / 40 = 0 by omega]; rfl

theorem valid_apply (r : Fin 16) (l : Fin 128) (hl : l.val < 120) : k0_pay96 (ix2 r l) = 1#1 := by
  have h : IntOp.cmpi .slt (BitVec.ofNat 32 l.val) 120#32 = if l.val < 120 then 1#1 else 0#1 := by revert l; decide
  have hi : iota .tc S16x128 32 [1] iota_S16x128_d1_w32 (ix2 r l) = BitVec.ofNat 32 l.val := iota_single_apply ..
  show IntOp.cmpi .slt (iota .tc S16x128 32 [1] iota_S16x128_d1_w32 (ix2 r l)) 120#32 = _
  rw [hi, h, if_pos hl]

/-- The centroid that lane `l` of half tile `j` counts, at base `b`. -/
abbrev centroid (b j l : ℕ) : ℕ := 72 * b + 3 * j + l / 40

theorem pats_apply (i : grid0.Coords) (j : Fin 24) (r : Fin 16) (l : Fin 128) (hl : l.val < 120) :
    (pats i : Vec Ideal S24x16x128 .bf16) (ix3 j r l) = (((centroid (i 0).val j.val l.val : ℕ) : ℝ) : EReal) := by
  have hi : (i 0).val < 4 := (i 0).isLt
  have hj := j.isLt
  have hw : IntOp.addi (Scalar.addi (baseOf i) (BitVec.ofNat 32 (3 * j.val))) (k0_pay95 (ix2 r l)) = BitVec.ofNat 32 (centroid (i 0).val j.val l.val) := by
    rw [third_apply r l hl]
    show (BitVec.ofNat 32 (i 0).val * BitVec.ofNat 32 72 + BitVec.ofNat 32 (3 * j.val)) + BitVec.ofNat 32 (l.val / 40) = _
    rw [← BitVec.ofNat_mul, ← BitVec.ofNat_add, ← BitVec.ofNat_add, Nat.mul_comm (i 0).val]
  show patPay (baseOf i) j (ix3 (0 : Fin 1) r l) = _
  unfold patPay
  refine (shapeCast_ab_1ab_apply _ _ (0 : Fin 1) r l).trans ?_
  show FloatOps.sitofp (F := Ideal) .bf16 (Scalar.select (k0_pay96 (ix2 r l)) (IntOp.addi (Scalar.addi (baseOf i) (BitVec.ofNat 32 (3 * j.val))) (k0_pay95 (ix2 r l))) 4294967295#32) = _
  rw [hw, valid_apply r l hl]
  show (((BitVec.ofNat 32 (centroid (i 0).val j.val l.val)).toInt : ℝ) : EReal) = _
  have hc : (BitVec.ofNat 32 (centroid (i 0).val j.val l.val)).toInt = ((centroid (i 0).val j.val l.val : ℕ) : ℤ) := by
    rw [BitVec.toInt_eq_toNat_cond, BitVec.toNat_ofNat]
    have : centroid (i 0).val j.val l.val < 512 := by show _ + _ + _ < _; omega
    rw [Nat.mod_eq_of_lt (by omega), if_pos (by omega)]
  rw [hc]
  norm_cast

/-- Half tile `j`'s pattern as loaded. -/
theorem patOf_apply (x5 : Vec Ideal S24x16x128 .bf16) (j : Fin 24) (r : Fin 16) (l : Fin 128) : patOf x5 j (ix3 (0 : Fin 1) r l) = x5 (ix3 j r l) := by
  unfold patOf
  refine congrArg x5 (funext fun a => ?_)
  match a with
  | ⟨0, _⟩ => exact Fin.ext (by show j.val + 1 * 0 = j.val; omega)
  | ⟨1, _⟩ => exact Fin.ext (by show 0 + 1 * r.val = r.val; omega)
  | ⟨2, _⟩ => exact Fin.ext (by show 0 + 1 * l.val = l.val; omega)

/-! ## The tile -/

/-- The pattern repeated down the 256 vectors of a chunk. -/
theorem stacked_apply (p : Vec Ideal S1x16x128 .bf16) (r : Fin 256) (l : Fin 128) :
    stacked p (ix2 r l) = p (ix3 (0 : Fin 1) ⟨r.val % 16, Nat.mod_lt _ (by decide)⟩ l) := by
  refine Eq.trans ?_ (shapeCast_1ab_ab_apply p shapeCasts_S1x16x128_S16x128 ⟨r.val % 16, Nat.mod_lt _ (by decide)⟩ l)
  exact concatenate_replicate_apply (t := S256x128) (s₁ := S16x128) 0 16 _ concatenates_S16x128_S16x128_S16x128_S16x128_S16x128_S16x128_S16x128_S16x128_S16x128_S16x128_S16x128_S16x128_S16x128_S16x128_S16x128_S16x128_S256x128_d0 rfl (ix2 r l) _ rfl (fun b hb => by
    match b with
    | ⟨0, _⟩ => exact absurd rfl hb
    | ⟨1, _⟩ => rfl)

/-- One where the code equals the pattern, else zero. -/
def hits (code : FVec Ideal S256x128 .bf16) (p : Vec Ideal S1x16x128 .bf16) : FVec Ideal S256x128 .bf16 :=
  select (cmpf .oeq code (stacked p)) (k0_pay97 (F := Ideal)) (k0_pay98 (F := Ideal))

theorem tile_eq (code : FVec Ideal S256x128 .bf16) (p₀ p₁ : Vec Ideal S1x16x128 .bf16) :
    tile code p₀ p₁ = concatenate S256x256 1 [⟨S256x128, hits code p₀⟩, ⟨S256x128, hits code p₁⟩] concatenates_S256x128_S256x128_S256x256_d1 := rfl

theorem hits_apply (code : FVec Ideal S256x128 .bf16) (p : Vec Ideal S1x16x128 .bf16) (r : Fin 256) (l : Fin 128) (n k : ℕ)
    (hn : code (ix2 r l) = ((n : ℝ) : EReal)) (hk : p (ix3 (0 : Fin 1) ⟨r.val % 16, Nat.mod_lt _ (by decide)⟩ l) = ((k : ℝ) : EReal)) :
    hits code p (ix2 r l) = if n = k then 1 else 0 := by
  show Scalar.select (Ideal.cmp .oeq (code (ix2 r l)) (stacked p (ix2 r l))) (Ideal.ofBits .bf16 0x3F80#16) (Ideal.ofBits .bf16 0x0000#16) = _
  rw [stacked_apply, hn, hk, Ideal.ofBits_one_bf16, Ideal.ofBits_zero_bf16]
  show Scalar.select (BitVec.ofBool (decide (((n : ℝ) : EReal) = ((k : ℝ) : EReal)))) _ _ = _
  by_cases h : n = k
  · subst h; rw [if_pos rfl, decide_eq_true rfl]; rfl
  · rw [if_neg h, decide_eq_false (by rw [EReal.coe_eq_coe_iff, Nat.cast_inj]; exact h)]; rfl

/-- Column `128 h + l` of a tile is half `h`'s lane `l`. -/
theorem tile_apply (code : FVec Ideal S256x128 .bf16) (p : Fin 2 → Vec Ideal S1x16x128 .bf16) (r : Fin 256) (c : Fin 256) (h : Fin 2) (l : Fin 128)
    (hc : c.val = 128 * h.val + l.val) : tile code (p 0) (p 1) (ix2 r c) = hits code (p h) (ix2 r l) := by
  rw [tile_eq]
  match h, hc with
  | ⟨0, _⟩, hc =>
    exact concatenate_pair_apply_left (t := S256x256) (s₁ := S256x128) (s₂ := S256x128) 1 _ _ _ _ rfl (ix2 r l) (fun b => by
      match b with
      | ⟨0, _⟩ => rfl
      | ⟨1, _⟩ => show l.val = c.val; simp only at hc; omega)
  | ⟨1, _⟩, hc =>
    exact concatenate_pair_apply_right (t := S256x256) (s₁ := S256x128) (s₂ := S256x128) 1 _ _ _ _ rfl rfl (ix2 r l) (fun b hb => by
      match b with
      | ⟨0, _⟩ => rfl
      | ⟨1, _⟩ => exact absurd rfl hb) (by show l.val + 128 = c.val; simp only at hc; omega)

/-! ## The pass -/

/-- A pass is the plain product of the weights with the tile. -/
theorem passOf_apply (v : FVec Ideal S256x256 .bf16) (w : FVec Ideal S64x256 .bf16) (a : Fin 64) (c : Fin 256) :
    Mxu.passOf (F := Ideal) (M := 64) false (v, w) (ix2 a c) = ∑ k : Fin 256, w (ix2 a k) * v (ix2 k c) := by
  have h := Ideal.matmul_plain_apply (M := 64) (K := 256) (N := 256) none w v (fun _ => (0 : EReal)) a c
  rw [zero_add] at h
  refine Eq.trans ?_ h
  refine Eq.trans ?_ (zero_add _).symm
  rfl

/-- The weights padded to 64 rows, read at one of the fifty. -/
theorem weights_apply (x : Vec Ideal S50x256 .bf16) (a : Fin 64) (b : Fin 50) (hab : b.val = a.val) (k : Fin 256) : k0_pay28 (F := Ideal) x (ix2 a k) = x (ix2 b k) :=
  concatenate_pair_apply_left (t := S64x256) (s₁ := S50x256) (s₂ := S14x256) 0 _ _ concatenates_S50x256_S14x256_S64x256_d0 _ rfl (ix2 b k) (fun z => by
    match z with
    | ⟨0, _⟩ => exact hab
    | ⟨1, _⟩ => rfl)

theorem off1_val (n : Fin 16) : k0_off1 ⟨n.val / 4, by rw [trips_eq]; omega⟩ (BitVec.ofNat 32 (n.val % 4)) = ![256 * n.val, 0] := by
  revert n; decide
theorem off2_val (n : Fin 16) : k0_off2 ⟨n.val / 4, by rw [trips_eq]; omega⟩ (BitVec.ofNat 32 (n.val % 4)) = ![0, 256 * n.val] := by
  revert n; decide

/-- The vector that row `p` of chunk `n` is, within the block of 4096. -/
abbrev rowIn (n : Fin 16) (p : Fin 256) : Fin 4096 := ⟨256 * n.val + p.val, by omega⟩

theorem chunk_codes (x2 : Vec Ideal S4096x40 .i8) (x3 : Vec Ideal S50x4096 .bf16) (n : Fin 16) (p : Fin 256) (l : Fin 128) (mm : Fin 40)
    (hl : l.val < 120) (hm : l.val % 40 = mm.val) :
    (chunkAt (F := Ideal) x2 x3 n).1 (ix2 p l) = (((x2 (ix2 (rowIn n p) mm)).toNat : ℝ) : EReal) := by
  refine (spread_apply _ p l mm hl hm).trans ?_
  refine congrArg (fun y => (((x2 y).toNat : ℝ) : EReal)) (funext fun a => ?_)
  have e := off1_val n
  match a with
  | ⟨0, _⟩ => exact Fin.ext ((congrArg (fun f : Fin 2 → ℕ => f 0 + 1 * p.val) e).trans (by show 256 * n.val + 1 * p.val = 256 * n.val + p.val; omega))
  | ⟨1, _⟩ => exact Fin.ext ((congrArg (fun f : Fin 2 → ℕ => f 1 + 1 * mm.val) e).trans (by show 0 + 1 * mm.val = mm.val; omega))

theorem chunk_weights (x2 : Vec Ideal S4096x40 .i8) (x3 : Vec Ideal S50x4096 .bf16) (n : Fin 16) (p : Fin 256) (a : Fin 64) (b : Fin 50) (hab : b.val = a.val) :
    (chunkAt (F := Ideal) x2 x3 n).2 (ix2 a p) = x3 (ix2 b (rowIn n p)) := by
  refine (weights_apply _ a b hab p).trans ?_
  refine congrArg x3 (funext fun z => ?_)
  have e := off2_val n
  match z with
  | ⟨0, _⟩ => exact Fin.ext ((congrArg (fun f : Fin 2 → ℕ => f 0 + 1 * b.val) e).trans (by show 0 + 1 * b.val = b.val; omega))
  | ⟨1, _⟩ => exact Fin.ext ((congrArg (fun f : Fin 2 → ℕ => f 1 + 1 * p.val) e).trans (by show 256 * n.val + 1 * p.val = 256 * n.val + p.val; omega))

/-- One chunk's pass for tile `t`, at weight row `b` and column `128 h + l`: the weights of the chunk's vectors whose code in
    subspace `l % 40` is the centroid counted there. -/
theorem passT_apply (x2 : Vec Ideal S4096x40 .i8) (x3 : Vec Ideal S50x4096 .bf16) (i : grid0.Coords) (n : Fin 16) (t : Fin 12) (a : Fin 64) (c : Fin 256)
    (b : Fin 50) (hab : b.val = a.val) (h : Fin 2) (l : Fin 128) (hc : c.val = 128 * h.val + l.val) (mm : Fin 40) (hl : l.val < 120) (hm : l.val % 40 = mm.val) :
    passT (F := Ideal) (patOf (pats i)) (chunkAt x2 x3 n) t (ix2 a c)
      = ∑ p : Fin 256, x3 (ix2 b (rowIn n p)) * (if (x2 (ix2 (rowIn n p) mm)).toNat = centroid (i 0).val (2 * t.val + h.val) l.val then 1 else 0) := by
  unfold passT
  rw [passOf_apply]
  refine Finset.sum_congr rfl fun p _ => ?_
  have ht := t.isLt
  have hh := h.isLt
  have hq : ∀ h : Fin 2, (![patOf (pats i : Vec Ideal S24x16x128 .bf16) ⟨2 * t.val, by omega⟩, patOf (pats i) ⟨2 * t.val + 1, by omega⟩] : Fin 2 → Vec Ideal S1x16x128 .bf16) h
      = patOf (pats i) ⟨2 * t.val + h.val, by omega⟩ := by
    intro h
    match h with
    | ⟨0, _⟩ => rfl
    | ⟨1, _⟩ => rfl
  have e := tile_apply (chunkAt x2 x3 n).1 ![patOf (pats i) ⟨2 * t.val, by omega⟩, patOf (pats i) ⟨2 * t.val + 1, by omega⟩] p c h l hc
  rw [chunk_weights x2 x3 n p a b hab]
  refine congrArg (x3 (ix2 b (rowIn n p)) * ·) (e.trans ?_)
  exact hits_apply _ _ p l _ _ (chunk_codes x2 x3 n p l mm hl hm) ((congrFun (hq h) _).trans ((patOf_apply _ _ _ l).trans (pats_apply i _ _ l hl)))

/-- A grid step's sum for tile `t`: over the block's 4096 vectors. -/
theorem stepAcc_apply (x2 : Vec Ideal S4096x40 .i8) (x3 : Vec Ideal S50x4096 .bf16) (i : grid0.Coords) (t : Fin 12) (a : Fin 64) (c : Fin 256)
    (b : Fin 50) (hab : b.val = a.val) (h : Fin 2) (l : Fin 128) (hc : c.val = 128 * h.val + l.val) (mm : Fin 40) (hl : l.val < 120) (hm : l.val % 40 = mm.val) :
    stepAcc (F := Ideal) x2 x3 (pats i) t (ix2 a c)
      = ∑ q : Fin 4096, x3 (ix2 b q) * (if (x2 (ix2 q mm)).toNat = centroid (i 0).val (2 * t.val + h.val) l.val then 1 else 0) := by
  have e : stepAcc (F := Ideal) x2 x3 (pats i) t (ix2 a c) = ∑ n : Fin 16, passT (F := Ideal) (patOf (pats i)) (chunkAt x2 x3 n) t (ix2 a c) := by
    simp only [Fin.sum_univ_castSucc, Fin.sum_univ_zero, zero_add]
    rfl
  rw [e, Finset.sum_congr rfl fun n _ => passT_apply x2 x3 i n t a c b hab h l hc mm hl hm, ← Finset.sum_product', Finset.univ_product_univ]
  refine Fintype.sum_equiv (finProdFinEquiv : Fin 16 × Fin 256 ≃ Fin 4096) _ _ fun np => ?_
  have eq : rowIn np.1 np.2 = finProdFinEquiv np := Fin.ext (by show 256 * np.1.val + np.2.val = np.2.val + 256 * np.1.val; omega)
  rw [eq]

end Cert.Proof.KernelIdeal

end
-- ==== Proof.KernelIdeal.HistValue.lean ====
/-
  THE RAW COUNTS: what the first call leaves in its array, over the ideal instance.
-/
module

public import proofs.«01_k».proof.Proof.KernelIdeal.Tile
public import proofs.«01_k».proof.Proof.KernelIdeal.Run
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

/-! ## What is counted -/

/-- What vector `N` adds to the count of row `b`, subspace `mm`, centroid `k`: its weight if its code is `k`, else nothing. -/
def share (cs : Vec Ideal S1048576x40 .i8) (g : Vec Ideal S50x1048576 .bf16) (b : Fin 50) (mm : Fin 40) (k N : ℕ) : EReal :=
  if h : N < 1048576 then g (ValueIdx.ix2 b ⟨N, h⟩) * (if (cs (ValueIdx.ix2 ⟨N, h⟩ mm)).toNat = k then 1 else 0) else 0

/-- The weighted count: over all vectors. -/
def count (cs : Vec Ideal S1048576x40 .i8) (g : Vec Ideal S50x1048576 .bf16) (b : Fin 50) (mm : Fin 40) (k : ℕ) : EReal :=
  ∑ N : Fin 1048576, g (ValueIdx.ix2 b N) * (if (cs (ValueIdx.ix2 N mm)).toNat = k then 1 else 0)

theorem count_eq (cs : Vec Ideal S1048576x40 .i8) (g : Vec Ideal S50x1048576 .bf16) (b : Fin 50) (mm : Fin 40) (k : ℕ) :
    ∑ N ∈ Finset.range 1048576, share cs g b mm k N = count cs g b mm k := by
  rw [Finset.sum_range]
  refine Finset.sum_congr rfl fun N _ => ?_
  rw [share, dif_pos N.isLt]

/-! ## The blocks -/

theorem idx0_0 (t : Fin cfg0.N) : win0_0.index t = ![t.val % 256, 0] := by
  funext a
  have e1 := coords0_1 t
  fin_cases a
  · show (BitVec.ofNat 32 (grid0.coords t 1).val).toNat = t.val % 256
    rw [e1, BitVec.toNat_ofNat]; omega
  · rfl
theorem idx0_1 (t : Fin cfg0.N) : win0_1.index t = ![0, t.val % 256] := by
  funext a
  have e1 := coords0_1 t
  fin_cases a
  · rfl
  · show (BitVec.ofNat 32 (grid0.coords t 1).val).toNat = t.val % 256
    rw [e1, BitVec.toNat_ofNat]; omega
theorem idx0_2 (t : Fin cfg0.N) : win0_2.index t = ![t.val / 256, 0, 0, 0] := by
  funext a
  have ht : t.val < 1024 := lt_of_lt_of_eq t.isLt N_0
  have e0 := coords0_0 t
  fin_cases a
  · show (BitVec.ofNat 32 (grid0.coords t 0).val).toNat = t.val / 256
    rw [e0, BitVec.toNat_ofNat]; omega
  · rfl
  · rfl
  · rfl

variable (m : (ℓ : Loc nD τ sig) → Buf (Elt Ideal) ℓ) (c : Dev nD)

/-- The codes and the weights at launch. -/
abbrev codesA : Vec Ideal S1048576x40 .i8 := m ((c : Thread nD τ).loc main_arg2)
abbrev gA : Vec Ideal S50x1048576 .bf16 := m ((c : Thread nD τ).loc main_arg3)

/-- The vector at row `q` of block `s`. -/
def vecAt (s : ℕ) (q : Fin 4096) : Fin 1048576 := ⟨4096 * (s % 256) + q.val, by omega⟩

theorem blk0_0_apply (t : Fin cfg0.N) (q : Fin 4096) (mm : Fin 40) :
    blk0 (V0 m) c 0 t (ValueIdx.ix2 q mm) = codesA m c (ValueIdx.ix2 (vecAt t.val q) mm) := by
  show ((cfg0.win 0).blk t).view.read (Elt Ideal) _ (ValueIdx.ix2 q mm) = _
  blk_ext [idx0_0 t, vecAt]
  show t.val % 256 * 4096 + q.val = 4096 * (t.val % 256) + q.val; omega
theorem blk0_1_apply (t : Fin cfg0.N) (b : Fin 50) (q : Fin 4096) :
    blk0 (V0 m) c 1 t (ValueIdx.ix2 b q) = gA m c (ValueIdx.ix2 b (vecAt t.val q)) := by
  show ((cfg0.win 1).blk t).view.read (Elt Ideal) _ (ValueIdx.ix2 b q) = _
  blk_ext [idx0_1 t, vecAt]
  show t.val % 256 * 4096 + q.val = 4096 * (t.val % 256) + q.val; omega

/-! ## A grid step -/

variable (tt : Fin 12) (a : Fin 64) (cc : Fin 256) (b : Fin 50) (hab : b.val = a.val) (h : Fin 2) (l : Fin 128) (hc : cc.val = 128 * h.val + l.val)
  (mm : Fin 40) (hl : l.val < 120) (hm : l.val % 40 = mm.val)

include hab hc hl hm

/-- What a grid step adds at a place: the shares of its block's vectors. -/
theorem step_share (t : Fin cfg0.N) : stepAcc (F := Ideal) (blk0 (V0 m) c 0 t) (blk0 (V0 m) c 1 t) (pats (grid0.coords t)) tt (ValueIdx.ix2 a cc)
    = ∑ q ∈ Finset.range 4096, share (codesA m c) (gA m c) b mm (centroid (t.val / 256) (2 * tt.val + h.val) l.val) (4096 * (t.val % 256) + q) := by
  have ht : t.val < 1024 := lt_of_lt_of_eq t.isLt N_0
  have e0 : (grid0.coords t 0).val = t.val / 256 := (coords0_0 t).trans (by omega)
  rw [stepAcc_apply (blk0 (V0 m) c 0 t) (blk0 (V0 m) c 1 t) (grid0.coords t) tt a cc b hab h l hc mm hl hm, e0, Finset.sum_range]
  refine Finset.sum_congr rfl fun q _ => ?_
  have hq : 4096 * (t.val % 256) + q.val < 1048576 := by omega
  rw [blk0_0_apply m c, blk0_1_apply m c, share, dif_pos hq]
  rfl

/-- After a step the scratch holds the base's patterns, and the output block the shares of every vector up to the step's block. -/
theorem outsAt_share : ∀ (n : ℕ) (hn : n < cfg0.N), (outsAt (V0 m) c n hn).2 = pats (grid0.coords ⟨n, hn⟩)
    ∧ (outsAt (V0 m) c n hn).1 (ValueIdx.ix4 (0 : Fin 1) tt a cc)
      = ∑ q ∈ Finset.range (4096 * (n % 256 + 1)), share (codesA m c) (gA m c) b mm (centroid (n / 256) (2 * tt.val + h.val) l.val) q := by
  intro n
  induction n with
  | zero =>
    intro hn
    rw [outsAt_first (V0 m) c ⟨0, hn⟩ rfl (k0_pay101 (F := Ideal), pats (grid0.coords ⟨0, hn⟩)), stepOut_first _ ((first_iff ⟨0, hn⟩).mpr rfl)]
    refine ⟨rfl, ?_⟩
    show k0_pay101 (F := Ideal) (ValueIdx.ix4 (0 : Fin 1) tt a cc) + stepAcc (F := Ideal) (blk0 (V0 m) c 0 ⟨0, hn⟩) (blk0 (V0 m) c 1 ⟨0, hn⟩) (pats (grid0.coords ⟨0, hn⟩)) tt (ValueIdx.ix2 a cc) = _
    rw [step_share m c tt a cc b hab h l hc mm hl hm ⟨0, hn⟩, show k0_pay101 (F := Ideal) (ValueIdx.ix4 (0 : Fin 1) tt a cc) = 0 from Ideal.ofBits_zero_f32, zero_add]
    simp only [Nat.zero_mod, Nat.mul_zero, Nat.zero_add, Nat.mul_one]
  | succ n ih =>
    intro hn
    have hn' : n + 1 < 1024 := lt_of_lt_of_eq hn N_0
    by_cases hf : (n + 1) % 256 = 0
    · rw [outsAt_first (V0 m) c ⟨n + 1, hn⟩ hf (k0_pay101 (F := Ideal), pats (grid0.coords ⟨n + 1, hn⟩)), stepOut_first _ ((first_iff ⟨n + 1, hn⟩).mpr hf)]
      refine ⟨rfl, ?_⟩
      show k0_pay101 (F := Ideal) (ValueIdx.ix4 (0 : Fin 1) tt a cc) + stepAcc (F := Ideal) (blk0 (V0 m) c 0 ⟨n + 1, hn⟩) (blk0 (V0 m) c 1 ⟨n + 1, hn⟩) (pats (grid0.coords ⟨n + 1, hn⟩)) tt (ValueIdx.ix2 a cc) = _
      rw [step_share m c tt a cc b hab h l hc mm hl hm ⟨n + 1, hn⟩, show k0_pay101 (F := Ideal) (ValueIdx.ix4 (0 : Fin 1) tt a cc) = 0 from Ideal.ofBits_zero_f32, zero_add]
      simp only [hf, Nat.mul_zero, Nat.zero_add, Nat.mul_one]
    · have hN : n < cfg0.N := Nat.lt_of_succ_lt hn
      obtain ⟨ih2, ih1⟩ := ih hN
      have e0 : (grid0.coords ⟨n, hN⟩ 0).val = (grid0.coords ⟨n + 1, hn⟩ 0).val := by
        rw [coords0_0, coords0_0]; show n / 256 % 4 = (n + 1) / 256 % 4; omega
      have ep : (pats (grid0.coords ⟨n, hN⟩) : Vec Ideal S24x16x128 .bf16) = pats (grid0.coords ⟨n + 1, hn⟩) := by
        funext y
        show patPay (baseOf _) _ _ = patPay (baseOf _) _ _
        have : baseOf (grid0.coords ⟨n, hN⟩) = baseOf (grid0.coords ⟨n + 1, hn⟩) := by unfold baseOf; rw [e0]
        rw [this]
      rw [outsAt_later (V0 m) c ⟨n + 1, hn⟩ hf, stepOut_later _ (fun hx => hf ((first_iff ⟨n + 1, hn⟩).mp hx))]
      refine ⟨ih2.trans ep, ?_⟩
      show (outsAt (V0 m) c n hN).1 (ValueIdx.ix4 (0 : Fin 1) tt a cc)
        + stepAcc (F := Ideal) (blk0 (V0 m) c 0 ⟨n + 1, hn⟩) (blk0 (V0 m) c 1 ⟨n + 1, hn⟩) ((outsAt (V0 m) c n hN).2) tt (ValueIdx.ix2 a cc) = _
      rw [ih2, ep, ih1, step_share m c tt a cc b hab h l hc mm hl hm ⟨n + 1, hn⟩]
      show _ + ∑ q ∈ Finset.range 4096, share (codesA m c) (gA m c) b mm (centroid ((n + 1) / 256) (2 * tt.val + h.val) l.val) (4096 * ((n + 1) % 256) + q) = _
      rw [show n / 256 = (n + 1) / 256 by omega, show n % 256 + 1 = (n + 1) % 256 by omega, show 4096 * ((n + 1) % 256 + 1) = 4096 * ((n + 1) % 256) + 4096 by omega,
        Finset.sum_range_add]

omit hab hc hl hm

/-! ## The array -/

/-- The last point of a base. -/
theorem lastPt (i : Fin 4) : 256 * i.val + 255 < cfg0.N := by
  rw [show cfg0.N = 1024 from N_0]; omega

theorem at_congr (n n' : ℕ) (e : n = n') (hn : n < cfg0.N) (hn' : n' < cfg0.N) (y y' : S1x12x64x256.Idx) (ey : y = y') :
    (outsAt (V0 m) c n hn).1 y = (outsAt (V0 m) c n' hn').1 y' := by
  subst e; subst ey; rfl

/-- The first call's array: at each base, the output block after the base's last point. -/
theorem raw_apply (y : S4x12x64x256.Idx) : raw m c y = (outsAt (V0 m) c (256 * (y 0).val + 255) (lastPt (y 0))).1 (ValueIdx.ix4 (0 : Fin 1) (y 1) (y 2) (y 3)) := by
  refine congrFun (Dat.arrAt_eq_of_covers (dat0 (V0 m) c) 2
    (fun y : S4x12x64x256.Idx => (outsAt (V0 m) c (256 * (y 0).val + 255) (lastPt (y 0))).1 (ValueIdx.ix4 (0 : Fin 1) (y 1) (y 2) (y 3)))
    (by decide +kernel) fun t hf y => ?_) y
  have ht : t.val % 256 = 255 := (flush0_2 t).mp hf
  have hN : t.val < 1024 := lt_of_lt_of_eq t.isLt N_0
  have e := idx0_2 t
  have hv : ∀ a, (((cfg0.win 2).blk t).view.emb y a : ℕ) = win0_2.index t a * win0_2.size a + (y a : ℕ) := fun a => Pipeline.Window.rect_emb_val win0_2 t y a
  have v0 : (((cfg0.win 2).blk t).view.emb y 0 : ℕ) = t.val / 256 := by
    rw [hv 0, e]; have := (y 0).isLt; show t.val / 256 * 1 + (y 0).val = _; have h1 : (y 0).val < 1 := (y 0).isLt; omega
  have v1 : (((cfg0.win 2).blk t).view.emb y 1 : ℕ) = (y 1 : ℕ) := by rw [hv 1, e]; show 0 * 12 + (y 1).val = _; omega
  have v2 : (((cfg0.win 2).blk t).view.emb y 2 : ℕ) = (y 2 : ℕ) := by rw [hv 2, e]; show 0 * 64 + (y 2).val = _; omega
  have v3 : (((cfg0.win 2).blk t).view.emb y 3 : ℕ) = (y 3 : ℕ) := by rw [hv 3, e]; show 0 * 256 + (y 3).val = _; omega
  show (dat0 (V0 m) c).after 2 t y = (outsAt (V0 m) c (256 * (((cfg0.win 2).blk t).view.emb y 0 : ℕ) + 255) _).1
    (ValueIdx.ix4 (0 : Fin 1) (((cfg0.win 2).blk t).view.emb y 1) (((cfg0.win 2).blk t).view.emb y 2) (((cfg0.win 2).blk t).view.emb y 3))
  rw [after0_2]
  refine at_congr m c _ _ (by rw [v0]; omega) _ _ _ _ (funext fun a => Fin.ext ?_)
  fin_cases a
  · have h1 : (y 0).val < 1 := (y 0).isLt
    show (y 0).val = 0; omega
  · exact v1.symm
  · exact v2.symm
  · exact v3.symm

/-- The first call's array at a base, tile, row and lane in use: the count. -/
theorem raw_count (i : Fin 4) (hab : b.val = a.val) (hc : cc.val = 128 * h.val + l.val) (hl : l.val < 120) (hm : l.val % 40 = mm.val) :
    raw m c (ValueIdx.ix4 i tt a cc) = count (codesA m c) (gA m c) b mm (centroid i.val (2 * tt.val + h.val) l.val) := by
  rw [raw_apply]
  refine ((outsAt_share m c tt a cc b hab h l hc mm hl hm _ (lastPt i)).2).trans ?_
  rw [← count_eq]
  have e1 : (256 * i.val + 255) % 256 + 1 = 256 := by omega
  have e2 : (256 * i.val + 255) / 256 = i.val := by omega
  rw [e1, e2]

end Cert.Proof.KernelIdeal

end
-- ==== Proof.KernelIdeal.HostValue.lean ====
/-
  THE HOST OPERATIONS AT AN INDEX: the histogram out of the first call's array, what the second call is entered with, and the results.
-/
module

public import proofs.«01_k».proof.Proof.KernelIdeal.HistValue
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.KernelIdeal

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The histogram result, from the array the first call leaves. -/
def histOf (r : S4x12x64x256.Idx → EReal) : S50x40x256.Idx → EReal :=
  extractStridedSlice S50x40x256 ![0, 0, 0] (shapeCast S50x40x288 (transpose S50x40x4x12x2x3 [2, 5, 0, 1, 3, 4]
    (shapeCast S4x12x50x2x3x40 (extractStridedSlice S4x12x50x2x120 ![0, 0, 0, 0, 0] (shapeCast S4x12x50x2x128
      (extractStridedSlice S4x12x50x256 ![0, 0, 0, 0] r slices_S4x12x64x256_S4x12x50x256_0_0_0_0) shapeCasts_S4x12x50x256_S4x12x50x2x128)
      slices_S4x12x50x2x128_S4x12x50x2x120_0_0_0_0_0) shapeCasts_S4x12x50x2x120_S4x12x50x2x3x40)
    transposes_S4x12x50x2x3x40_S50x40x4x12x2x3_2_5_0_1_3_4) shapeCasts_S50x40x4x12x2x3_S50x40x288) slices_S50x40x288_S50x40x256_0_0_0

/-- The second call is entered with the histogram made of the first call's array. -/
theorem W1_v7 : W1 m c main_v7 = histOf (raw m c) := by
  unfold W1 V2 V1
  rw [outsA_v0]
  after_results_simp
  rfl
/-- With its transpose. -/
theorem W1_v8 : W1 m c main_v8 = transpose S40x50x256 [1, 0, 2] (histOf (raw m c)) transposes_S50x40x256_S40x50x256_1_0_2 := by
  unfold W1 V2 V1
  rw [outsA_v0]
  after_results_simp
  rfl
/-- With the points, subspaces first. -/
theorem W1_v10 : W1 m c main_v10 = transpose S40x50x8 [1, 0, 2] (shapeCast S50x40x8 (m ((c.tc : Thread nD τ).loc main_arg0) : S50x320.Idx → EReal) shapeCasts_S50x320_S50x40x8) transposes_S50x40x8_S40x50x8_1_0_2 := by
  unfold W1 V2 V1
  rw [outsA_v0]
  after_results_simp
  rfl
/-- With the codebooks as launched. -/
theorem W1_arg1 : W1 m c main_arg1 = m ((c.tc : Thread nD τ).loc main_arg1) := by
  unfold W1 V2 V1
  rw [outsA_v0]
  after_results_simp
  rfl

/-- The histogram's entry: base `k / 72`, tile `k % 72 / 6` of it, half `k % 6 / 3` of the tile, and lane `k % 3 * 40 + mm` of the half. -/
theorem histOf_apply (r : S4x12x64x256.Idx → EReal) (b : Fin 50) (mm : Fin 40) (k : Fin 256) :
    histOf r (ValueIdx.ix3 b mm k) = r (ValueIdx.ix4 (⟨k.val / 72, by omega⟩ : Fin 4) (⟨k.val % 72 / 6, by omega⟩ : Fin 12) (⟨b.val, by omega⟩ : Fin 64)
      (⟨128 * (k.val % 6 / 3) + (k.val % 3 * 40 + mm.val), by omega⟩ : Fin 256)) := by
  unfold histOf
  pointwise
  refine congrArg r (funext fun a => Fin.ext ?_)
  fin_cases a
  · rfl
  · show k.val / 6 % 12 = k.val % 72 / 6; omega
  · rfl
  · show k.val / 3 % 2 * 128 + (k.val % 3 * 40 + mm.val) = 128 * (k.val % 6 / 3) + (k.val % 3 * 40 + mm.val); omega

/-- The histogram of the kernel counts: the weights of the vectors whose code is `k`. -/
theorem hist_apply (b : Fin 50) (mm : Fin 40) (k : Fin 256) : W1 m c main_v7 (ValueIdx.ix3 b mm k) = count (codesA m c) (gA m c) b mm k.val := by
  rw [W1_v7, histOf_apply]
  refine (raw_count m c (⟨k.val % 72 / 6, by omega⟩ : Fin 12) (⟨b.val, by omega⟩ : Fin 64) (⟨128 * (k.val % 6 / 3) + (k.val % 3 * 40 + mm.val), by omega⟩ : Fin 256) b
    (⟨k.val % 6 / 3, by omega⟩ : Fin 2) (⟨k.val % 3 * 40 + mm.val, by omega⟩ : Fin 128) mm (⟨k.val / 72, by omega⟩ : Fin 4) rfl rfl
    (show k.val % 3 * 40 + mm.val < 120 by omega) (show (k.val % 3 * 40 + mm.val) % 40 = mm.val by omega)).trans ?_
  refine congrArg (count (codesA m c) (gA m c) b mm) ?_
  show 72 * (k.val / 72) + 3 * (2 * (k.val % 72 / 6) + k.val % 6 / 3) + (k.val % 3 * 40 + mm.val) / 40 = k.val
  omega

/-- The histogram, subspaces first. -/
theorem W1_v8_apply (b : Fin 50) (mm : Fin 40) (k : Fin 256) : W1 m c main_v8 (ValueIdx.ix3 mm b k) = count (codesA m c) (gA m c) b mm k.val := by
  rw [W1_v8, ← hist_apply, W1_v7]
  pointwise
  rfl

/-- A point's column in its subspace. -/
def col (mm : Fin 40) (d : Fin 8) : Fin 320 := ⟨8 * mm.val + d.val, by omega⟩

/-- The points, subspaces first. -/
theorem W1_v10_apply (b : Fin 50) (mm : Fin 40) (d : Fin 8) :
    W1 m c main_v10 (ValueIdx.ix3 mm b d) = m ((c.tc : Thread nD τ).loc main_arg0) (ValueIdx.ix2 b (col mm d)) := by
  rw [W1_v10]
  generalize hX : (m ((c.tc : Thread nD τ).loc main_arg0) : S50x320.Idx → EReal) = X
  pointwise
  refine congrArg X (funext fun a => Fin.ext ?_)
  fin_cases a
  · rfl
  · show mm.val * 8 + d.val = 8 * mm.val + d.val; omega

/-! ## What every final state holds -/

theorem final_v7 : final m c main_v7 = W1 m c main_v7 := by
  rw [← W1_eq]
  unfold final V4 V3
  after_results_simp
  rfl
theorem final_v11_1 : final m c main_v11_1 = gcb m c := by
  unfold final V4 V3
  rw [outs_v11_1]
  after_results_simp
  rfl
theorem final_v13 : final m c main_v13 = shapeCast S50x320 (transpose S50x40x8 [1, 0, 2] (gx m c : S40x50x8.Idx → EReal) transposes_S40x50x8_S50x40x8_1_0_2) shapeCasts_S50x40x8_S50x320 := by
  unfold final V4 V3
  rw [outs_v11_0]
  after_results_simp
  rfl
/-- The gradient of the points, read out of the second call's array. -/
theorem final_v13_apply (b : Fin 50) (mm : Fin 40) (d : Fin 8) : final m c main_v13 (ValueIdx.ix2 b (col mm d)) = gx m c (ValueIdx.ix3 mm b d) := by
  rw [final_v13]
  generalize hX : (gx m c : S40x50x8.Idx → EReal) = X
  pointwise
  refine congrArg X (funext fun a => Fin.ext ?_)
  fin_cases a
  · show (8 * mm.val + d.val) / 8 = mm.val; omega
  · rfl
  · show (8 * mm.val + d.val) % 8 = d.val; omega

end Cert.Proof.KernelIdeal

end
-- ==== Proof.KernelIdeal.FinishValue.lean ====
/-
  THE FINISHING CALL'S VALUES: its two result arrays at an index, by the arrays it is entered with.
-/
module

public import proofs.«01_k».proof.Proof.KernelIdeal.Run
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.KernelIdeal

open Cert.KernelIdeal Cert.KernelIdeal.Gen Idealize.ShloMosaic Idealize.ShloMosaic.TcCoe Idealize.SL.Sem Idealize.ShloMosaic.StableHlo
open Idealize.ShloMosaic.Pipeline (Dat)

variable (W : (c : Dev nD) → Valuation τ sig (Elt Ideal)) (m : (ℓ : Loc nD τ sig) → Buf (Elt Ideal) ℓ) (c : Dev nD)

/-! ## The finishing body -/

/-- The body's first store at a row and a column. -/
theorem pay4_apply (v0 : FVec Ideal S1x50x256 .f32) (v2 : FVec Ideal S1x256x8 .f32) (v4 : FVec Ideal S1x50x8 .bf16) (b : Fin 50) (d : Fin 8) :
    k1_pay4 (F := Ideal) v0 v2 v4 (ValueIdx.ix3 (0 : Fin 1) b d)
      = Ideal.ofBits .f32 0x40000000#32 * ((∑ k : Fin 256, v0 (ValueIdx.ix3 (0 : Fin 1) b k)) * v4 (ValueIdx.ix3 (0 : Fin 1) b d)
        - ∑ k : Fin 256, v0 (ValueIdx.ix3 (0 : Fin 1) b k) * v2 (ValueIdx.ix3 (0 : Fin 1) k d)) := by
  pointwise [k1_pay4, k1_pay1, k1_pay2, k1_pay3]
  rfl
/-- The body's second store at a centroid and a column: the column of ones makes the histogram's total. -/
theorem pay5_apply (v0 : FVec Ideal S1x50x256 .f32) (v2 : FVec Ideal S1x256x8 .f32) (v4 : FVec Ideal S1x50x8 .bf16) (k : Fin 256) (d : Fin 8) :
    k1_pay5 (F := Ideal) v0 v2 v4 (ValueIdx.ix3 (0 : Fin 1) k d)
      = Ideal.ofBits .f32 0x40000000#32 * ((∑ b : Fin 50, v0 (ValueIdx.ix3 (0 : Fin 1) b k)) * v2 (ValueIdx.ix3 (0 : Fin 1) k d)
        - ∑ b : Fin 50, v0 (ValueIdx.ix3 (0 : Fin 1) b k) * v4 (ValueIdx.ix3 (0 : Fin 1) b d)) := by
  pointwise [k1_pay5, k1_pay1, k1_pay2, k1_pay3]
  rfl

/-! ## The blocks: one subspace at each point of the grid -/

theorem coords1 (t : Fin cfg1.N) : (grid1.coords t 0).val = t.val :=
  (by decide +kernel : ∀ t : Fin grid1.N, (grid1.coords t 0).val = t.val) t

theorem idx1_0 (t : Fin cfg1.N) : win1_0.index t = ![t.val, 0, 0] := by
  funext a
  have ht : t.val < 40 := lt_of_lt_of_eq t.isLt N_1
  have e := coords1 t
  fin_cases a
  · show (BitVec.ofNat 32 (grid1.coords t 0).val).toNat = t.val
    rw [e, BitVec.toNat_ofNat]; omega
  · rfl
  · rfl
theorem idx1_1 (t : Fin cfg1.N) : win1_1.index t = ![t.val, 0, 0] := by
  funext a
  have ht : t.val < 40 := lt_of_lt_of_eq t.isLt N_1
  have e := coords1 t
  fin_cases a
  · show (BitVec.ofNat 32 (grid1.coords t 0).val).toNat = t.val
    rw [e, BitVec.toNat_ofNat]; omega
  · rfl
  · rfl
theorem idx1_2 (t : Fin cfg1.N) : win1_2.index t = ![t.val, 0, 0] := by
  funext a
  have ht : t.val < 40 := lt_of_lt_of_eq t.isLt N_1
  have e := coords1 t
  fin_cases a
  · show (BitVec.ofNat 32 (grid1.coords t 0).val).toNat = t.val
    rw [e, BitVec.toNat_ofNat]; omega
  · rfl
  · rfl
theorem idx1_3 (t : Fin cfg1.N) : win1_3.index t = ![t.val, 0, 0] := by
  funext a
  have ht : t.val < 40 := lt_of_lt_of_eq t.isLt N_1
  have e := coords1 t
  fin_cases a
  · show (BitVec.ofNat 32 (grid1.coords t 0).val).toNat = t.val
    rw [e, BitVec.toNat_ofNat]; omega
  · rfl
  · rfl
theorem idx1_4 (t : Fin cfg1.N) : win1_4.index t = ![t.val, 0, 0] := by
  funext a
  have ht : t.val < 40 := lt_of_lt_of_eq t.isLt N_1
  have e := coords1 t
  fin_cases a
  · show (BitVec.ofNat 32 (grid1.coords t 0).val).toNat = t.val
    rw [e, BitVec.toNat_ofNat]; omega
  · rfl
  · rfl

/-- The subspace of a grid point. -/
def sub (t : Fin cfg1.N) : Fin 40 := ⟨t.val, lt_of_lt_of_eq t.isLt N_1⟩

theorem blk1_0_apply (t : Fin cfg1.N) (p : Fin 50) (q : Fin 256) :
    blk1 W c 0 t (ValueIdx.ix3 (0 : Fin 1) p q) = W c main_v8 (ValueIdx.ix3 (sub t) p q) := by
  show ((cfg1.win 0).blk t).view.read (Elt Ideal) _ (ValueIdx.ix3 (0 : Fin 1) p q) = _
  blk_ext [idx1_0 t, sub]
theorem blk1_1_apply (t : Fin cfg1.N) (p : Fin 256) (q : Fin 8) :
    blk1 W c 1 t (ValueIdx.ix3 (0 : Fin 1) p q) = W c main_arg1 (ValueIdx.ix3 (sub t) p q) := by
  show ((cfg1.win 1).blk t).view.read (Elt Ideal) _ (ValueIdx.ix3 (0 : Fin 1) p q) = _
  blk_ext [idx1_1 t, sub]
theorem blk1_2_apply (t : Fin cfg1.N) (p : Fin 50) (q : Fin 8) :
    blk1 W c 2 t (ValueIdx.ix3 (0 : Fin 1) p q) = W c main_v10 (ValueIdx.ix3 (sub t) p q) := by
  show ((cfg1.win 2).blk t).view.read (Elt Ideal) _ (ValueIdx.ix3 (0 : Fin 1) p q) = _
  blk_ext [idx1_2 t, sub]

/-! ## The arrays the finishing call leaves -/

/-- The grid point of a subspace. -/
def pt (mm : Fin 40) : Fin cfg1.N := ⟨mm.val, lt_of_lt_of_eq mm.isLt N_1.symm⟩

/-- The points' gradient array: at each subspace, the block stored at its grid point. -/
theorem gx_blocks (y : S40x50x8.Idx) : (dat1 W c).arrAt 3 cfg1.N y
    = k1_pay4 (blk1 W c 0 (pt (y 0))) (blk1 W c 1 (pt (y 0))) (blk1 W c 2 (pt (y 0))) (ValueIdx.ix3 (0 : Fin 1) (y 1) (y 2)) := by
  refine congrFun (Dat.arrAt_eq_of_covers (dat1 W c) 3
    (fun y : S40x50x8.Idx => k1_pay4 (blk1 W c 0 (pt (y 0))) (blk1 W c 1 (pt (y 0))) (blk1 W c 2 (pt (y 0))) (ValueIdx.ix3 (0 : Fin 1) (y 1) (y 2)))
    (by decide +kernel) fun t hf y => ?_) y
  have e := idx1_3 t
  have hv : ∀ a, (((cfg1.win 3).blk t).view.emb y a : ℕ) = win1_3.index t a * win1_3.size a + (y a : ℕ) := fun a => Pipeline.Window.rect_emb_val win1_3 t y a
  have h1 : (y 0).val < 1 := (y 0).isLt
  have v0 : (((cfg1.win 3).blk t).view.emb y 0 : ℕ) = t.val := by rw [hv 0, e]; show t.val * 1 + (y 0).val = _; omega
  have v1 : (((cfg1.win 3).blk t).view.emb y 1 : ℕ) = (y 1 : ℕ) := by rw [hv 1, e]; show 0 * 50 + (y 1).val = _; omega
  have v2 : (((cfg1.win 3).blk t).view.emb y 2 : ℕ) = (y 2 : ℕ) := by rw [hv 2, e]; show 0 * 8 + (y 2).val = _; omega
  have ept : t = pt (((cfg1.win 3).blk t).view.emb y 0) := Fin.ext v0.symm
  show (dat1 W c).after 3 t y = k1_pay4 (blk1 W c 0 (pt (((cfg1.win 3).blk t).view.emb y 0))) (blk1 W c 1 (pt (((cfg1.win 3).blk t).view.emb y 0)))
    (blk1 W c 2 (pt (((cfg1.win 3).blk t).view.emb y 0))) (ValueIdx.ix3 (0 : Fin 1) (((cfg1.win 3).blk t).view.emb y 1) (((cfg1.win 3).blk t).view.emb y 2))
  rw [← ept, after1_3]
  refine congrArg (k1_pay4 (blk1 W c 0 t) (blk1 W c 1 t) (blk1 W c 2 t)) (funext fun a => Fin.ext ?_)
  fin_cases a
  · show (y 0).val = 0; omega
  · exact v1.symm
  · exact v2.symm

/-- The codebooks' gradient array: at each subspace, the block stored at its grid point. -/
theorem gcb_blocks (y : S40x256x8.Idx) : (dat1 W c).arrAt 4 cfg1.N y
    = k1_pay5 (blk1 W c 0 (pt (y 0))) (blk1 W c 1 (pt (y 0))) (blk1 W c 2 (pt (y 0))) (ValueIdx.ix3 (0 : Fin 1) (y 1) (y 2)) := by
  refine congrFun (Dat.arrAt_eq_of_covers (dat1 W c) 4
    (fun y : S40x256x8.Idx => k1_pay5 (blk1 W c 0 (pt (y 0))) (blk1 W c 1 (pt (y 0))) (blk1 W c 2 (pt (y 0))) (ValueIdx.ix3 (0 : Fin 1) (y 1) (y 2)))
    (by decide +kernel) fun t hf y => ?_) y
  have e := idx1_4 t
  have hv : ∀ a, (((cfg1.win 4).blk t).view.emb y a : ℕ) = win1_4.index t a * win1_4.size a + (y a : ℕ) := fun a => Pipeline.Window.rect_emb_val win1_4 t y a
  have h1 : (y 0).val < 1 := (y 0).isLt
  have v0 : (((cfg1.win 4).blk t).view.emb y 0 : ℕ) = t.val := by rw [hv 0, e]; show t.val * 1 + (y 0).val = _; omega
  have v1 : (((cfg1.win 4).blk t).view.emb y 1 : ℕ) = (y 1 : ℕ) := by rw [hv 1, e]; show 0 * 256 + (y 1).val = _; omega
  have v2 : (((cfg1.win 4).blk t).view.emb y 2 : ℕ) = (y 2 : ℕ) := by rw [hv 2, e]; show 0 * 8 + (y 2).val = _; omega
  have ept : t = pt (((cfg1.win 4).blk t).view.emb y 0) := Fin.ext v0.symm
  show (dat1 W c).after 4 t y = k1_pay5 (blk1 W c 0 (pt (((cfg1.win 4).blk t).view.emb y 0))) (blk1 W c 1 (pt (((cfg1.win 4).blk t).view.emb y 0)))
    (blk1 W c 2 (pt (((cfg1.win 4).blk t).view.emb y 0))) (ValueIdx.ix3 (0 : Fin 1) (((cfg1.win 4).blk t).view.emb y 1) (((cfg1.win 4).blk t).view.emb y 2))
  rw [← ept, after1_4]
  refine congrArg (k1_pay5 (blk1 W c 0 t) (blk1 W c 1 t) (blk1 W c 2 t)) (funext fun a => Fin.ext ?_)
  fin_cases a
  · show (y 0).val = 0; omega
  · exact v1.symm
  · exact v2.symm

variable (h : Fin 50 → Fin 256 → EReal) (cb : Fin 256 → Fin 8 → EReal) (x : Fin 50 → Fin 8 → EReal) (mm : Fin 40)
  (h8 : ∀ b k, W c main_v8 (ValueIdx.ix3 mm b k) = h b k) (hcb : ∀ k d, W c main_arg1 (ValueIdx.ix3 mm k d) = cb k d)
  (hx : ∀ b d, W c main_v10 (ValueIdx.ix3 mm b d) = x b d)

include h8 hcb hx

/-- The points' gradient at a subspace, a row and a column, by that subspace of the arrays the call is entered with. -/
theorem gx_apply (b : Fin 50) (d : Fin 8) : (dat1 W c).arrAt 3 cfg1.N (ValueIdx.ix3 mm b d)
    = Ideal.ofBits .f32 0x40000000#32 * ((∑ k : Fin 256, h b k) * x b d - ∑ k : Fin 256, h b k * cb k d) := by
  refine (gx_blocks W c (ValueIdx.ix3 mm b d)).trans ((pay4_apply _ _ _ b d).trans ?_)
  refine congrArg (Ideal.ofBits .f32 0x40000000#32 * ·) (congrArg₂ (· - ·) (congrArg₂ (· * ·) (Finset.sum_congr rfl fun k _ => ?_) ?_)
    (Finset.sum_congr rfl fun k _ => congrArg₂ (· * ·) ?_ ?_))
  · exact (blk1_0_apply W c (pt mm) b k).trans (h8 b k)
  · exact (blk1_2_apply W c (pt mm) b d).trans (hx b d)
  · exact (blk1_0_apply W c (pt mm) b k).trans (h8 b k)
  · exact (blk1_1_apply W c (pt mm) k d).trans (hcb k d)
/-- The codebooks' gradient at a subspace, a centroid and a column, by that subspace of the arrays the call is entered with. -/
theorem gcb_apply (k : Fin 256) (d : Fin 8) : (dat1 W c).arrAt 4 cfg1.N (ValueIdx.ix3 mm k d)
    = Ideal.ofBits .f32 0x40000000#32 * ((∑ b : Fin 50, h b k) * cb k d - ∑ b : Fin 50, h b k * x b d) := by
  refine (gcb_blocks W c (ValueIdx.ix3 mm k d)).trans ((pay5_apply _ _ _ k d).trans ?_)
  refine congrArg (Ideal.ofBits .f32 0x40000000#32 * ·) (congrArg₂ (· - ·) (congrArg₂ (· * ·) (Finset.sum_congr rfl fun b _ => ?_) ?_)
    (Finset.sum_congr rfl fun b _ => congrArg₂ (· * ·) ?_ ?_))
  · exact (blk1_0_apply W c (pt mm) b k).trans (h8 b k)
  · exact (blk1_1_apply W c (pt mm) k d).trans (hcb k d)
  · exact (blk1_0_apply W c (pt mm) b k).trans (h8 b k)
  · exact (blk1_2_apply W c (pt mm) b d).trans (hx b d)

end Cert.Proof.KernelIdeal

end
-- ==== Proof.RefScatter.lean ====
/-
  THE REFERENCE'S HISTOGRAM: the scatter of the weights, read at an entry as a sum over the vectors.
-/
module

public import proofs.«01_k».proof.Proof.Gen.ReferenceIdeal.Run
public import Idealize.ShloMosaic.Lib.Routing.OpsPair
public import Idealize.ShloMosaic.Lib.Pointwise
public import Idealize.ShloMosaic.Lib.Pipeline.Value
public import Idealize.ShloMosaic.Lib.IdealHost

@[expose] public section

set_option maxRecDepth 16384

noncomputable section

namespace Cert.Proof.ReferenceIdeal

open Cert.ReferenceIdeal Cert.ReferenceIdeal.Gen Idealize.ShloMosaic Idealize.ShloMosaic.TcCoe Idealize.SL.Sem Idealize.ShloMosaic.StableHlo
open Idealize.ShloMosaic.Routing (shape3)

/-! ## Where an update of a scatter by triples of index words lands -/

/-- Update `(a, b, e)` of a scatter of scalars into a rank-three array, three index words each, lands at `(r, c, k)` exactly when its words,
    read signed, are `r`, `c` and `k`. -/
theorem scatter_lands3 {R C K A B E w : Nat} (d : ScatterDims (shape3 R C K) ⟨4, ![A, B, E, 3]⟩ (shape3 A B E)) (hiw : d.insertedWindowDims = [0, 1, 2])
    (hsd : d.scatterDimsToOperandDims = [0, 1, 2]) (hivd : d.indexVectorDim = 3) (idx : IVec ⟨4, ![A, B, E, 3]⟩ w)
    (a : Fin A) (b : Fin B) (e : Fin E) (r : Fin R) (c : Fin C) (k : Fin K) :
    d.resultIdx? (ValueIdx.ix3 a b e) idx = some (ValueIdx.ix3 r c k) ↔ (idx (ValueIdx.ix4 a b e 0)).toInt = r.val
      ∧ (idx (ValueIdx.ix4 a b e 1)).toInt = c.val ∧ (idx (ValueIdx.ix4 a b e 2)).toInt = k.val := by
  have huw : d.updateWindowDims = [] := List.eq_nil_of_length_eq_zero (by
    rw [d.window_length]
    show ((shape3 R C K).kept d.insertedWindowDims).length = 0
    rw [hiw]
    rfl)
  have hm : ∀ q : Fin 3, q ∈ d.scatterDimsToOperandDims := fun q => by rw [hsd]; fin_cases q <;> simp
  have hwin : ∀ q : Fin 3, d.window (ValueIdx.ix3 a b e) q = 0 := fun q => by
    unfold ScatterDims.window
    rw [dif_neg fun h => (of_decide_eq_true (List.mem_filter.1 h).2) (by rw [hiw]; fin_cases q <;> simp)]
  have hsi : ∀ q : Fin 3, d.siIdx (ValueIdx.ix3 a b e) ⟨d.scatterDimsToOperandDims.idxOf q, List.idxOf_lt_length_iff.2 (hm q)⟩ = ValueIdx.ix4 a b e q := fun q => by
    have hk : d.siKept = [0, 1, 2] := by
      show (List.finRange 4).filter (fun x => decide (x.val ≠ d.indexVectorDim)) = _
      rw [hivd]
      rfl
    have hu : d.uScatter = [0, 1, 2] := by
      show (shape3 A B E).kept d.updateWindowDims = _
      rw [huw]
      rfl
    have el : ∀ (l : List (Fin 3)) (n : ℕ) (h : n < l.length) (m : Fin 3), l = [0, 1, 2] → n = m.val → l[n]'h = m := by
      intro l n h m hl hn
      subst hl
      subst hn
      fin_cases m <;> rfl
    funext b'
    apply Fin.ext
    match b' with
    | ⟨0, _⟩ =>
      unfold ScatterDims.siIdx
      rw [dif_neg (by rw [hivd]; exact (by decide : (0 : ℕ) ≠ 3))]
      unfold ScatterDims.siCoord
      simp only [Fin.val_cast]
      rw [el _ _ _ 0 hu (by rw [hk]; rfl)]
    | ⟨1, _⟩ =>
      unfold ScatterDims.siIdx
      rw [dif_neg (by rw [hivd]; exact (by decide : (1 : ℕ) ≠ 3))]
      unfold ScatterDims.siCoord
      simp only [Fin.val_cast]
      rw [el _ _ _ 1 hu (by rw [hk]; rfl)]
    | ⟨2, _⟩ =>
      unfold ScatterDims.siIdx
      rw [dif_neg (by rw [hivd]; exact (by decide : (2 : ℕ) ≠ 3))]
      unfold ScatterDims.siCoord
      simp only [Fin.val_cast]
      rw [el _ _ _ 2 hu (by rw [hk]; rfl)]
    | ⟨3, _⟩ =>
      unfold ScatterDims.siIdx
      rw [dif_pos (by rw [hivd])]
      show List.idxOf q d.scatterDimsToOperandDims = q.val
      rw [hsd]
      fin_cases q <;> rfl
  have hstart : ∀ q : Fin 3, d.start (ValueIdx.ix3 a b e) idx q = (idx (ValueIdx.ix4 a b e q)).toInt := fun q => by
    unfold ScatterDims.start
    rw [dif_pos (hm q), hsi]
  rw [Routing.resultIdx?_eq_some]
  have h0' : ((ValueIdx.ix3 r c k (0 : Fin 3)).val : Int) = r.val := rfl
  have h1' : ((ValueIdx.ix3 r c k (1 : Fin 3)).val : Int) = c.val := rfl
  have h2' : ((ValueIdx.ix3 r c k (2 : Fin 3)).val : Int) = k.val := rfl
  constructor
  · intro h
    have h0 := h 0
    have h1 := h 1
    have h2 := h 2
    rw [hstart, hwin] at h0 h1 h2
    exact ⟨(add_zero _).symm.trans (h0.trans h0'), (add_zero _).symm.trans (h1.trans h1'), (add_zero _).symm.trans (h2.trans h2')⟩
  · rintro ⟨h0, h1, h2⟩ q
    rw [hstart, hwin]
    match q with
    | ⟨0, _⟩ => exact (add_zero _).trans (h0.trans h0'.symm)
    | ⟨1, _⟩ => exact (add_zero _).trans (h1.trans h1'.symm)
    | ⟨2, _⟩ => exact (add_zero _).trans (h2.trans h2'.symm)

/-! ## The index words -/

/-- The rows, the subspaces and the codes as index words, a negative one wrapped. -/
def pieceRow : IVec S50x1048576x40x1 32 := (broadcastInDim S50x1048576x40x1 ![0, 1, 2] bcast_S50x1048576x40_S50x1048576x40x1_0_1_2 (broadcastInDim S50x1048576x40 ![0, 1, 2] bcast_S50x1x1_S50x1048576x40_0_1_2 (select (cmpi .slt (broadcastInDim S50x1x1 ![0] bcast_S50_S50x1x1_0 (iotaInDim S50 32 0)) (broadcastInDim S50x1x1 ![] bcast_S_S50x1x1 (constantI S_ 32 0#32))) (addi (broadcastInDim S50x1x1 ![0] bcast_S50_S50x1x1_0 (iotaInDim S50 32 0)) (broadcastInDim S50x1x1 ![] bcast_S_S50x1x1 (constantI S_ 32 50#32))) (broadcastInDim S50x1x1 ![0] bcast_S50_S50x1x1_0 (iotaInDim S50 32 0)))))
def pieceSub : IVec S50x1048576x40x1 32 := (broadcastInDim S50x1048576x40x1 ![0, 1, 2] bcast_S50x1048576x40_S50x1048576x40x1_0_1_2 (broadcastInDim S50x1048576x40 ![0, 1, 2] bcast_S1x1x40_S50x1048576x40_0_1_2 (select (cmpi .slt (broadcastInDim S1x1x40 ![2] bcast_S40_S1x1x40_2 (iotaInDim S40 32 0)) (broadcastInDim S1x1x40 ![] bcast_S_S1x1x40 (constantI S_ 32 0#32))) (addi (broadcastInDim S1x1x40 ![2] bcast_S40_S1x1x40_2 (iotaInDim S40 32 0)) (broadcastInDim S1x1x40 ![] bcast_S_S1x1x40 (constantI S_ 32 40#32))) (broadcastInDim S1x1x40 ![2] bcast_S40_S1x1x40_2 (iotaInDim S40 32 0)))))
def pieceCode (codes : IVec S1048576x40 8) : IVec S50x1048576x40x1 32 := (broadcastInDim S50x1048576x40x1 ![0, 1, 2] bcast_S50x1048576x40_S50x1048576x40x1_0_1_2 (broadcastInDim S50x1048576x40 ![0, 1, 2] bcast_S1x1048576x40_S50x1048576x40_0_1_2 (select (cmpi .slt (broadcastInDim S1x1048576x40 ![1, 2] bcast_S1048576x40_S1x1048576x40_1_2 (extui 32 codes natLt_8_32)) (broadcastInDim S1x1048576x40 ![] bcast_S_S1x1048576x40 (constantI S_ 32 0#32))) (addi (broadcastInDim S1x1048576x40 ![1, 2] bcast_S1048576x40_S1x1048576x40_1_2 (extui 32 codes natLt_8_32)) (broadcastInDim S1x1048576x40 ![] bcast_S_S1x1048576x40 (constantI S_ 32 256#32))) (broadcastInDim S1x1048576x40 ![1, 2] bcast_S1048576x40_S1x1048576x40_1_2 (extui 32 codes natLt_8_32)))))

/-- The reference's scatter indices: row, subspace and code of each update. -/
def refIdx (codes : IVec S1048576x40 8) : IVec S50x1048576x40x3 32 :=
  concatenate S50x1048576x40x3 3 [⟨S50x1048576x40x1, pieceRow⟩, ⟨S50x1048576x40x1, pieceSub⟩, ⟨S50x1048576x40x1, pieceCode codes⟩]
    concatenates_S50x1048576x40x1_S50x1048576x40x1_S50x1048576x40x1_S50x1048576x40x3_d3

/-- The reference's histogram. -/
def refHist (codes : IVec S1048576x40 8) (g : FVec Ideal S50x1048576 .bf16) : FVec Ideal S50x40x256 .f32 :=
  Host.scatterAdd scatter_S50x40x256_S50x1048576x40x3_S50x1048576x40_n_012_012_3 (broadcastInDim S50x40x256 ![] bcast_S_S50x40x256 (constant S_ .f32 0x00000000#32)) (refIdx codes) (broadcastInDim S50x1048576x40 ![0, 1, 2] bcast_S50x1048576x1_S50x1048576x40_0_1_2 (broadcastInDim S50x1048576x1 ![0, 1] bcast_S50x1048576_S50x1048576x1_0_1 (extf .f32 g bitsLt_bf16_f32)))

/-- A word that is not negative is left as it is by the wrap of a negative index. -/
theorem wrap_apply {s : Shape} (h : S_.BroadcastsInDim s ![]) (X : IVec s 32) (n : BitVec 32) (k : s.Idx) (hx : (X k).toNat < 2 ^ 31) :
    select (cmpi .slt X (broadcastInDim s ![] h (constantI S_ 32 0#32))) (addi X (broadcastInDim s ![] h (constantI S_ 32 n))) X k = X k :=
  Routing.wrap_of_lt (X k) _ hx

/-- The three columns of index words joined on a last axis, read at each column. -/
theorem cat3_0 (x0 x1 x2 : IVec S50x1048576x40x1 32)
    (h : Shape.Concatenates [S50x1048576x40x1, S50x1048576x40x1, S50x1048576x40x1] S50x1048576x40x3 3) (b : Fin 50) (N : Fin 1048576) (mm : Fin 40) :
    concatenate S50x1048576x40x3 3 [⟨S50x1048576x40x1, x0⟩, ⟨S50x1048576x40x1, x1⟩, ⟨S50x1048576x40x1, x2⟩] h (ValueIdx.ix4 b N mm (0 : Fin 3))
      = x0 (ValueIdx.ix4 b N mm (0 : Fin 1)) :=
  concatenate_apply_piece (3 : Fin S50x1048576x40x3.rank) [⟨S50x1048576x40x1, x0⟩, ⟨S50x1048576x40x1, x1⟩, ⟨S50x1048576x40x1, x2⟩] h (ValueIdx.ix4 b N mm (0 : Fin 3))
    0 (by simp) S50x1048576x40x1 x0 rfl rfl 0 rfl (ValueIdx.ix4 b N mm (0 : Fin 1)) (fun q hq => by fin_cases q <;> first | rfl | exact absurd rfl hq) rfl
/-- The same, at the second column. -/
theorem cat3_1 (x0 x1 x2 : IVec S50x1048576x40x1 32)
    (h : Shape.Concatenates [S50x1048576x40x1, S50x1048576x40x1, S50x1048576x40x1] S50x1048576x40x3 3) (b : Fin 50) (N : Fin 1048576) (mm : Fin 40) :
    concatenate S50x1048576x40x3 3 [⟨S50x1048576x40x1, x0⟩, ⟨S50x1048576x40x1, x1⟩, ⟨S50x1048576x40x1, x2⟩] h (ValueIdx.ix4 b N mm (1 : Fin 3))
      = x1 (ValueIdx.ix4 b N mm (0 : Fin 1)) :=
  concatenate_apply_piece (3 : Fin S50x1048576x40x3.rank) [⟨S50x1048576x40x1, x0⟩, ⟨S50x1048576x40x1, x1⟩, ⟨S50x1048576x40x1, x2⟩] h (ValueIdx.ix4 b N mm (1 : Fin 3))
    1 (by simp) S50x1048576x40x1 x1 rfl rfl 1 rfl (ValueIdx.ix4 b N mm (0 : Fin 1)) (fun q hq => by fin_cases q <;> first | rfl | exact absurd rfl hq) rfl
/-- The same, at the third column. -/
theorem cat3_2 (x0 x1 x2 : IVec S50x1048576x40x1 32)
    (h : Shape.Concatenates [S50x1048576x40x1, S50x1048576x40x1, S50x1048576x40x1] S50x1048576x40x3 3) (b : Fin 50) (N : Fin 1048576) (mm : Fin 40) :
    concatenate S50x1048576x40x3 3 [⟨S50x1048576x40x1, x0⟩, ⟨S50x1048576x40x1, x1⟩, ⟨S50x1048576x40x1, x2⟩] h (ValueIdx.ix4 b N mm (2 : Fin 3))
      = x2 (ValueIdx.ix4 b N mm (0 : Fin 1)) :=
  concatenate_apply_piece (3 : Fin S50x1048576x40x3.rank) [⟨S50x1048576x40x1, x0⟩, ⟨S50x1048576x40x1, x1⟩, ⟨S50x1048576x40x1, x2⟩] h (ValueIdx.ix4 b N mm (2 : Fin 3))
    2 (by simp) S50x1048576x40x1 x2 rfl rfl 2 rfl (ValueIdx.ix4 b N mm (0 : Fin 1)) (fun q hq => by fin_cases q <;> first | rfl | exact absurd rfl hq) rfl

/-- The row's word. -/
theorem refIdx_row (codes : IVec S1048576x40 8) (b : Fin 50) (N : Fin 1048576) (mm : Fin 40) :
    refIdx codes (ValueIdx.ix4 b N mm (0 : Fin 3)) = BitVec.ofNat 32 b.val := by
  have e : broadcastInDim S50x1x1 ![0] bcast_S50_S50x1x1_0 (iotaInDim S50 32 0) (ValueIdx.ix3 b (0 : Fin 1) (0 : Fin 1)) = BitVec.ofNat 32 b.val := by
    rw [broadcastInDim_apply _ _ _ _ (ValueIdx.ix1 b) (fun q => by fin_cases q <;> rfl)]
    rfl
  refine (cat3_0 pieceRow pieceSub (pieceCode codes) _ b N mm).trans ?_
  unfold pieceRow
  rw [broadcastInDim_apply _ _ _ _ (ValueIdx.ix3 b N mm) (fun q => by fin_cases q <;> rfl),
    broadcastInDim_apply _ _ _ _ (ValueIdx.ix3 b (0 : Fin 1) (0 : Fin 1)) (fun q => by fin_cases q <;> rfl), wrap_apply _ _ _ _ (by rw [e, BitVec.toNat_ofNat]; exact Nat.lt_of_le_of_lt (Nat.mod_le _ _) (lt_trans b.isLt (by norm_num))), e]

/-- The subspace's word. -/
theorem refIdx_sub (codes : IVec S1048576x40 8) (b : Fin 50) (N : Fin 1048576) (mm : Fin 40) :
    refIdx codes (ValueIdx.ix4 b N mm (1 : Fin 3)) = BitVec.ofNat 32 mm.val := by
  have e : broadcastInDim S1x1x40 ![2] bcast_S40_S1x1x40_2 (iotaInDim S40 32 0) (ValueIdx.ix3 (0 : Fin 1) (0 : Fin 1) mm) = BitVec.ofNat 32 mm.val := by
    rw [broadcastInDim_apply _ _ _ _ (ValueIdx.ix1 mm) (fun q => by fin_cases q <;> rfl)]
    rfl
  refine (cat3_1 pieceRow pieceSub (pieceCode codes) _ b N mm).trans ?_
  unfold pieceSub
  rw [broadcastInDim_apply _ _ _ _ (ValueIdx.ix3 b N mm) (fun q => by fin_cases q <;> rfl),
    broadcastInDim_apply _ _ _ _ (ValueIdx.ix3 (0 : Fin 1) (0 : Fin 1) mm) (fun q => by fin_cases q <;> rfl), wrap_apply _ _ _ _ (by rw [e, BitVec.toNat_ofNat]; exact Nat.lt_of_le_of_lt (Nat.mod_le _ _) (lt_trans mm.isLt (by norm_num))), e]

/-- The code's word. -/
theorem refIdx_code (codes : IVec S1048576x40 8) (b : Fin 50) (N : Fin 1048576) (mm : Fin 40) :
    refIdx codes (ValueIdx.ix4 b N mm (2 : Fin 3)) = BitVec.ofNat 32 (codes (ValueIdx.ix2 N mm)).toNat := by
  have e : broadcastInDim S1x1048576x40 ![1, 2] bcast_S1048576x40_S1x1048576x40_1_2 (extui 32 codes natLt_8_32) (ValueIdx.ix3 (0 : Fin 1) N mm) = BitVec.ofNat 32 (codes (ValueIdx.ix2 N mm)).toNat := by
    rw [broadcastInDim_apply _ _ _ _ (ValueIdx.ix2 N mm) (fun q => by fin_cases q <;> rfl)]
    exact (BitVec.ofNat_toNat ..).symm
  refine (cat3_2 pieceRow pieceSub (pieceCode codes) _ b N mm).trans ?_
  unfold pieceCode
  rw [broadcastInDim_apply _ _ _ _ (ValueIdx.ix3 b N mm) (fun q => by fin_cases q <;> rfl),
    broadcastInDim_apply _ _ _ _ (ValueIdx.ix3 (0 : Fin 1) N mm) (fun q => by fin_cases q <;> rfl), wrap_apply _ _ _ _ (by rw [e, BitVec.toNat_ofNat]; exact Nat.lt_of_le_of_lt (Nat.mod_le _ _) (lt_trans (codes (ValueIdx.ix2 N mm)).isLt (by norm_num))), e]

/-! ## The sum -/

theorem upd_apply (g : FVec Ideal S50x1048576 .bf16) (b' : Fin 50) (N : Fin 1048576) (m' : Fin 40) :
    broadcastInDim S50x1048576x40 ![0, 1, 2] bcast_S50x1048576x1_S50x1048576x40_0_1_2
      (broadcastInDim S50x1048576x1 ![0, 1] bcast_S50x1048576_S50x1048576x1_0_1 (extf (F := Ideal) .f32 g bitsLt_bf16_f32)) (ValueIdx.ix3 b' N m') = g (ValueIdx.ix2 b' N) := by
  rw [broadcastInDim_apply _ _ _ _ (ValueIdx.ix3 b' N (0 : Fin 1)) (fun q => by fin_cases q <;> rfl),
    broadcastInDim_apply _ _ _ _ (ValueIdx.ix2 b' N) (fun q => by fin_cases q <;> rfl)]
  rfl

/-- A sum over triples of what lands at one entry: only the row and the subspace of the entry are left. -/
theorem sum_lands {A B E : ℕ} (P : Fin A → Fin B → Fin E → Prop) [∀ a n e, Decidable (P a n e)] (a : Fin A) (e : Fin E) (Q : Fin B → Prop) [DecidablePred Q]
    (hP : ∀ a' n e', P a' n e' ↔ a' = a ∧ e' = e ∧ Q n) (f : Fin A → Fin B → Fin E → EReal) :
    ∑ a' : Fin A, ∑ n : Fin B, ∑ e' : Fin E, (if P a' n e' then f a' n e' else 0) = ∑ n : Fin B, f a n e * (if Q n then 1 else 0) := by
  rw [Finset.sum_eq_single a]
  · refine Finset.sum_congr rfl fun n _ => ?_
    rw [Finset.sum_eq_single e]
    · by_cases q : Q n
      · rw [if_pos ((hP a n e).mpr ⟨rfl, rfl, q⟩), if_pos q, mul_one]
      · rw [if_neg fun h => q ((hP a n e).mp h).2.2, if_neg q, mul_zero]
    · intro e' _ he
      exact if_neg fun h => he ((hP a n e').mp h).2.1
    · intro h; exact absurd (Finset.mem_univ _) h
  · intro a' _ ha
    exact Finset.sum_eq_zero fun n _ => Finset.sum_eq_zero fun e' _ => if_neg fun h => ha ((hP a' n e').mp h).1
  · intro h; exact absurd (Finset.mem_univ _) h

/-- A scatter of scalars that adds, by triples of index words, read at an entry. -/
theorem scatterAdd_apply {R C K A B E w : Nat} (d : ScatterDims (shape3 R C K) ⟨4, ![A, B, E, 3]⟩ (shape3 A B E)) (x : (shape3 R C K).Idx → EReal)
    (idx : IVec ⟨4, ![A, B, E, 3]⟩ w) (upd : (shape3 A B E).Idx → EReal) (i : (shape3 R C K).Idx) (a : Fin A) (e : Fin E) (Q : Fin B → Prop) [DecidablePred Q]
    (hx : x i = 0) (hP : ∀ (a' : Fin A) (n : Fin B) (e' : Fin E), d.resultIdx? (ValueIdx.ix3 a' n e') idx = some i ↔ a' = a ∧ e' = e ∧ Q n) :
    Ideal.hostScatterAdd d x idx upd i = ∑ n : Fin B, upd (ValueIdx.ix3 a n e) * (if Q n then 1 else 0) := by
  unfold Ideal.hostScatterAdd
  rw [hx, zero_add, Finset.sum_filter, sum_idx3]
  exact sum_lands (fun a' n e' => d.resultIdx? (ix3 a' n e') idx = some i) a e Q hP (fun a' n e' => upd (ix3 a' n e'))

/-- A scatter of scalars into zeros that adds, by the row, the column and a third word below `2^31` of each update: an entry is the sum of the
    updates of its row and column whose third word is its depth. -/
theorem scatter_count {R C K B : Nat} (d : ScatterDims (shape3 R C K) ⟨4, ![R, B, C, 3]⟩ (shape3 R B C)) (hiw : d.insertedWindowDims = [0, 1, 2])
    (hsd : d.scatterDimsToOperandDims = [0, 1, 2]) (hivd : d.indexVectorDim = 3) (x : FVec Ideal (shape3 R C K) .f32) (idx : IVec ⟨4, ![R, B, C, 3]⟩ 32)
    (upd : FVec Ideal (shape3 R B C) .f32) (word : Fin B → Fin C → ℕ) (hR : R < 2 ^ 31) (hC : C < 2 ^ 31) (hw : ∀ n c, word n c < 2 ^ 31)
    (h0 : ∀ r n c, idx (ValueIdx.ix4 r n c 0) = BitVec.ofNat 32 r.val) (h1 : ∀ r n c, idx (ValueIdx.ix4 r n c 1) = BitVec.ofNat 32 c.val)
    (h2 : ∀ r n c, idx (ValueIdx.ix4 r n c 2) = BitVec.ofNat 32 (word n c)) (r : Fin R) (c : Fin C) (k : Fin K) (hx : x (ValueIdx.ix3 r c k) = 0) :
    Host.scatterAdd (F := Ideal) d x idx upd (ValueIdx.ix3 r c k) = ∑ n : Fin B, upd (ValueIdx.ix3 r n c) * (if word n c = k.val then 1 else 0) := by
  refine scatterAdd_apply d x idx upd (ValueIdx.ix3 r c k) r c (fun n => word n c = k.val) hx fun r' n c' => ?_
  have hr := r'.isLt
  have hc := c'.isLt
  have hwn := hw n c'
  rw [scatter_lands3 d hiw hsd hivd idx r' n c' r c k, h0, h1, h2, StableHlo.Predicate.toInt_ofNat_small _ (by omega),
    StableHlo.Predicate.toInt_ofNat_small _ (by omega), StableHlo.Predicate.toInt_ofNat_small _ (by omega), Fin.ext_iff, Fin.ext_iff]
  constructor
  · rintro ⟨e0, e1, e2⟩
    obtain rfl : c' = c := Fin.ext (by omega)
    exact ⟨by omega, rfl, by omega⟩
  · rintro ⟨e0, e1, e2⟩
    obtain rfl : c' = c := Fin.ext (by omega)
    exact ⟨by omega, rfl, by omega⟩

/-- The reference's histogram at row `b`, subspace `mm`, centroid `k`: the weights of the vectors whose code is `k`. -/
theorem refHist_apply (codes : IVec S1048576x40 8) (g : FVec Ideal S50x1048576 .bf16) (b : Fin 50) (mm : Fin 40) (k : Fin 256) :
    refHist codes g (ValueIdx.ix3 b mm k)
      = ∑ N : Fin 1048576, g (ValueIdx.ix2 b N) * (if (codes (ValueIdx.ix2 N mm)).toNat = k.val then 1 else 0) := by
  unfold refHist
  refine (scatter_count scatter_S50x40x256_S50x1048576x40x3_S50x1048576x40_n_012_012_3 rfl rfl rfl _ (refIdx codes) _
    (fun N m' => (codes (ValueIdx.ix2 N m')).toNat) (by norm_num) (by norm_num) (fun N m' => lt_trans (codes (ValueIdx.ix2 N m')).isLt (by norm_num))
    (fun b' N m' => refIdx_row codes b' N m') (fun b' N m' => refIdx_sub codes b' N m') (fun b' N m' => refIdx_code codes b' N m')
    b mm k Ideal.ofBits_zero_f32).trans ?_
  exact Finset.sum_congr rfl fun N _ => congrArg (· * _) (upd_apply g b N mm)

end Cert.Proof.ReferenceIdeal

end
-- ==== Proof.RefValue.lean ====
/-
  THE REFERENCE'S GRADIENTS AT AN INDEX, by its histogram.
-/
module

public import proofs.«01_k».proof.Proof.RefScatter
public import Idealize.ShloMosaic.Lib.Pointwise

@[expose] public section

set_option maxRecDepth 16384

noncomputable section

namespace Cert.Proof.ReferenceIdeal

open Cert.ReferenceIdeal Cert.ReferenceIdeal.Gen Idealize.ShloMosaic Idealize.ShloMosaic.TcCoe Idealize.SL.Sem Idealize.ShloMosaic.StableHlo
open Idealize.ShloMosaic.Pipeline (Dat)

/-- The reference's gradient of the points, from its histogram. -/
def refGx (H : FVec Ideal S50x40x256 .f32) (cb : FVec Ideal S40x256x8 .f32) (x : FVec Ideal S50x320 .bf16) : FVec Ideal S50x320 .bf16 :=
  truncf .bf16 (shapeCast _ (mulf (broadcastInDim S50x40x8 ![] bcast_S_S50x40x8 (constant S_ .f32 0x40000000#32)) (subf (mulf (broadcastInDim S50x40x8 ![0, 1, 2] bcast_S50x40x1_S50x40x8_0_1_2 (broadcastInDim S50x40x1 ![0, 1] bcast_S50x40_S50x40x1_0_1 (Host.reduceAdd H (constant S_ .f32 0x00000000#32) reducesTo_S50x40x256_S50x40_d2 h_S_))) (shapeCast _ (extf .f32 x bitsLt_bf16_f32) shapeCasts_S50x320_S50x40x8)) (transpose S50x40x8 [2, 0, 1] (Host.dotGeneral dot_S40x256x8_S50x40x256_S40x8x50_1_2_2_0_0_1 (some .fp32) cb H) transposes_S40x8x50_S50x40x8_2_0_1))) shapeCasts_S50x40x8_S50x320) bitsLt_bf16_f32
/-- The reference's gradient of the codebooks, from its histogram. -/
def refGcb (H : FVec Ideal S50x40x256 .f32) (cb : FVec Ideal S40x256x8 .f32) (x : FVec Ideal S50x320 .bf16) : FVec Ideal S40x256x8 .f32 :=
  mulf (broadcastInDim S40x256x8 ![] bcast_S_S40x256x8 (constant S_ .f32 0x40000000#32)) (subf (mulf (broadcastInDim S40x256x8 ![0, 1, 2] bcast_S40x256x1_S40x256x8_0_1_2 (broadcastInDim S40x256x1 ![0, 1] bcast_S40x256_S40x256x1_0_1 (Host.reduceAdd H (constant S_ .f32 0x00000000#32) reducesTo_S50x40x256_S40x256_d0 h_S_))) cb) (Host.dotGeneral dot_S50x40x256_S50x40x8_S40x256x8_0_0_2_2_1_1 (some .fp32) H (shapeCast _ (extf .f32 x bitsLt_bf16_f32) shapeCasts_S50x320_S50x40x8)))

variable (m : (ℓ : Loc nD τ sig) → Buf (Elt Ideal) ℓ) (c : Dev nD)

/-- The reference's histogram of a launch memory. -/
def refH : FVec Ideal S50x40x256 .f32 := refHist (m ((c.tc : Thread nD τ).loc main_arg2)) (m ((c.tc : Thread nD τ).loc main_arg3))

theorem res_v46 : Value.res_main_v46 (F := Ideal) m c = refGx (refH m c) (m ((c.tc : Thread nD τ).loc main_arg1)) (m ((c.tc : Thread nD τ).loc main_arg0)) := by
  unfold Value.res_main_v46 refGx refH refHist refIdx pieceRow pieceSub pieceCode
  rfl
theorem res_v53 : Value.res_main_v53 (F := Ideal) m c = refGcb (refH m c) (m ((c.tc : Thread nD τ).loc main_arg1)) (m ((c.tc : Thread nD τ).loc main_arg0)) := by
  unfold Value.res_main_v53 refGcb refH refHist refIdx pieceRow pieceSub pieceCode
  rfl

/-- The reference's gradient of the points at row `b` and column `p`: subspace `p / 8`, column `p % 8` of it. -/
theorem refGx_at (H : FVec Ideal S50x40x256 .f32) (cb : FVec Ideal S40x256x8 .f32) (x : FVec Ideal S50x320 .bf16) (b : Fin 50) (p : Fin 320)
    (h40 : p.val / 8 < 40) (h8 : p.val % 8 < 8) :
    refGx H cb x (ValueIdx.ix2 b p)
      = Ideal.ofBits .f32 0x40000000#32 * ((∑ k : Fin 256, H (ValueIdx.ix3 b (⟨p.val / 8, h40⟩ : Fin 40) k)) * x (ValueIdx.ix2 b p)
        - ∑ k : Fin 256, H (ValueIdx.ix3 b (⟨p.val / 8, h40⟩ : Fin 40) k) * cb (ValueIdx.ix3 (⟨p.val / 8, h40⟩ : Fin 40) k (⟨p.val % 8, h8⟩ : Fin 8))) := by
  unfold refGx
  pointwise
  exact congrArg (Ideal.ofBits .f32 0x40000000#32 * ·) (congrArg₂ (· - ·) rfl (Finset.sum_congr rfl fun k _ => mul_comm _ _))

/-- The same at column `8 mm + d`. -/
theorem refGx_apply (H : FVec Ideal S50x40x256 .f32) (cb : FVec Ideal S40x256x8 .f32) (x : FVec Ideal S50x320 .bf16) (b : Fin 50) (mm : Fin 40) (d : Fin 8) (p : Fin 320)
    (hp : p.val = 8 * mm.val + d.val) :
    refGx H cb x (ValueIdx.ix2 b p)
      = Ideal.ofBits .f32 0x40000000#32 * ((∑ k : Fin 256, H (ValueIdx.ix3 b mm k)) * x (ValueIdx.ix2 b p)
        - ∑ k : Fin 256, H (ValueIdx.ix3 b mm k) * cb (ValueIdx.ix3 mm k d)) := by
  have h40 : p.val / 8 < 40 := by omega
  have h8 : p.val % 8 < 8 := by omega
  rw [refGx_at H cb x b p h40 h8, show (⟨p.val / 8, h40⟩ : Fin 40) = mm from Fin.ext (show p.val / 8 = mm.val by omega),
    show (⟨p.val % 8, h8⟩ : Fin 8) = d from Fin.ext (show p.val % 8 = d.val by omega)]
/-- The reference's gradient of the codebooks at subspace `mm`, centroid `k`, column `d`. -/
theorem refGcb_apply (H : FVec Ideal S50x40x256 .f32) (cb : FVec Ideal S40x256x8 .f32) (x : FVec Ideal S50x320 .bf16) (mm : Fin 40) (k : Fin 256) (d : Fin 8) (p : Fin 320)
    (hp : p.val = 8 * mm.val + d.val) :
    refGcb H cb x (ValueIdx.ix3 mm k d)
      = Ideal.ofBits .f32 0x40000000#32 * ((∑ b : Fin 50, H (ValueIdx.ix3 b mm k)) * cb (ValueIdx.ix3 mm k d)
        - ∑ b : Fin 50, H (ValueIdx.ix3 b mm k) * x (ValueIdx.ix2 b p)) := by
  unfold refGcb
  pointwise
  refine congrArg (Ideal.ofBits .f32 0x40000000#32 * ·) (congrArg₂ (· - ·) rfl (Finset.sum_congr rfl fun b _ =>
    congrArg₂ (· * ·) rfl (congrArg x (funext fun a => Fin.ext ?_))))
  fin_cases a
  · rfl
  · show mm.val * 8 + d.val = p.val; omega

end Cert.Proof.ReferenceIdeal

end
-- ==== Proof.Algebraic.lean ====
/-
  THE ALGEBRAIC CLAIM: over the extended reals, from the same arguments, the kernel and the reference leave the same three results.
-/
module

public import proofs.«01_k».proof.Defs
public import proofs.«01_k».proof.Proof.KernelIdeal.HostValue
public import proofs.«01_k».proof.Proof.KernelIdeal.FinishValue
public import proofs.«01_k».proof.Proof.RefValue

@[expose] public section

set_option maxRecDepth 16384

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include h2 h3 in
/-- The reference's histogram at an entry: the kernel's count. -/
theorem refH_count (b : Fin 50) (mm : Fin 40) (k : Fin 256) :
    ReferenceIdeal.refH m' c (ValueIdx.ix3 b mm k) = KernelIdeal.count (KernelIdeal.codesA m c) (KernelIdeal.gA m c) b mm k.val := by
  unfold ReferenceIdeal.refH
  rw [h2, h3]
  exact ReferenceIdeal.refHist_apply _ _ b mm k

include h2 h3 in
/-- The histograms agree. -/
theorem hist_eq : ReferenceIdeal.refH m' c = KernelIdeal.final m c Cert.KernelIdeal.main_v7 := by
  rw [KernelIdeal.final_v7]
  funext y
  have ey : y = ValueIdx.ix3 (y 0 : Fin 50) (y 1 : Fin 40) (y 2 : Fin 256) := by funext a; fin_cases a <;> rfl
  rw [ey]
  exact (refH_count m m' c h2 h3 _ _ _).trans (KernelIdeal.hist_apply m c _ _ _).symm

include h0 h1 h2 h3 in
/-- The gradients of the points agree. -/
theorem gx_eq : Cert.ReferenceIdeal.Value.res_main_v46 (F := Ideal) m' c = KernelIdeal.final m c Cert.KernelIdeal.main_v13 := by
  rw [ReferenceIdeal.res_v46, h0, h1]
  funext y
  let p : Fin 320 := y 1
  let mm : Fin 40 := ⟨p.val / 8, by omega⟩
  let d : Fin 8 := ⟨p.val % 8, by omega⟩
  have ey : y = ValueIdx.ix2 (y 0 : Fin 50) (KernelIdeal.col mm d) := by
    funext a
    fin_cases a
    · rfl
    · exact Fin.ext (show p.val = 8 * (p.val / 8) + p.val % 8 by omega)
  rw [ey]
  refine (ReferenceIdeal.refGx_apply _ _ _ (y 0) mm d _ rfl).trans (Eq.trans ?_ (KernelIdeal.final_v13_apply m c (y 0) mm d).symm)
  rw [Finset.sum_congr rfl fun k _ => refH_count m m' c h2 h3 (y 0) mm k, Finset.sum_congr rfl fun k _ => congrArg (· * _) (refH_count m m' c h2 h3 (y 0) mm k)]
  exact (KernelIdeal.gx_apply (KernelIdeal.W1 m) c (fun b k => KernelIdeal.count (KernelIdeal.codesA m c) (KernelIdeal.gA m c) b mm k.val)
    (fun k d => m ((c.tc : Thread Cert.KernelIdeal.nD Cert.KernelIdeal.τ).loc Cert.KernelIdeal.main_arg1) (ValueIdx.ix3 mm k d))
    (fun b d => m ((c.tc : Thread Cert.KernelIdeal.nD Cert.KernelIdeal.τ).loc Cert.KernelIdeal.main_arg0) (ValueIdx.ix2 b (KernelIdeal.col mm d))) mm
    (fun b k => KernelIdeal.W1_v8_apply m c b mm k) (fun k d => congrFun (KernelIdeal.W1_arg1 m c) _) (fun b d => KernelIdeal.W1_v10_apply m c b mm d) (y 0) d).symm

include h0 h1 h2 h3 in
/-- The gradients of the codebooks agree. -/
theorem gcb_eq : Cert.ReferenceIdeal.Value.res_main_v53 (F := Ideal) m' c = KernelIdeal.final m c Cert.KernelIdeal.main_v11_1 := by
  rw [ReferenceIdeal.res_v53, h0, h1, KernelIdeal.final_v11_1]
  funext y
  have ey : y = ValueIdx.ix3 (y 0 : Fin 40) (y 1 : Fin 256) (y 2 : Fin 8) := by funext a; fin_cases a <;> rfl
  rw [ey]
  refine (ReferenceIdeal.refGcb_apply _ _ _ (y 0) (y 1) (y 2) (KernelIdeal.col (y 0) (y 2)) rfl).trans ?_
  rw [Finset.sum_congr rfl fun b _ => refH_count m m' c h2 h3 b (y 0) (y 1), Finset.sum_congr rfl fun b _ => congrArg (· * _) (refH_count m m' c h2 h3 b (y 0) (y 1))]
  exact (KernelIdeal.gcb_apply (KernelIdeal.W1 m) c (fun b k => KernelIdeal.count (KernelIdeal.codesA m c) (KernelIdeal.gA m c) b (y 0) k.val)
    (fun k d => m ((c.tc : Thread Cert.KernelIdeal.nD Cert.KernelIdeal.τ).loc Cert.KernelIdeal.main_arg1) (ValueIdx.ix3 (y 0 : Fin 40) k d))
    (fun b d => m ((c.tc : Thread Cert.KernelIdeal.nD Cert.KernelIdeal.τ).loc Cert.KernelIdeal.main_arg0) (ValueIdx.ix2 b (KernelIdeal.col (y 0) d))) (y 0)
    (fun b k => KernelIdeal.W1_v8_apply m c b (y 0) k) (fun k d => congrFun (KernelIdeal.W1_arg1 m c) _) (fun b d => KernelIdeal.W1_v10_apply m c b (y 0) d) (y 1) (y 2)).symm

/-- From the same arguments, every run of the kernel and every run of the reference end with the same three results and with the arguments as launched. -/
theorem algebraic : Cert.algebraic_KernelIdeal_ReferenceIdeal := by
  intro m g m' g' _ hm
  refine ⟨fun c => KernelIdeal.final m c Cert.KernelIdeal.main_v13, fun c => KernelIdeal.final m c Cert.KernelIdeal.main_v11_1, fun c => KernelIdeal.final m c Cert.KernelIdeal.main_v7, ?_, ?_⟩
  · refine (θ_run _ _ _).mono (fun r h c => ?_) (KernelIdeal.run_main m g)
    obtain ⟨hv, _⟩ := h
    exact ⟨hv c _ (KernelIdeal.mem_uc _ rfl), hv c _ (KernelIdeal.mem_uc _ rfl), hv c _ (KernelIdeal.mem_uc _ rfl),
      (hv c _ (KernelIdeal.mem_uc Cert.KernelIdeal.main_arg0 rfl)).trans (Cert.KernelIdeal.Gen.V4_main_arg0 m (KernelIdeal.outs m) c),
      (hv c _ (KernelIdeal.mem_uc Cert.KernelIdeal.main_arg1 rfl)).trans (Cert.KernelIdeal.Gen.V4_main_arg1 m (KernelIdeal.outs m) c),
      (hv c _ (KernelIdeal.mem_uc Cert.KernelIdeal.main_arg2 rfl)).trans (Cert.KernelIdeal.Gen.V4_main_arg2 m (KernelIdeal.outs m) c),
      (hv c _ (KernelIdeal.mem_uc Cert.KernelIdeal.main_arg3 rfl)).trans (Cert.KernelIdeal.Gen.V4_main_arg3 m (KernelIdeal.outs m) c)⟩
  · refine (θ_run _ _ _).mono (fun r h c => ?_) (Cert.ReferenceIdeal.Value.run (F := Ideal) m' g')
    obtain ⟨a0, a1, a2, a3⟩ := hm c
    obtain ⟨r0, r1, r2, rest⟩ := h c
    exact ⟨r0.trans (gx_eq m m' c a0 a1 a2 a3), r1.trans (gcb_eq m m' c a0 a1 a2 a3), r2.trans (hist_eq m m' c a2 a3), rest⟩

end Cert.Proof

end
-- ==== Proof.lean ====
/-
  THE CLAIM: the frames of the three programs, that the idealized kernel is the kernel's own text, and that its three results are the reference's over the extended reals.
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    quiescent_Kernel, quiescent_KernelIdeal, quiescent_ReferenceIdeal, trivial, algebraic⟩

end Cert.Proof

end
